-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_is_finite [hPre_x_is_finite : Cert.Pre_x_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_is_finite [hPre_x_is_finite : Cert.Pre_x_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondIdeal_s_second_is_not_negative [hPre_s_second_is_not_negative : Cert.Pre_s_second_is_not_negative.Facts] (m : (ℓ : Loc Cert.SecondIdeal.nD Cert.SecondIdeal.τ Cert.SecondIdeal.sig) → Buf (Elt Ideal) ℓ) : Prop :=
  ∀ c : Dev Cert.SecondIdeal.nD,
    (Cert.Pre_s_second_is_not_negative.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7))) = (fun _ => 1#1)

def Pre_SecondReferenceIdeal (m : (ℓ : Loc Cert.SecondReferenceIdeal.nD Cert.SecondReferenceIdeal.τ Cert.SecondReferenceIdeal.sig) → Buf (Elt Ideal) ℓ) : Prop :=
  True

def Pre_SecondReferenceIdeal_s_second_is_not_negative [hPre_s_second_is_not_negative : Cert.Pre_s_second_is_not_negative.Facts] (m : (ℓ : Loc Cert.SecondReferenceIdeal.nD Cert.SecondReferenceIdeal.τ Cert.SecondReferenceIdeal.sig) → Buf (Elt Ideal) ℓ) : Prop :=
  ∀ c : Dev Cert.SecondReferenceIdeal.nD,
    (Cert.Pre_s_second_is_not_negative.fn (F := Ideal) (m ((c.tc : Thread Cert.SecondReferenceIdeal.nD Cert.SecondReferenceIdeal.τ).loc Cert.SecondReferenceIdeal.main_arg0)) (m ((c.tc : Thread Cert.SecondReferenceIdeal.nD Cert.SecondReferenceIdeal.τ).loc Cert.SecondReferenceIdeal.main_arg1)) (m ((c.tc : Thread Cert.SecondReferenceIdeal.nD Cert.SecondReferenceIdeal.τ).loc Cert.SecondReferenceIdeal.main_arg2)) (m ((c.tc : Thread Cert.SecondReferenceIdeal.nD Cert.SecondReferenceIdeal.τ).loc Cert.SecondReferenceIdeal.main_arg3)) (m ((c.tc : Thread Cert.SecondReferenceIdeal.nD Cert.SecondReferenceIdeal.τ).loc Cert.SecondReferenceIdeal.main_arg4)) (m ((c.tc : Thread Cert.SecondReferenceIdeal.nD Cert.SecondReferenceIdeal.τ).loc Cert.SecondReferenceIdeal.main_arg5)) (m ((c.tc : Thread Cert.SecondReferenceIdeal.nD Cert.SecondReferenceIdeal.τ).loc Cert.SecondReferenceIdeal.main_arg6)) (m ((c.tc : Thread Cert.SecondReferenceIdeal.nD Cert.SecondReferenceIdeal.τ).loc Cert.SecondReferenceIdeal.main_arg7))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseIdeal_h_is_finite [hPre_h_is_finite : Cert.Pre_h_is_finite.Facts] (m : (ℓ : Loc Cert.QuantiseIdeal.nD Cert.QuantiseIdeal.τ Cert.QuantiseIdeal.sig) → Buf (Elt Ideal) ℓ) : Prop :=
  ∀ c : Dev Cert.QuantiseIdeal.nD,
    (Cert.Pre_h_is_finite.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))) = (fun _ => 1#1)

def Pre_QuantiseReferenceIdeal (m : (ℓ : Loc Cert.QuantiseReferenceIdeal.nD Cert.QuantiseReferenceIdeal.τ Cert.QuantiseReferenceIdeal.sig) → Buf (Elt Ideal) ℓ) : Prop :=
  True

def Pre_QuantiseReferenceIdeal_h_is_finite [hPre_h_is_finite : Cert.Pre_h_is_finite.Facts] (m : (ℓ : Loc Cert.QuantiseReferenceIdeal.nD Cert.QuantiseReferenceIdeal.τ Cert.QuantiseReferenceIdeal.sig) → Buf (Elt Ideal) ℓ) : Prop :=
  ∀ c : Dev Cert.QuantiseReferenceIdeal.nD,
    (Cert.Pre_h_is_finite.fn (F := Ideal) (m ((c.tc : Thread Cert.QuantiseReferenceIdeal.nD Cert.QuantiseReferenceIdeal.τ).loc Cert.QuantiseReferenceIdeal.main_arg0)) (m ((c.tc : Thread Cert.QuantiseReferenceIdeal.nD Cert.QuantiseReferenceIdeal.τ).loc Cert.QuantiseReferenceIdeal.main_arg1)) (m ((c.tc : Thread Cert.QuantiseReferenceIdeal.nD Cert.QuantiseReferenceIdeal.τ).loc Cert.QuantiseReferenceIdeal.main_arg2)) (m ((c.tc : Thread Cert.QuantiseReferenceIdeal.nD Cert.QuantiseReferenceIdeal.τ).loc Cert.QuantiseReferenceIdeal.main_arg3))) = (fun _ => 1#1)

def Pre_Edges (m : (ℓ : Loc Cert.Edges.nD Cert.Edges.τ Cert.Edges.sig) → Buf (Elt Bits) ℓ) : Prop :=
  True

def Pre_EdgesIdeal (m : (ℓ : Loc Cert.EdgesIdeal.nD Cert.EdgesIdeal.τ Cert.EdgesIdeal.sig) → Buf (Elt Ideal) ℓ) : Prop :=
  True

def Pre_EdgesIdeal_sums_and_scale [hPre_sums_and_scale : Cert.Pre_sums_and_scale.Facts] (m : (ℓ : Loc Cert.EdgesIdeal.nD Cert.EdgesIdeal.τ Cert.EdgesIdeal.sig) → Buf (Elt Ideal) ℓ) : Prop :=
  ∀ c : Dev Cert.EdgesIdeal.nD,
    (Cert.Pre_sums_and_scale.fn (F := Ideal) (m ((c.tc : Thread Cert.EdgesIdeal.nD Cert.EdgesIdeal.τ).loc Cert.EdgesIdeal.main_arg0)) (m ((c.tc : Thread Cert.EdgesIdeal.nD Cert.EdgesIdeal.τ).loc Cert.EdgesIdeal.main_arg1)) (m ((c.tc : Thread Cert.EdgesIdeal.nD Cert.EdgesIdeal.τ).loc Cert.EdgesIdeal.main_arg2)) (m ((c.tc : Thread Cert.EdgesIdeal.nD Cert.EdgesIdeal.τ).loc Cert.EdgesIdeal.main_arg3)) (m ((c.tc : Thread Cert.EdgesIdeal.nD Cert.EdgesIdeal.τ).loc Cert.EdgesIdeal.main_arg4)) (m ((c.tc : Thread Cert.EdgesIdeal.nD Cert.EdgesIdeal.τ).loc Cert.EdgesIdeal.main_arg5)) (m ((c.tc : Thread Cert.EdgesIdeal.nD Cert.EdgesIdeal.τ).loc Cert.EdgesIdeal.main_arg6))).1 = (fun _ => 1#1)
    ∧ (Cert.Pre_sums_and_scale.fn (F := Ideal) (m ((c.tc : Thread Cert.EdgesIdeal.nD Cert.EdgesIdeal.τ).loc Cert.EdgesIdeal.main_arg0)) (m ((c.tc : Thread Cert.EdgesIdeal.nD Cert.EdgesIdeal.τ).loc Cert.EdgesIdeal.main_arg1)) (m ((c.tc : Thread Cert.EdgesIdeal.nD Cert.EdgesIdeal.τ).loc Cert.EdgesIdeal.main_arg2)) (m ((c.tc : Thread Cert.EdgesIdeal.nD Cert.EdgesIdeal.τ).loc Cert.EdgesIdeal.main_arg3)) (m ((c.tc : Thread Cert.EdgesIdeal.nD Cert.EdgesIdeal.τ).loc Cert.EdgesIdeal.main_arg4)) (m ((c.tc : Thread Cert.EdgesIdeal.nD Cert.EdgesIdeal.τ).loc Cert.EdgesIdeal.main_arg5)) (m ((c.tc : Thread Cert.EdgesIdeal.nD Cert.EdgesIdeal.τ).loc Cert.EdgesIdeal.main_arg6))).2 = (fun _ => 1#1)

def Pre_EdgesReferenceIdeal (m : (ℓ : Loc Cert.EdgesReferenceIdeal.nD Cert.EdgesReferenceIdeal.τ Cert.EdgesReferenceIdeal.sig) → Buf (Elt Ideal) ℓ) : Prop :=
  True

def Pre_EdgesReferenceIdeal_sums_and_scale [hPre_sums_and_scale : Cert.Pre_sums_and_scale.Facts] (m : (ℓ : Loc Cert.EdgesReferenceIdeal.nD Cert.EdgesReferenceIdeal.τ Cert.EdgesReferenceIdeal.sig) → Buf (Elt Ideal) ℓ) : Prop :=
  ∀ c : Dev Cert.EdgesReferenceIdeal.nD,
    (Cert.Pre_sums_and_scale.fn (F := Ideal) (m ((c.tc : Thread Cert.EdgesReferenceIdeal.nD Cert.EdgesReferenceIdeal.τ).loc Cert.EdgesReferenceIdeal.main_arg0)) (m ((c.tc : Thread Cert.EdgesReferenceIdeal.nD Cert.EdgesReferenceIdeal.τ).loc Cert.EdgesReferenceIdeal.main_arg1)) (m ((c.tc : Thread Cert.EdgesReferenceIdeal.nD Cert.EdgesReferenceIdeal.τ).loc Cert.EdgesReferenceIdeal.main_arg2)) (m ((c.tc : Thread Cert.EdgesReferenceIdeal.nD Cert.EdgesReferenceIdeal.τ).loc Cert.EdgesReferenceIdeal.main_arg3)) (m ((c.tc : Thread Cert.EdgesReferenceIdeal.nD Cert.EdgesReferenceIdeal.τ).loc Cert.EdgesReferenceIdeal.main_arg4)) (m ((c.tc : Thread Cert.EdgesReferenceIdeal.nD Cert.EdgesReferenceIdeal.τ).loc Cert.EdgesReferenceIdeal.main_arg5)) (m ((c.tc : Thread Cert.EdgesReferenceIdeal.nD Cert.EdgesReferenceIdeal.τ).loc Cert.EdgesReferenceIdeal.main_arg6))).1 = (fun _ => 1#1)
    ∧ (Cert.Pre_sums_and_scale.fn (F := Ideal) (m ((c.tc : Thread Cert.EdgesReferenceIdeal.nD Cert.EdgesReferenceIdeal.τ).loc Cert.EdgesReferenceIdeal.main_arg0)) (m ((c.tc : Thread Cert.EdgesReferenceIdeal.nD Cert.EdgesReferenceIdeal.τ).loc Cert.EdgesReferenceIdeal.main_arg1)) (m ((c.tc : Thread Cert.EdgesReferenceIdeal.nD Cert.EdgesReferenceIdeal.τ).loc Cert.EdgesReferenceIdeal.main_arg2)) (m ((c.tc : Thread Cert.EdgesReferenceIdeal.nD Cert.EdgesReferenceIdeal.τ).loc Cert.EdgesReferenceIdeal.main_arg3)) (m ((c.tc : Thread Cert.EdgesReferenceIdeal.nD Cert.EdgesReferenceIdeal.τ).loc Cert.EdgesReferenceIdeal.main_arg4)) (m ((c.tc : Thread Cert.EdgesReferenceIdeal.nD Cert.EdgesReferenceIdeal.τ).loc Cert.EdgesReferenceIdeal.main_arg5)) (m ((c.tc : Thread Cert.EdgesReferenceIdeal.nD Cert.EdgesReferenceIdeal.τ).loc Cert.EdgesReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_is_finite [hKernelIdeal : Cert.KernelIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_is_finite [hReferenceIdeal : Cert.ReferenceIdeal.Facts] [hPre_x_is_finite : Cert.Pre_x_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ r.2.sem = fun _ => 0)

def quiescent_SecondIdeal_pre_s_second_is_not_negative [hSecondIdeal : Cert.SecondIdeal.Facts] [hPre_s_second_is_not_negative : Cert.Pre_s_second_is_not_negative.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal_s_second_is_not_negative m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5)
      ∧ r.2.mem ((c.tc : Thread Cert.SecondReferenceIdeal.nD Cert.SecondReferenceIdeal.τ).loc Cert.SecondReferenceIdeal.main_arg6) = m ((c.tc : Thread Cert.SecondReferenceIdeal.nD Cert.SecondReferenceIdeal.τ).loc Cert.SecondReferenceIdeal.main_arg6)
      ∧ r.2.mem ((c.tc : Thread Cert.SecondReferenceIdeal.nD Cert.SecondReferenceIdeal.τ).loc Cert.SecondReferenceIdeal.main_arg7) = m ((c.tc : Thread Cert.SecondReferenceIdeal.nD Cert.SecondReferenceIdeal.τ).loc Cert.SecondReferenceIdeal.main_arg7))
      ∧ r.2.sem = fun _ => 0)

def quiescent_SecondReferenceIdeal_pre_s_second_is_not_negative [hSecondReferenceIdeal : Cert.SecondReferenceIdeal.Facts] [hPre_s_second_is_not_negative : Cert.Pre_s_second_is_not_negative.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal_s_second_is_not_negative m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5)
      ∧ r.2.mem ((c.tc : Thread Cert.SecondReferenceIdeal.nD Cert.SecondReferenceIdeal.τ).loc Cert.SecondReferenceIdeal.main_arg6) = m ((c.tc : Thread Cert.SecondReferenceIdeal.nD Cert.SecondReferenceIdeal.τ).loc Cert.SecondReferenceIdeal.main_arg6)
      ∧ r.2.mem ((c.tc : Thread Cert.SecondReferenceIdeal.nD Cert.SecondReferenceIdeal.τ).loc Cert.SecondReferenceIdeal.main_arg7) = m ((c.tc : Thread Cert.SecondReferenceIdeal.nD Cert.SecondReferenceIdeal.τ).loc Cert.SecondReferenceIdeal.main_arg7))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2)
      ∧ r.2.mem ((c.tc : Thread Cert.Quantise.nD Cert.Quantise.τ).loc Cert.Quantise.main_arg3) = m ((c.tc : Thread Cert.Quantise.nD Cert.Quantise.τ).loc Cert.Quantise.main_arg3))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
      ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ r.2.sem = fun _ => 0)

def quiescent_QuantiseIdeal_pre_h_is_finite [hQuantiseIdeal : Cert.QuantiseIdeal.Facts] [hPre_h_is_finite : Cert.Pre_h_is_finite.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal_h_is_finite m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
      ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2)
      ∧ r.2.mem ((c.tc : Thread Cert.QuantiseReferenceIdeal.nD Cert.QuantiseReferenceIdeal.τ).loc Cert.QuantiseReferenceIdeal.main_arg3) = m ((c.tc : Thread Cert.QuantiseReferenceIdeal.nD Cert.QuantiseReferenceIdeal.τ).loc Cert.QuantiseReferenceIdeal.main_arg3))
      ∧ r.2.sem = fun _ => 0)

def quiescent_QuantiseReferenceIdeal_pre_h_is_finite [hQuantiseReferenceIdeal : Cert.QuantiseReferenceIdeal.Facts] [hPre_h_is_finite : Cert.Pre_h_is_finite.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal_h_is_finite m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2)
      ∧ r.2.mem ((c.tc : Thread Cert.QuantiseReferenceIdeal.nD Cert.QuantiseReferenceIdeal.τ).loc Cert.QuantiseReferenceIdeal.main_arg3) = m ((c.tc : Thread Cert.QuantiseReferenceIdeal.nD Cert.QuantiseReferenceIdeal.τ).loc Cert.QuantiseReferenceIdeal.main_arg3))
      ∧ r.2.sem = fun _ => 0)

def quiescent_Edges [hEdges : Cert.Edges.Facts] : Prop :=
  ∀ (m : (ℓ : Loc Cert.Edges.nD Cert.Edges.τ Cert.Edges.sig) → Buf (Elt Bits) ℓ) (g : Dev Cert.Edges.nD → PrngReg), Pre_Edges m →
    θ_run (Cert.Edges.defs (F := Bits)) (onTc (τ := Cert.Edges.τ) (Cert.Edges.main (F := Bits))) ⟨m, fun _ => 0, g⟩ (fun r => (∀ c : Dev Cert.Edges.nD,
      r.2.mem ((c.tc : Thread Cert.Edges.nD Cert.Edges.τ).loc Cert.Edges.main_arg0) = m ((c.tc : Thread Cert.Edges.nD Cert.Edges.τ).loc Cert.Edges.main_arg0)
      ∧ r.2.mem ((c.tc : Thread Cert.Edges.nD Cert.Edges.τ).loc Cert.Edges.main_arg1) = m ((c.tc : Thread Cert.Edges.nD Cert.Edges.τ).loc Cert.Edges.main_arg1)
      ∧ r.2.mem ((c.tc : Thread Cert.Edges.nD Cert.Edges.τ).loc Cert.Edges.main_arg2) = m ((c.tc : Thread Cert.Edges.nD Cert.Edges.τ).loc Cert.Edges.main_arg2)
      ∧ r.2.mem ((c.tc : Thread Cert.Edges.nD Cert.Edges.τ).loc Cert.Edges.main_arg3) = m ((c.tc : Thread Cert.Edges.nD Cert.Edges.τ).loc Cert.Edges.main_arg3)
      ∧ r.2.mem ((c.tc : Thread Cert.Edges.nD Cert.Edges.τ).loc Cert.Edges.main_arg4) = m ((c.tc : Thread Cert.Edges.nD Cert.Edges.τ).loc Cert.Edges.main_arg4)
      ∧ r.2.mem ((c.tc : Thread Cert.Edges.nD Cert.Edges.τ).loc Cert.Edges.main_arg5) = m ((c.tc : Thread Cert.Edges.nD Cert.Edges.τ).loc Cert.Edges.main_arg5)
      ∧ r.2.mem ((c.tc : Thread Cert.Edges.nD Cert.Edges.τ).loc Cert.Edges.main_arg6) = m ((c.tc : Thread Cert.Edges.nD Cert.Edges.τ).loc Cert.Edges.main_arg6))
      ∧ r.2.sem = fun _ => 0)

def quiescent_EdgesIdeal [hEdgesIdeal : Cert.EdgesIdeal.Facts] : Prop :=
  ∀ (m : (ℓ : Loc Cert.EdgesIdeal.nD Cert.EdgesIdeal.τ Cert.EdgesIdeal.sig) → Buf (Elt Ideal) ℓ) (g : Dev Cert.EdgesIdeal.nD → PrngReg), Pre_EdgesIdeal m →
    θ_run (Cert.EdgesIdeal.defs (F := Ideal)) (onTc (τ := Cert.EdgesIdeal.τ) (Cert.EdgesIdeal.main (F := Ideal))) ⟨m, fun _ => 0, g⟩ (fun r => (∀ c : Dev Cert.EdgesIdeal.nD,
      r.2.mem ((c.tc : Thread Cert.EdgesIdeal.nD Cert.EdgesIdeal.τ).loc Cert.EdgesIdeal.main_arg0) = m ((c.tc : Thread Cert.EdgesIdeal.nD Cert.EdgesIdeal.τ).loc Cert.EdgesIdeal.main_arg0)
      ∧ r.2.mem ((c.tc : Thread Cert.EdgesIdeal.nD Cert.EdgesIdeal.τ).loc Cert.EdgesIdeal.main_arg1) = m ((c.tc : Thread Cert.EdgesIdeal.nD Cert.EdgesIdeal.τ).loc Cert.EdgesIdeal.main_arg1)
      ∧ r.2.mem ((c.tc : Thread Cert.EdgesIdeal.nD Cert.EdgesIdeal.τ).loc Cert.EdgesIdeal.main_arg2) = m ((c.tc : Thread Cert.EdgesIdeal.nD Cert.EdgesIdeal.τ).loc Cert.EdgesIdeal.main_arg2)
      ∧ r.2.mem ((c.tc : Thread Cert.EdgesIdeal.nD Cert.EdgesIdeal.τ).loc Cert.EdgesIdeal.main_arg3) = m ((c.tc : Thread Cert.EdgesIdeal.nD Cert.EdgesIdeal.τ).loc Cert.EdgesIdeal.main_arg3)
      ∧ r.2.mem ((c.tc : Thread Cert.EdgesIdeal.nD Cert.EdgesIdeal.τ).loc Cert.EdgesIdeal.main_arg4) = m ((c.tc : Thread Cert.EdgesIdeal.nD Cert.EdgesIdeal.τ).loc Cert.EdgesIdeal.main_arg4)
      ∧ r.2.mem ((c.tc : Thread Cert.EdgesIdeal.nD Cert.EdgesIdeal.τ).loc Cert.EdgesIdeal.main_arg5) = m ((c.tc : Thread Cert.EdgesIdeal.nD Cert.EdgesIdeal.τ).loc Cert.EdgesIdeal.main_arg5)
      ∧ r.2.mem ((c.tc : Thread Cert.EdgesIdeal.nD Cert.EdgesIdeal.τ).loc Cert.EdgesIdeal.main_arg6) = m ((c.tc : Thread Cert.EdgesIdeal.nD Cert.EdgesIdeal.τ).loc Cert.EdgesIdeal.main_arg6))
      ∧ r.2.sem = fun _ => 0)

def quiescent_EdgesIdeal_pre_sums_and_scale [hEdgesIdeal : Cert.EdgesIdeal.Facts] [hPre_sums_and_scale : Cert.Pre_sums_and_scale.Facts] : Prop :=
  ∀ (m : (ℓ : Loc Cert.EdgesIdeal.nD Cert.EdgesIdeal.τ Cert.EdgesIdeal.sig) → Buf (Elt Ideal) ℓ) (g : Dev Cert.EdgesIdeal.nD → PrngReg), Pre_EdgesIdeal_sums_and_scale m →
    θ_run (Cert.EdgesIdeal.defs (F := Ideal)) (onTc (τ := Cert.EdgesIdeal.τ) (Cert.EdgesIdeal.main (F := Ideal))) ⟨m, fun _ => 0, g⟩ (fun r => (∀ c : Dev Cert.EdgesIdeal.nD,
      r.2.mem ((c.tc : Thread Cert.EdgesIdeal.nD Cert.EdgesIdeal.τ).loc Cert.EdgesIdeal.main_arg0) = m ((c.tc : Thread Cert.EdgesIdeal.nD Cert.EdgesIdeal.τ).loc Cert.EdgesIdeal.main_arg0)
      ∧ r.2.mem ((c.tc : Thread Cert.EdgesIdeal.nD Cert.EdgesIdeal.τ).loc Cert.EdgesIdeal.main_arg1) = m ((c.tc : Thread Cert.EdgesIdeal.nD Cert.EdgesIdeal.τ).loc Cert.EdgesIdeal.main_arg1)
      ∧ r.2.mem ((c.tc : Thread Cert.EdgesIdeal.nD Cert.EdgesIdeal.τ).loc Cert.EdgesIdeal.main_arg2) = m ((c.tc : Thread Cert.EdgesIdeal.nD Cert.EdgesIdeal.τ).loc Cert.EdgesIdeal.main_arg2)
      ∧ r.2.mem ((c.tc : Thread Cert.EdgesIdeal.nD Cert.EdgesIdeal.τ).loc Cert.EdgesIdeal.main_arg3) = m ((c.tc : Thread Cert.EdgesIdeal.nD Cert.EdgesIdeal.τ).loc Cert.EdgesIdeal.main_arg3)
      ∧ r.2.mem ((c.tc : Thread Cert.EdgesIdeal.nD Cert.EdgesIdeal.τ).loc Cert.EdgesIdeal.main_arg4) = m ((c.tc : Thread Cert.EdgesIdeal.nD Cert.EdgesIdeal.τ).loc Cert.EdgesIdeal.main_arg4)
      ∧ r.2.mem ((c.tc : Thread Cert.EdgesIdeal.nD Cert.EdgesIdeal.τ).loc Cert.EdgesIdeal.main_arg5) = m ((c.tc : Thread Cert.EdgesIdeal.nD Cert.EdgesIdeal.τ).loc Cert.EdgesIdeal.main_arg5)
      ∧ r.2.mem ((c.tc : Thread Cert.EdgesIdeal.nD Cert.EdgesIdeal.τ).loc Cert.EdgesIdeal.main_arg6) = m ((c.tc : Thread Cert.EdgesIdeal.nD Cert.EdgesIdeal.τ).loc Cert.EdgesIdeal.main_arg6))
      ∧ r.2.sem = fun _ => 0)

def quiescent_EdgesReferenceIdeal [hEdgesReferenceIdeal : Cert.EdgesReferenceIdeal.Facts] : Prop :=
  ∀ (m : (ℓ : Loc Cert.EdgesReferenceIdeal.nD Cert.EdgesReferenceIdeal.τ Cert.EdgesReferenceIdeal.sig) → Buf (Elt Ideal) ℓ) (g : Dev Cert.EdgesReferenceIdeal.nD → PrngReg), Pre_EdgesReferenceIdeal m →
    θ_run (Cert.EdgesReferenceIdeal.defs (F := Ideal)) (onTc (τ := Cert.EdgesReferenceIdeal.τ) (Cert.EdgesReferenceIdeal.main (F := Ideal))) ⟨m, fun _ => 0, g⟩ (fun r => (∀ c : Dev Cert.EdgesReferenceIdeal.nD,
      r.2.mem ((c.tc : Thread Cert.EdgesReferenceIdeal.nD Cert.EdgesReferenceIdeal.τ).loc Cert.EdgesReferenceIdeal.main_arg0) = m ((c.tc : Thread Cert.EdgesReferenceIdeal.nD Cert.EdgesReferenceIdeal.τ).loc Cert.EdgesReferenceIdeal.main_arg0)
      ∧ r.2.mem ((c.tc : Thread Cert.EdgesReferenceIdeal.nD Cert.EdgesReferenceIdeal.τ).loc Cert.EdgesReferenceIdeal.main_arg1) = m ((c.tc : Thread Cert.EdgesReferenceIdeal.nD Cert.EdgesReferenceIdeal.τ).loc Cert.EdgesReferenceIdeal.main_arg1)
      ∧ r.2.mem ((c.tc : Thread Cert.EdgesReferenceIdeal.nD Cert.EdgesReferenceIdeal.τ).loc Cert.EdgesReferenceIdeal.main_arg2) = m ((c.tc : Thread Cert.EdgesReferenceIdeal.nD Cert.EdgesReferenceIdeal.τ).loc Cert.EdgesReferenceIdeal.main_arg2)
      ∧ r.2.mem ((c.tc : Thread Cert.EdgesReferenceIdeal.nD Cert.EdgesReferenceIdeal.τ).loc Cert.EdgesReferenceIdeal.main_arg3) = m ((c.tc : Thread Cert.EdgesReferenceIdeal.nD Cert.EdgesReferenceIdeal.τ).loc Cert.EdgesReferenceIdeal.main_arg3)
      ∧ r.2.mem ((c.tc : Thread Cert.EdgesReferenceIdeal.nD Cert.EdgesReferenceIdeal.τ).loc Cert.EdgesReferenceIdeal.main_arg4) = m ((c.tc : Thread Cert.EdgesReferenceIdeal.nD Cert.EdgesReferenceIdeal.τ).loc Cert.EdgesReferenceIdeal.main_arg4)
      ∧ r.2.mem ((c.tc : Thread Cert.EdgesReferenceIdeal.nD Cert.EdgesReferenceIdeal.τ).loc Cert.EdgesReferenceIdeal.main_arg5) = m ((c.tc : Thread Cert.EdgesReferenceIdeal.nD Cert.EdgesReferenceIdeal.τ).loc Cert.EdgesReferenceIdeal.main_arg5)
      ∧ r.2.mem ((c.tc : Thread Cert.EdgesReferenceIdeal.nD Cert.EdgesReferenceIdeal.τ).loc Cert.EdgesReferenceIdeal.main_arg6) = m ((c.tc : Thread Cert.EdgesReferenceIdeal.nD Cert.EdgesReferenceIdeal.τ).loc Cert.EdgesReferenceIdeal.main_arg6))
      ∧ r.2.sem = fun _ => 0)

def quiescent_EdgesReferenceIdeal_pre_sums_and_scale [hEdgesReferenceIdeal : Cert.EdgesReferenceIdeal.Facts] [hPre_sums_and_scale : Cert.Pre_sums_and_scale.Facts] : Prop :=
  ∀ (m : (ℓ : Loc Cert.EdgesReferenceIdeal.nD Cert.EdgesReferenceIdeal.τ Cert.EdgesReferenceIdeal.sig) → Buf (Elt Ideal) ℓ) (g : Dev Cert.EdgesReferenceIdeal.nD → PrngReg), Pre_EdgesReferenceIdeal_sums_and_scale m →
    θ_run (Cert.EdgesReferenceIdeal.defs (F := Ideal)) (onTc (τ := Cert.EdgesReferenceIdeal.τ) (Cert.EdgesReferenceIdeal.main (F := Ideal))) ⟨m, fun _ => 0, g⟩ (fun r => (∀ c : Dev Cert.EdgesReferenceIdeal.nD,
      r.2.mem ((c.tc : Thread Cert.EdgesReferenceIdeal.nD Cert.EdgesReferenceIdeal.τ).loc Cert.EdgesReferenceIdeal.main_arg0) = m ((c.tc : Thread Cert.EdgesReferenceIdeal.nD Cert.EdgesReferenceIdeal.τ).loc Cert.EdgesReferenceIdeal.main_arg0)
      ∧ r.2.mem ((c.tc : Thread Cert.EdgesReferenceIdeal.nD Cert.EdgesReferenceIdeal.τ).loc Cert.EdgesReferenceIdeal.main_arg1) = m ((c.tc : Thread Cert.EdgesReferenceIdeal.nD Cert.EdgesReferenceIdeal.τ).loc Cert.EdgesReferenceIdeal.main_arg1)
      ∧ r.2.mem ((c.tc : Thread Cert.EdgesReferenceIdeal.nD Cert.EdgesReferenceIdeal.τ).loc Cert.EdgesReferenceIdeal.main_arg2) = m ((c.tc : Thread Cert.EdgesReferenceIdeal.nD Cert.EdgesReferenceIdeal.τ).loc Cert.EdgesReferenceIdeal.main_arg2)
      ∧ r.2.mem ((c.tc : Thread Cert.EdgesReferenceIdeal.nD Cert.EdgesReferenceIdeal.τ).loc Cert.EdgesReferenceIdeal.main_arg3) = m ((c.tc : Thread Cert.EdgesReferenceIdeal.nD Cert.EdgesReferenceIdeal.τ).loc Cert.EdgesReferenceIdeal.main_arg3)
      ∧ r.2.mem ((c.tc : Thread Cert.EdgesReferenceIdeal.nD Cert.EdgesReferenceIdeal.τ).loc Cert.EdgesReferenceIdeal.main_arg4) = m ((c.tc : Thread Cert.EdgesReferenceIdeal.nD Cert.EdgesReferenceIdeal.τ).loc Cert.EdgesReferenceIdeal.main_arg4)
      ∧ r.2.mem ((c.tc : Thread Cert.EdgesReferenceIdeal.nD Cert.EdgesReferenceIdeal.τ).loc Cert.EdgesReferenceIdeal.main_arg5) = m ((c.tc : Thread Cert.EdgesReferenceIdeal.nD Cert.EdgesReferenceIdeal.τ).loc Cert.EdgesReferenceIdeal.main_arg5)
      ∧ r.2.mem ((c.tc : Thread Cert.EdgesReferenceIdeal.nD Cert.EdgesReferenceIdeal.τ).loc Cert.EdgesReferenceIdeal.main_arg6) = m ((c.tc : Thread Cert.EdgesReferenceIdeal.nD Cert.EdgesReferenceIdeal.τ).loc Cert.EdgesReferenceIdeal.main_arg6))
      ∧ r.2.sem = fun _ => 0)

def preserves_Kernel_KernelIdeal : Prop :=
  True

def algebraic_KernelIdeal_ReferenceIdeal_pre_x_is_finite [hKernelIdeal : Cert.KernelIdeal.Facts] [hReferenceIdeal : Cert.ReferenceIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Second_SecondIdeal : Prop :=
  True

def algebraic_SecondIdeal_SecondReferenceIdeal_pre_s_second_is_not_negative [hSecondIdeal : Cert.SecondIdeal.Facts] [hSecondReferenceIdeal : Cert.SecondReferenceIdeal.Facts] [hPre_s_second_is_not_negative : Cert.Pre_s_second_is_not_negative.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal_s_second_is_not_negative m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)
      ∧ m' ((c.tc : Thread Cert.SecondReferenceIdeal.nD Cert.SecondReferenceIdeal.τ).loc Cert.SecondReferenceIdeal.main_arg4) = m ((c.tc : Thread Cert.SecondIdeal.nD Cert.SecondIdeal.τ).loc Cert.SecondIdeal.main_arg4)
      ∧ m' ((c.tc : Thread Cert.SecondReferenceIdeal.nD Cert.SecondReferenceIdeal.τ).loc Cert.SecondReferenceIdeal.main_arg5) = m ((c.tc : Thread Cert.SecondIdeal.nD Cert.SecondIdeal.τ).loc Cert.SecondIdeal.main_arg5)
      ∧ m' ((c.tc : Thread Cert.SecondReferenceIdeal.nD Cert.SecondReferenceIdeal.τ).loc Cert.SecondReferenceIdeal.main_arg6) = m ((c.tc : Thread Cert.SecondIdeal.nD Cert.SecondIdeal.τ).loc Cert.SecondIdeal.main_arg6)
      ∧ m' ((c.tc : Thread Cert.SecondReferenceIdeal.nD Cert.SecondReferenceIdeal.τ).loc Cert.SecondReferenceIdeal.main_arg7) = m ((c.tc : Thread Cert.SecondIdeal.nD Cert.SecondIdeal.τ).loc Cert.SecondIdeal.main_arg7)) →
    ∃ (v0 : (c : Dev Cert.SecondIdeal.nD) → Buf (Elt Ideal) ((c.tc : Thread Cert.SecondIdeal.nD Cert.SecondIdeal.τ).loc Cert.SecondIdeal.main_v10)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v10) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          r.2.mem ((c.tc : Thread Cert.SecondReferenceIdeal.nD Cert.SecondReferenceIdeal.τ).loc Cert.SecondReferenceIdeal.main_v0) = v0 c
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3)
          ∧ r.2.mem ((c.tc : Thread Cert.SecondReferenceIdeal.nD Cert.SecondReferenceIdeal.τ).loc Cert.SecondReferenceIdeal.main_arg4) = m' ((c.tc : Thread Cert.SecondReferenceIdeal.nD Cert.SecondReferenceIdeal.τ).loc Cert.SecondReferenceIdeal.main_arg4)
          ∧ r.2.mem ((c.tc : Thread Cert.SecondReferenceIdeal.nD Cert.SecondReferenceIdeal.τ).loc Cert.SecondReferenceIdeal.main_arg5) = m' ((c.tc : Thread Cert.SecondReferenceIdeal.nD Cert.SecondReferenceIdeal.τ).loc Cert.SecondReferenceIdeal.main_arg5)
          ∧ r.2.mem ((c.tc : Thread Cert.SecondReferenceIdeal.nD Cert.SecondReferenceIdeal.τ).loc Cert.SecondReferenceIdeal.main_arg6) = m' ((c.tc : Thread Cert.SecondReferenceIdeal.nD Cert.SecondReferenceIdeal.τ).loc Cert.SecondReferenceIdeal.main_arg6)
          ∧ r.2.mem ((c.tc : Thread Cert.SecondReferenceIdeal.nD Cert.SecondReferenceIdeal.τ).loc Cert.SecondReferenceIdeal.main_arg7) = m' ((c.tc : Thread Cert.SecondReferenceIdeal.nD Cert.SecondReferenceIdeal.τ).loc Cert.SecondReferenceIdeal.main_arg7))

def preserves_Quantise_QuantiseIdeal : Prop :=
  True

def algebraic_QuantiseIdeal_QuantiseReferenceIdeal_pre_h_is_finite [hQuantiseIdeal : Cert.QuantiseIdeal.Facts] [hQuantiseReferenceIdeal : Cert.QuantiseReferenceIdeal.Facts] [hPre_h_is_finite : Cert.Pre_h_is_finite.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal_h_is_finite m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)
      ∧ m' ((c.tc : Thread Cert.QuantiseReferenceIdeal.nD Cert.QuantiseReferenceIdeal.τ).loc Cert.QuantiseReferenceIdeal.main_arg3) = m ((c.tc : Thread Cert.QuantiseIdeal.nD Cert.QuantiseIdeal.τ).loc Cert.QuantiseIdeal.main_arg3)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
          ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v0_0) = v0 c
          ∧ r.2.mem ((c.tc : Thread Cert.QuantiseReferenceIdeal.nD Cert.QuantiseReferenceIdeal.τ).loc Cert.QuantiseReferenceIdeal.main_v0_1) = v1 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
          ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2)
          ∧ r.2.mem ((c.tc : Thread Cert.QuantiseReferenceIdeal.nD Cert.QuantiseReferenceIdeal.τ).loc Cert.QuantiseReferenceIdeal.main_arg3) = m' ((c.tc : Thread Cert.QuantiseReferenceIdeal.nD Cert.QuantiseReferenceIdeal.τ).loc Cert.QuantiseReferenceIdeal.main_arg3))

def preserves_Edges_EdgesIdeal : Prop :=
  True

def algebraic_EdgesIdeal_EdgesReferenceIdeal_pre_sums_and_scale [hEdgesIdeal : Cert.EdgesIdeal.Facts] [hEdgesReferenceIdeal : Cert.EdgesReferenceIdeal.Facts] [hPre_sums_and_scale : Cert.Pre_sums_and_scale.Facts] : Prop :=
  ∀ (m : (ℓ : Loc Cert.EdgesIdeal.nD Cert.EdgesIdeal.τ Cert.EdgesIdeal.sig) → Buf (Elt Ideal) ℓ) (g : Dev Cert.EdgesIdeal.nD → PrngReg)
    (m' : (ℓ : Loc Cert.EdgesReferenceIdeal.nD Cert.EdgesReferenceIdeal.τ Cert.EdgesReferenceIdeal.sig) → Buf (Elt Ideal) ℓ) (g' : Dev Cert.EdgesReferenceIdeal.nD → PrngReg), Pre_EdgesIdeal_sums_and_scale m →
    (∀ c : Dev Cert.EdgesIdeal.nD,
      m' ((c.tc : Thread Cert.EdgesReferenceIdeal.nD Cert.EdgesReferenceIdeal.τ).loc Cert.EdgesReferenceIdeal.main_arg0) = m ((c.tc : Thread Cert.EdgesIdeal.nD Cert.EdgesIdeal.τ).loc Cert.EdgesIdeal.main_arg0)
      ∧ m' ((c.tc : Thread Cert.EdgesReferenceIdeal.nD Cert.EdgesReferenceIdeal.τ).loc Cert.EdgesReferenceIdeal.main_arg1) = m ((c.tc : Thread Cert.EdgesIdeal.nD Cert.EdgesIdeal.τ).loc Cert.EdgesIdeal.main_arg1)
      ∧ m' ((c.tc : Thread Cert.EdgesReferenceIdeal.nD Cert.EdgesReferenceIdeal.τ).loc Cert.EdgesReferenceIdeal.main_arg2) = m ((c.tc : Thread Cert.EdgesIdeal.nD Cert.EdgesIdeal.τ).loc Cert.EdgesIdeal.main_arg2)
      ∧ m' ((c.tc : Thread Cert.EdgesReferenceIdeal.nD Cert.EdgesReferenceIdeal.τ).loc Cert.EdgesReferenceIdeal.main_arg3) = m ((c.tc : Thread Cert.EdgesIdeal.nD Cert.EdgesIdeal.τ).loc Cert.EdgesIdeal.main_arg3)
      ∧ m' ((c.tc : Thread Cert.EdgesReferenceIdeal.nD Cert.EdgesReferenceIdeal.τ).loc Cert.EdgesReferenceIdeal.main_arg4) = m ((c.tc : Thread Cert.EdgesIdeal.nD Cert.EdgesIdeal.τ).loc Cert.EdgesIdeal.main_arg4)
      ∧ m' ((c.tc : Thread Cert.EdgesReferenceIdeal.nD Cert.EdgesReferenceIdeal.τ).loc Cert.EdgesReferenceIdeal.main_arg5) = m ((c.tc : Thread Cert.EdgesIdeal.nD Cert.EdgesIdeal.τ).loc Cert.EdgesIdeal.main_arg5)
      ∧ m' ((c.tc : Thread Cert.EdgesReferenceIdeal.nD Cert.EdgesReferenceIdeal.τ).loc Cert.EdgesReferenceIdeal.main_arg6) = m ((c.tc : Thread Cert.EdgesIdeal.nD Cert.EdgesIdeal.τ).loc Cert.EdgesIdeal.main_arg6)) →
    ∃ (v0 : (c : Dev Cert.EdgesIdeal.nD) → Buf (Elt Ideal) ((c.tc : Thread Cert.EdgesIdeal.nD Cert.EdgesIdeal.τ).loc Cert.EdgesIdeal.main_v10_0)) (v1 : (c : Dev Cert.EdgesIdeal.nD) → Buf (Elt Ideal) ((c.tc : Thread Cert.EdgesIdeal.nD Cert.EdgesIdeal.τ).loc Cert.EdgesIdeal.main_v10_1)) (v2 : (c : Dev Cert.EdgesIdeal.nD) → Buf (Elt Ideal) ((c.tc : Thread Cert.EdgesIdeal.nD Cert.EdgesIdeal.τ).loc Cert.EdgesIdeal.main_v10_2)),
      θ_run (Cert.EdgesIdeal.defs (F := Ideal)) (onTc (τ := Cert.EdgesIdeal.τ) (Cert.EdgesIdeal.main (F := Ideal))) ⟨m, fun _ => 0, g⟩ (fun r => ∀ c : Dev Cert.EdgesIdeal.nD,
          r.2.mem ((c.tc : Thread Cert.EdgesIdeal.nD Cert.EdgesIdeal.τ).loc Cert.EdgesIdeal.main_v10_0) = v0 c
          ∧ r.2.mem ((c.tc : Thread Cert.EdgesIdeal.nD Cert.EdgesIdeal.τ).loc Cert.EdgesIdeal.main_v10_1) = v1 c
          ∧ r.2.mem ((c.tc : Thread Cert.EdgesIdeal.nD Cert.EdgesIdeal.τ).loc Cert.EdgesIdeal.main_v10_2) = v2 c
          ∧ r.2.mem ((c.tc : Thread Cert.EdgesIdeal.nD Cert.EdgesIdeal.τ).loc Cert.EdgesIdeal.main_arg0) = m ((c.tc : Thread Cert.EdgesIdeal.nD Cert.EdgesIdeal.τ).loc Cert.EdgesIdeal.main_arg0)
          ∧ r.2.mem ((c.tc : Thread Cert.EdgesIdeal.nD Cert.EdgesIdeal.τ).loc Cert.EdgesIdeal.main_arg1) = m ((c.tc : Thread Cert.EdgesIdeal.nD Cert.EdgesIdeal.τ).loc Cert.EdgesIdeal.main_arg1)
          ∧ r.2.mem ((c.tc : Thread Cert.EdgesIdeal.nD Cert.EdgesIdeal.τ).loc Cert.EdgesIdeal.main_arg2) = m ((c.tc : Thread Cert.EdgesIdeal.nD Cert.EdgesIdeal.τ).loc Cert.EdgesIdeal.main_arg2)
          ∧ r.2.mem ((c.tc : Thread Cert.EdgesIdeal.nD Cert.EdgesIdeal.τ).loc Cert.EdgesIdeal.main_arg3) = m ((c.tc : Thread Cert.EdgesIdeal.nD Cert.EdgesIdeal.τ).loc Cert.EdgesIdeal.main_arg3)
          ∧ r.2.mem ((c.tc : Thread Cert.EdgesIdeal.nD Cert.EdgesIdeal.τ).loc Cert.EdgesIdeal.main_arg4) = m ((c.tc : Thread Cert.EdgesIdeal.nD Cert.EdgesIdeal.τ).loc Cert.EdgesIdeal.main_arg4)
          ∧ r.2.mem ((c.tc : Thread Cert.EdgesIdeal.nD Cert.EdgesIdeal.τ).loc Cert.EdgesIdeal.main_arg5) = m ((c.tc : Thread Cert.EdgesIdeal.nD Cert.EdgesIdeal.τ).loc Cert.EdgesIdeal.main_arg5)
          ∧ r.2.mem ((c.tc : Thread Cert.EdgesIdeal.nD Cert.EdgesIdeal.τ).loc Cert.EdgesIdeal.main_arg6) = m ((c.tc : Thread Cert.EdgesIdeal.nD Cert.EdgesIdeal.τ).loc Cert.EdgesIdeal.main_arg6))
      ∧ θ_run (Cert.EdgesReferenceIdeal.defs (F := Ideal)) (onTc (τ := Cert.EdgesReferenceIdeal.τ) (Cert.EdgesReferenceIdeal.main (F := Ideal))) ⟨m', fun _ => 0, g'⟩ (fun r => ∀ c : Dev Cert.EdgesReferenceIdeal.nD,
          r.2.mem ((c.tc : Thread Cert.EdgesReferenceIdeal.nD Cert.EdgesReferenceIdeal.τ).loc Cert.EdgesReferenceIdeal.main_v0_0) = v0 c
          ∧ r.2.mem ((c.tc : Thread Cert.EdgesReferenceIdeal.nD Cert.EdgesReferenceIdeal.τ).loc Cert.EdgesReferenceIdeal.main_v0_1) = v1 c
          ∧ r.2.mem ((c.tc : Thread Cert.EdgesReferenceIdeal.nD Cert.EdgesReferenceIdeal.τ).loc Cert.EdgesReferenceIdeal.main_v0_2) = v2 c
          ∧ r.2.mem ((c.tc : Thread Cert.EdgesReferenceIdeal.nD Cert.EdgesReferenceIdeal.τ).loc Cert.EdgesReferenceIdeal.main_arg0) = m' ((c.tc : Thread Cert.EdgesReferenceIdeal.nD Cert.EdgesReferenceIdeal.τ).loc Cert.EdgesReferenceIdeal.main_arg0)
          ∧ r.2.mem ((c.tc : Thread Cert.EdgesReferenceIdeal.nD Cert.EdgesReferenceIdeal.τ).loc Cert.EdgesReferenceIdeal.main_arg1) = m' ((c.tc : Thread Cert.EdgesReferenceIdeal.nD Cert.EdgesReferenceIdeal.τ).loc Cert.EdgesReferenceIdeal.main_arg1)
          ∧ r.2.mem ((c.tc : Thread Cert.EdgesReferenceIdeal.nD Cert.EdgesReferenceIdeal.τ).loc Cert.EdgesReferenceIdeal.main_arg2) = m' ((c.tc : Thread Cert.EdgesReferenceIdeal.nD Cert.EdgesReferenceIdeal.τ).loc Cert.EdgesReferenceIdeal.main_arg2)
          ∧ r.2.mem ((c.tc : Thread Cert.EdgesReferenceIdeal.nD Cert.EdgesReferenceIdeal.τ).loc Cert.EdgesReferenceIdeal.main_arg3) = m' ((c.tc : Thread Cert.EdgesReferenceIdeal.nD Cert.EdgesReferenceIdeal.τ).loc Cert.EdgesReferenceIdeal.main_arg3)
          ∧ r.2.mem ((c.tc : Thread Cert.EdgesReferenceIdeal.nD Cert.EdgesReferenceIdeal.τ).loc Cert.EdgesReferenceIdeal.main_arg4) = m' ((c.tc : Thread Cert.EdgesReferenceIdeal.nD Cert.EdgesReferenceIdeal.τ).loc Cert.EdgesReferenceIdeal.main_arg4)
          ∧ r.2.mem ((c.tc : Thread Cert.EdgesReferenceIdeal.nD Cert.EdgesReferenceIdeal.τ).loc Cert.EdgesReferenceIdeal.main_arg5) = m' ((c.tc : Thread Cert.EdgesReferenceIdeal.nD Cert.EdgesReferenceIdeal.τ).loc Cert.EdgesReferenceIdeal.main_arg5)
          ∧ r.2.mem ((c.tc : Thread Cert.EdgesReferenceIdeal.nD Cert.EdgesReferenceIdeal.τ).loc Cert.EdgesReferenceIdeal.main_arg6) = m' ((c.tc : Thread Cert.EdgesReferenceIdeal.nD Cert.EdgesReferenceIdeal.τ).loc Cert.EdgesReferenceIdeal.main_arg6))

def Claim : Prop :=
  ∃ (hKernel : Cert.Kernel.Facts) (hKernelIdeal : Cert.KernelIdeal.Facts) (hReferenceIdeal : Cert.ReferenceIdeal.Facts) (hSecond : Cert.Second.Facts) (hSecondIdeal : Cert.SecondIdeal.Facts) (hSecondReferenceIdeal : Cert.SecondReferenceIdeal.Facts) (hQuantise : Cert.Quantise.Facts) (hQuantiseIdeal : Cert.QuantiseIdeal.Facts) (hQuantiseReferenceIdeal : Cert.QuantiseReferenceIdeal.Facts) (hEdges : Cert.Edges.Facts) (hEdgesIdeal : Cert.EdgesIdeal.Facts) (hEdgesReferenceIdeal : Cert.EdgesReferenceIdeal.Facts) (hPre_x_is_finite : Cert.Pre_x_is_finite.Facts) (hPre_s_second_is_not_negative : Cert.Pre_s_second_is_not_negative.Facts) (hPre_h_is_finite : Cert.Pre_h_is_finite.Facts) (hPre_sums_and_scale : Cert.Pre_sums_and_scale.Facts),
    quiescent_Kernel (hKernel := hKernel)
    ∧ quiescent_KernelIdeal (hKernelIdeal := hKernelIdeal)
    ∧ quiescent_KernelIdeal_pre_x_is_finite (hKernelIdeal := hKernelIdeal) (hPre_x_is_finite := hPre_x_is_finite)
    ∧ quiescent_ReferenceIdeal (hReferenceIdeal := hReferenceIdeal)
    ∧ quiescent_ReferenceIdeal_pre_x_is_finite (hReferenceIdeal := hReferenceIdeal) (hPre_x_is_finite := hPre_x_is_finite)
    ∧ quiescent_Second (hSecond := hSecond)
    ∧ quiescent_SecondIdeal (hSecondIdeal := hSecondIdeal)
    ∧ quiescent_SecondIdeal_pre_s_second_is_not_negative (hSecondIdeal := hSecondIdeal) (hPre_s_second_is_not_negative := hPre_s_second_is_not_negative)
    ∧ quiescent_SecondReferenceIdeal (hSecondReferenceIdeal := hSecondReferenceIdeal)
    ∧ quiescent_SecondReferenceIdeal_pre_s_second_is_not_negative (hSecondReferenceIdeal := hSecondReferenceIdeal) (hPre_s_second_is_not_negative := hPre_s_second_is_not_negative)
    ∧ quiescent_Quantise (hQuantise := hQuantise)
    ∧ quiescent_QuantiseIdeal (hQuantiseIdeal := hQuantiseIdeal)
    ∧ quiescent_QuantiseIdeal_pre_h_is_finite (hQuantiseIdeal := hQuantiseIdeal) (hPre_h_is_finite := hPre_h_is_finite)
    ∧ quiescent_QuantiseReferenceIdeal (hQuantiseReferenceIdeal := hQuantiseReferenceIdeal)
    ∧ quiescent_QuantiseReferenceIdeal_pre_h_is_finite (hQuantiseReferenceIdeal := hQuantiseReferenceIdeal) (hPre_h_is_finite := hPre_h_is_finite)
    ∧ quiescent_Edges (hEdges := hEdges)
    ∧ quiescent_EdgesIdeal (hEdgesIdeal := hEdgesIdeal)
    ∧ quiescent_EdgesIdeal_pre_sums_and_scale (hEdgesIdeal := hEdgesIdeal) (hPre_sums_and_scale := hPre_sums_and_scale)
    ∧ quiescent_EdgesReferenceIdeal (hEdgesReferenceIdeal := hEdgesReferenceIdeal)
    ∧ quiescent_EdgesReferenceIdeal_pre_sums_and_scale (hEdgesReferenceIdeal := hEdgesReferenceIdeal) (hPre_sums_and_scale := hPre_sums_and_scale)
    ∧ preserves_Kernel_KernelIdeal
    ∧ algebraic_KernelIdeal_ReferenceIdeal_pre_x_is_finite (hKernelIdeal := hKernelIdeal) (hReferenceIdeal := hReferenceIdeal) (hPre_x_is_finite := hPre_x_is_finite)
    ∧ preserves_Second_SecondIdeal
    ∧ algebraic_SecondIdeal_SecondReferenceIdeal_pre_s_second_is_not_negative (hSecondIdeal := hSecondIdeal) (hSecondReferenceIdeal := hSecondReferenceIdeal) (hPre_s_second_is_not_negative := hPre_s_second_is_not_negative)
    ∧ preserves_Quantise_QuantiseIdeal
    ∧ algebraic_QuantiseIdeal_QuantiseReferenceIdeal_pre_h_is_finite (hQuantiseIdeal := hQuantiseIdeal) (hQuantiseReferenceIdeal := hQuantiseReferenceIdeal) (hPre_h_is_finite := hPre_h_is_finite)
    ∧ preserves_Edges_EdgesIdeal
    ∧ algebraic_EdgesIdeal_EdgesReferenceIdeal_pre_sums_and_scale (hEdgesIdeal := hEdgesIdeal) (hEdgesReferenceIdeal := hEdgesReferenceIdeal) (hPre_sums_and_scale := hPre_sums_and_scale)
-- ==== Pre_h_is_finite.lean ====
abbrev S256x20x128 : Shape := ⟨3, ![256, 20, 128]⟩
abbrev S32768x512 : Shape := ⟨2, ![32768, 512]⟩
abbrev S8x16384x128 : Shape := ⟨3, ![8, 16384, 128]⟩
abbrev S8x20x4096x512 : Shape := ⟨4, ![8, 20, 4096, 512]⟩
abbrev S_ : Shape := ⟨0, ![]⟩

class Facts : Prop where
  bcast_S_S8x20x4096x512 : S_.BroadcastsInDim S8x20x4096x512 (![] : Fin 0 → Fin S8x20x4096x512.rank)

variable [Facts]

def fn {F : FTy → Type} [FloatOps F] (main_arg0 : IVec S256x20x128 32) (main_arg1 : FVec F S32768x512 .bf16) (main_arg2 : FVec F S8x16384x128 .f32) (main_arg3 : FVec F S8x20x4096x512 .f32) : IVec S8x20x4096x512 1 :=
  let main_v0 : FVec F S8x20x4096x512 .f32 := Host.absf main_arg3
  let main_cst : FVec F S_ .f32 := constant S_ .f32 0x7F7FFFFF#32
  let main_v1 : FVec F S8x20x4096x512 .f32 := broadcastInDim S8x20x4096x512 ![] bcast_S_S8x20x4096x512 main_cst
  let main_v2 : IVec S8x20x4096x512 1 := cmpf .ole main_v0 main_v1
  main_v2
-- ==== Pre_s_second_is_not_negative.lean ====
abbrev S256x20x128 : Shape := ⟨3, ![256, 20, 128]⟩
abbrev S32768x512 : Shape := ⟨2, ![32768, 512]⟩
abbrev S8x16384x128 : Shape := ⟨3, ![8, 16384, 128]⟩
abbrev S512x448 : Shape := ⟨2, ![512, 448]⟩
abbrev S448 : Shape := ⟨1, ![448]⟩
abbrev S8x20x4096x512 : Shape := ⟨4, ![8, 20, 4096, 512]⟩
abbrev S8x20x4096 : Shape := ⟨3, ![8, 20, 4096]⟩
abbrev S_ : Shape := ⟨0, ![]⟩

class Facts : Prop where
  bcast_S_S448 : S_.BroadcastsInDim S448 (![] : Fin 0 → Fin S448.rank)

variable [Facts]

def fn {F : FTy → Type} [FloatOps F] (main_arg0 : IVec S256x20x128 32) (main_arg1 : FVec F S32768x512 .bf16) (main_arg2 : FVec F S8x16384x128 .f32) (main_arg3 : FVec F S512x448 .fp8e4m3) (main_arg4 : FVec F S448 .f32) (main_arg5 : FVec F S448 .f32) (main_arg6 : FVec F S8x20x4096x512 .fp8e4m3) (main_arg7 : FVec F S8x20x4096 .f32) : IVec S448 1 :=
  let main_cst : FVec F S_ .f32 := constant S_ .f32 0x00000000#32
  let main_v0 : FVec F S448 .f32 := broadcastInDim S448 ![] bcast_S_S448 main_cst
  let main_v1 : IVec S448 1 := cmpf .oge main_arg4 main_v0
  main_v1
-- ==== Pre_sums_and_scale.lean ====
abbrev S256x20x128 : Shape := ⟨3, ![256, 20, 128]⟩
abbrev S32768x512 : Shape := ⟨2, ![32768, 512]⟩
abbrev S8x16384x128 : Shape := ⟨3, ![8, 16384, 128]⟩
abbrev S512x448 : Shape := ⟨2, ![512, 448]⟩
abbrev S448 : Shape := ⟨1, ![448]⟩
abbrev S8x20x4096x512 : Shape := ⟨4, ![8, 20, 4096, 512]⟩
abbrev S_ : Shape := ⟨0, ![]⟩

class Facts : Prop where
  bcast_S_S8x20x4096x512 : S_.BroadcastsInDim S8x20x4096x512 (![] : Fin 0 → Fin S8x20x4096x512.rank)
  bcast_S_S448 : S_.BroadcastsInDim S448 (![] : Fin 0 → Fin S448.rank)

variable [Facts]

def fn {F : FTy → Type} [FloatOps F] (main_arg0 : IVec S256x20x128 32) (main_arg1 : FVec F S32768x512 .bf16) (main_arg2 : FVec F S8x16384x128 .f32) (main_arg3 : FVec F S512x448 .fp8e4m3) (main_arg4 : FVec F S448 .f32) (main_arg5 : FVec F S448 .f32) (main_arg6 : FVec F S8x20x4096x512 .f32) : IVec S8x20x4096x512 1 × IVec S448 1 :=
  let main_v0 : FVec F S8x20x4096x512 .f32 := Host.absf main_arg6
  let main_cst : FVec F S_ .f32 := constant S_ .f32 0x7F7FFFFF#32
  let main_v1 : FVec F S8x20x4096x512 .f32 := broadcastInDim S8x20x4096x512 ![] bcast_S_S8x20x4096x512 main_cst
  let main_v2 : IVec S8x20x4096x512 1 := cmpf .ole main_v0 main_v1
  let main_cst_0 : FVec F S_ .f32 := constant S_ .f32 0x00000000#32
  let main_v3 : FVec F S448 .f32 := broadcastInDim S448 ![] bcast_S_S448 main_cst_0
  let main_v4 : IVec S448 1 := cmpf .oge main_arg4 main_v3
  (main_v2, main_v4)
-- ==== Pre_x_is_finite.lean ====
abbrev S8x4096x1024 : Shape := ⟨3, ![8, 4096, 1024]⟩
abbrev S1024x2x512 : Shape := ⟨3, ![1024, 2, 512]⟩
abbrev S2x512 : Shape := ⟨2, ![2, 512]⟩
abbrev S512 : Shape := ⟨1, ![512]⟩
abbrev S_ : Shape := ⟨0, ![]⟩

class Facts : Prop where
  bcast_S_S8x4096x1024 : S_.BroadcastsInDim S8x4096x1024 (![] : Fin 0 → Fin S8x4096x1024.rank)

variable [Facts]

def fn {F : FTy → Type} [FloatOps F] (main_arg0 : FVec F S8x4096x1024 .bf16) (main_arg1 : FVec F S1024x2x512 .fp8e4m3) (main_arg2 : FVec F S2x512 .f32) (main_arg3 : FVec F S512 .f32) : IVec S8x4096x1024 1 :=
  let main_v0 : FVec F S8x4096x1024 .bf16 := Host.absf main_arg0
  let main_cst : FVec F S_ .bf16 := constant S_ .bf16 0x7F7F#16
  let main_v1 : FVec F S8x4096x1024 .bf16 := broadcastInDim S8x4096x1024 ![] bcast_S_S8x4096x1024 main_cst
  let main_v2 : IVec S8x4096x1024 1 := cmpf .ole main_v0 main_v1
  main_v2
-- ==== Kernel.lean ====
abbrev S8x4096x1024 : Shape := ⟨3, ![8, 4096, 1024]⟩
abbrev S1024x2x512 : Shape := ⟨3, ![1024, 2, 512]⟩
abbrev S2x512 : Shape := ⟨2, ![2, 512]⟩
abbrev S512 : Shape := ⟨1, ![512]⟩
abbrev S32768x1024 : Shape := ⟨2, ![32768, 1024]⟩
abbrev S2x1024x512 : Shape := ⟨3, ![2, 1024, 512]⟩
abbrev S1x512 : Shape := ⟨2, ![1, 512]⟩
abbrev S64x4x128 : Shape := ⟨3, ![64, 4, 128]⟩
abbrev S32768x512 : Shape := ⟨2, ![32768, 512]⟩
abbrev S131072x128 : Shape := ⟨2, ![131072, 128]⟩
abbrev S512x1024 : Shape := ⟨2, ![512, 1024]⟩
abbrev S1x4x128 : Shape := ⟨3, ![1, 4, 128]⟩
abbrev S512x512 : Shape := ⟨2, ![512, 512]⟩
abbrev S2048x128 : Shape := ⟨2, ![2048, 128]⟩
abbrev S512x128 : Shape := ⟨2, ![512, 128]⟩
abbrev S512x1 : Shape := ⟨2, ![512, 1]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩
abbrev S1x1024x512 : Shape := ⟨3, ![1, 1024, 512]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S8x4096x1024, .bf16⟩
  | .hbm, ⟨1, _⟩ => ⟨S1024x2x512, .fp8e4m3⟩
  | .hbm, ⟨2, _⟩ => ⟨S2x512, .f32⟩
  | .hbm, ⟨3, _⟩ => ⟨S512, .f32⟩
  | .hbm, ⟨4, _⟩ => ⟨S32768x1024, .bf16⟩
  | .hbm, ⟨5, _⟩ => ⟨S2x1024x512, .fp8e4m3⟩
  | .hbm, ⟨6, _⟩ => ⟨S1x512, .f32⟩
  | .hbm, ⟨7, _⟩ => ⟨S32768x1024, .fp8e4m3⟩
  | .hbm, ⟨8, _⟩ => ⟨S64x4x128, .f32⟩
  | .hbm, ⟨9, _⟩ => ⟨S32768x512, .bf16⟩
  | .hbm, ⟨10, _⟩ => ⟨S131072x128, .f32⟩
  | .local _ .vmem, ⟨0, _⟩ => ⟨S512x1024, .bf16⟩
  | .local _ .vmem, ⟨1, _⟩ => ⟨S512x1024, .bf16⟩
  | .local _ .vmem, ⟨2, _⟩ => ⟨S2x1024x512, .fp8e4m3⟩
  | .local _ .vmem, ⟨3, _⟩ => ⟨S2x512, .f32⟩
  | .local _ .vmem, ⟨4, _⟩ => ⟨S1x512, .f32⟩
  | .local _ .vmem, ⟨5, _⟩ => ⟨S512x1024, .fp8e4m3⟩
  | .local _ .vmem, ⟨6, _⟩ => ⟨S512x1024, .fp8e4m3⟩
  | .local _ .vmem, ⟨7, _⟩ => ⟨S1x4x128, .f32⟩
  | .local _ .vmem, ⟨8, _⟩ => ⟨S1x4x128, .f32⟩
  | .local _ .vmem, ⟨9, _⟩ => ⟨S512x512, .bf16⟩
  | .local _ .vmem, ⟨10, _⟩ => ⟨S512x512, .bf16⟩
  | .local _ .vmem, ⟨11, _⟩ => ⟨S2048x128, .f32⟩
  | .local _ .vmem, ⟨12, _⟩ => ⟨S2048x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x4096x1024 : Shape := ⟨3, ![8, 4096, 1024]⟩
abbrev S1024x2x512 : Shape := ⟨3, ![1024, 2, 512]⟩
abbrev S2x512 : Shape := ⟨2, ![2, 512]⟩
abbrev S512 : Shape := ⟨1, ![512]⟩
abbrev S32768x1024 : Shape := ⟨2, ![32768, 1024]⟩
abbrev S64x4x128 : Shape := ⟨3, ![64, 4, 128]⟩
abbrev S32768x512 : Shape := ⟨2, ![32768, 512]⟩
abbrev S131072x128 : Shape := ⟨2, ![131072, 128]⟩
abbrev S32768 : Shape := ⟨1, ![32768]⟩
abbrev S32768x1 : Shape := ⟨2, ![32768, 1]⟩
abbrev S1x253 : Shape := ⟨2, ![1, 253]⟩
abbrev S32768x253 : Shape := ⟨2, ![32768, 253]⟩
abbrev S1024x1x512 : Shape := ⟨3, ![1024, 1, 512]⟩
abbrev S1024x512 : Shape := ⟨2, ![1024, 512]⟩
abbrev S1x512 : Shape := ⟨2, ![1, 512]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x1024, .bf16⟩
  | .hbm, ⟨1, _⟩ => ⟨S1024x2x512, .fp8e4m3⟩
  | .hbm, ⟨2, _⟩ => ⟨S2x512, .f32⟩
  | .hbm, ⟨3, _⟩ => ⟨S512, .f32⟩
  | .hbm, ⟨4, _⟩ => ⟨S32768x1024, .bf16⟩
  | .hbm, ⟨5, _⟩ => ⟨S32768x1024, .fp8e4m3⟩
  | .hbm, ⟨6, _⟩ => ⟨S64x4x128, .f32⟩
  | .hbm, ⟨7, _⟩ => ⟨S32768x512, .bf16⟩
  | .hbm, ⟨8, _⟩ => ⟨S131072x128, .f32⟩
  | .local _ .vmem, ⟨0, _⟩ => ⟨S32768x1024, .bf16⟩
  | .local _ .vmem, ⟨1, _⟩ => ⟨S1024x2x512, .fp8e4m3⟩
  | .local _ .vmem, ⟨2, _⟩ => ⟨S2x512, .f32⟩
  | .local _ .vmem, ⟨3, _⟩ => ⟨S512, .f32⟩
  | .local _ .vmem, ⟨4, _⟩ => ⟨S32768x1024, .fp8e4m3⟩
  | .local _ .vmem, ⟨5, _⟩ => ⟨S64x4x128, .f32⟩
  | .local _ .vmem, ⟨6, _⟩ => ⟨S32768x512, .bf16⟩
  | .local _ .vmem, ⟨7, _⟩ => ⟨S131072x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S131072x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Second.lean ====
abbrev S256x20x128 : Shape := ⟨3, ![256, 20, 128]⟩
abbrev S32768x512 : Shape := ⟨2, ![32768, 512]⟩
abbrev S8x16384x128 : Shape := ⟨3, ![8, 16384, 128]⟩
abbrev S512x448 : Shape := ⟨2, ![512, 448]⟩
abbrev S448 : Shape := ⟨1, ![448]⟩
abbrev S8x20x4096x512 : Shape := ⟨4, ![8, 20, 4096, 512]⟩
abbrev S8x20x4096 : Shape := ⟨3, ![8, 20, 4096]⟩
abbrev S_ : Shape := ⟨0, ![]⟩
abbrev S448x1 : Shape := ⟨2, ![448, 1]⟩
abbrev S448x128 : Shape := ⟨2, ![448, 128]⟩
abbrev S448x512 : Shape := ⟨2, ![448, 512]⟩
abbrev S8x448x4096 : Shape := ⟨3, ![8, 448, 4096]⟩
abbrev S1x20x128 : Shape := ⟨3, ![1, 20, 128]⟩
abbrev S128x512 : Shape := ⟨2, ![128, 512]⟩
abbrev S1x16384x128 : Shape := ⟨3, ![1, 16384, 128]⟩
abbrev S1x20x128x512 : Shape := ⟨4, ![1, 20, 128, 512]⟩
abbrev S1x448x128 : Shape := ⟨3, ![1, 448, 128]⟩
abbrev S16400x128 : Shape := ⟨2, ![16400, 128]⟩
abbrev S1024x128 : Shape := ⟨2, ![1024, 128]⟩
abbrev S20x8x128 : Shape := ⟨3, ![20, 8, 128]⟩
abbrev S1056x128 : Shape := ⟨2, ![1056, 128]⟩
abbrev S1x2x128x512 : Shape := ⟨4, ![1, 2, 128, 512]⟩
abbrev S2x128x512 : Shape := ⟨3, ![2, 128, 512]⟩
abbrev S256x512 : Shape := ⟨2, ![256, 512]⟩
abbrev S448x256 : Shape := ⟨2, ![448, 256]⟩
abbrev S1x1x128 : Shape := ⟨3, ![1, 1, 128]⟩
abbrev S1x128 : Shape := ⟨2, ![1, 128]⟩

abbrev nBuf : Space → Nat
  | .hbm => 20
  | .vmem => 22
  | .smem => 2
  | _ => 0

abbrev bufTy : (tb : Table) → Fin (tcTables nBuf tb) → BufTy
  | .hbm, ⟨0, _⟩ => ⟨S256x20x128, .i32⟩
  | .hbm, ⟨1, _⟩ => ⟨S32768x512, .bf16⟩
  | .hbm, ⟨2, _⟩ => ⟨S8x16384x128, .f32⟩
  | .hbm, ⟨3, _⟩ => ⟨S512x448, .fp8e4m3⟩
  | .hbm, ⟨4, _⟩ => ⟨S448, .f32⟩
  | .hbm, ⟨5, _⟩ => ⟨S448, .f32⟩
  | .hbm, ⟨6, _⟩ => ⟨S8x20x4096x512, .fp8e4m3⟩
  | .hbm, ⟨7, _⟩ => ⟨S8x20x4096, .f32⟩
  | .hbm, ⟨8, _⟩ => ⟨S_, .f32⟩
  | .hbm, ⟨9, _⟩ => ⟨S448, .f32⟩
  | .hbm, ⟨10, _⟩ => ⟨S448, .i1⟩
  | .hbm, ⟨11, _⟩ => ⟨S448, .f32⟩
  | .hbm, ⟨12, _⟩ => ⟨S448x1, .f32⟩
  | .hbm, ⟨13, _⟩ => ⟨S448x128, .f32⟩
  | .hbm, ⟨14, _⟩ => ⟨S448x512, .fp8e4m3⟩
  | .hbm, ⟨15, _⟩ => ⟨S448x1, .i1⟩
  | .hbm, ⟨16, _⟩ => ⟨S448x1, .i32⟩
  | .hbm, ⟨17, _⟩ => ⟨S448x1, .f32⟩
  | .hbm, ⟨18, _⟩ => ⟨S448x128, .f32⟩
  | .hbm, ⟨19, _⟩ => ⟨S8x448x4096, .bf16⟩
  | .local _ .vmem, ⟨0, _⟩ => ⟨S128x512, .bf16⟩
  | .local _ .vmem, ⟨1, _⟩ => ⟨S128x512, .bf16⟩
  | .local _ .vmem, ⟨2, _⟩ => ⟨S1x16384x128, .f32⟩
  | .local _ .vmem, ⟨3, _⟩ => ⟨S1x16384x128, .f32⟩
  | .local _ .vmem, ⟨4, _⟩ => ⟨S448x512, .fp8e4m3⟩
  | .local _ .vmem, ⟨5, _⟩ => ⟨S448x1, .i32⟩
  | .local _ .vmem, ⟨6, _⟩ => ⟨S448x128, .f32⟩
  | .local _ .vmem, ⟨7, _⟩ => ⟨S448x128, .f32⟩
  | .local _ .vmem, ⟨8, _⟩ => ⟨S1x20x128x512, .fp8e4m3⟩
  | .local _ .vmem, ⟨9, _⟩ => ⟨S1x20x128x512, .fp8e4m3⟩
  | .local _ .vmem, ⟨10, _⟩ => ⟨S1x20x128, .f32⟩
  | .local _ .vmem, ⟨11, _⟩ => ⟨S1x20x128, .f32⟩
  | .local _ .vmem, ⟨12, _⟩ => ⟨S1x448x128, .bf16⟩
  | .local _ .vmem, ⟨13, _⟩ => ⟨S1x448x128, .bf16⟩
  | .local _ .vmem, ⟨14, _⟩ => ⟨S16400x128, .f32⟩
  | .local _ .vmem, ⟨15, _⟩ => ⟨S1024x128, .f32⟩
  | .local _ .vmem, ⟨16, _⟩ => ⟨S448x128, .f32⟩
  | .local _ .vmem, ⟨17, _⟩ => ⟨S20x8x128, .f32⟩
  | .local _ .vmem, ⟨18, _⟩ => ⟨S1056x128, .f32⟩
  | .local _ .vmem, ⟨19, _⟩ => ⟨S1056x128, .f32⟩
  | .local _ .vmem, ⟨20, _⟩ => ⟨S1056x128, .f32⟩
  | .local _ .vmem, ⟨21, _⟩ => ⟨S1056x128, .f32⟩
  | .local _ .smem, ⟨0, _⟩ => ⟨S1x20x128, .i32⟩
  | .local _ .smem, ⟨1, _⟩ => ⟨S1x20x128, .i32⟩
  | _, _ => ⟨S256x20x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .smem S1x20x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S448x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S448x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S448x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S448x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x20x128x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x20x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x448x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SecondReferenceIdeal.lean ====
abbrev S256x20x128 : Shape := ⟨3, ![256, 20, 128]⟩
abbrev S32768x512 : Shape := ⟨2, ![32768, 512]⟩
abbrev S8x16384x128 : Shape := ⟨3, ![8, 16384, 128]⟩
abbrev S512x448 : Shape := ⟨2, ![512, 448]⟩
abbrev S448 : Shape := ⟨1, ![448]⟩
abbrev S8x20x4096x512 : Shape := ⟨4, ![8, 20, 4096, 512]⟩
abbrev S8x20x4096 : Shape := ⟨3, ![8, 20, 4096]⟩
abbrev S8x448x4096 : Shape := ⟨3, ![8, 448, 4096]⟩
abbrev S655360x512 : Shape := ⟨2, ![655360, 512]⟩
abbrev S655360x448 : Shape := ⟨2, ![655360, 448]⟩
abbrev S8x20x4096x448 : Shape := ⟨4, ![8, 20, 4096, 448]⟩
abbrev S8x20x4096x1 : Shape := ⟨4, ![8, 20, 4096, 1]⟩
abbrev S1x1x1x448 : Shape := ⟨4, ![1, 1, 1, 448]⟩
abbrev S8x4096x448 : Shape := ⟨3, ![8, 4096, 448]⟩

abbrev nBuf : Space → Nat
  | .hbm => 9
  | .vmem => 6
  | .smem => 0
  | _ => 0

abbrev bufTy : (tb : Table) → Fin (tcTables nBuf tb) → BufTy
  | .hbm, ⟨0, _⟩ => ⟨S256x20x128, .i32⟩
  | .hbm, ⟨1, _⟩ => ⟨S32768x512, .bf16⟩
  | .hbm, ⟨2, _⟩ => ⟨S8x16384x128, .f32⟩
  | .hbm, ⟨3, _⟩ => ⟨S512x448, .fp8e4m3⟩
  | .hbm, ⟨4, _⟩ => ⟨S448, .f32⟩
  | .hbm, ⟨5, _⟩ => ⟨S448, .f32⟩
  | .hbm, ⟨6, _⟩ => ⟨S8x20x4096x512, .fp8e4m3⟩
  | .hbm, ⟨7, _⟩ => ⟨S8x20x4096, .f32⟩
  | .hbm, ⟨8, _⟩ => ⟨S8x448x4096, .bf16⟩
  | .local _ .vmem, ⟨0, _⟩ => ⟨S512x448, .fp8e4m3⟩
  | .local _ .vmem, ⟨1, _⟩ => ⟨S448, .f32⟩
  | .local _ .vmem, ⟨2, _⟩ => ⟨S448, .f32⟩
  | .local _ .vmem, ⟨3, _⟩ => ⟨S8x20x4096x512, .fp8e4m3⟩
  | .local _ .vmem, ⟨4, _⟩ => ⟨S8x20x4096, .f32⟩
  | .local _ .vmem, ⟨5, _⟩ => ⟨S8x448x4096, .bf16⟩
  | _, _ => ⟨S256x20x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S512x448 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x20x4096x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x20x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x448x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quantise.lean ====
abbrev S256x20x128 : Shape := ⟨3, ![256, 20, 128]⟩
abbrev S32768x512 : Shape := ⟨2, ![32768, 512]⟩
abbrev S8x16384x128 : Shape := ⟨3, ![8, 16384, 128]⟩
abbrev S8x20x4096x512 : Shape := ⟨4, ![8, 20, 4096, 512]⟩
abbrev S8x20x4096 : Shape := ⟨3, ![8, 20, 4096]⟩
abbrev S1x20x128 : Shape := ⟨3, ![1, 20, 128]⟩
abbrev S128x512 : Shape := ⟨2, ![128, 512]⟩
abbrev S1x16384x128 : Shape := ⟨3, ![1, 16384, 128]⟩
abbrev S1x20x128x512 : Shape := ⟨4, ![1, 20, 128, 512]⟩
abbrev S16400x128 : Shape := ⟨2, ![16400, 128]⟩
abbrev S1024x128 : Shape := ⟨2, ![1024, 128]⟩
abbrev S448x128 : Shape := ⟨2, ![448, 128]⟩
abbrev S20x8x128 : Shape := ⟨3, ![20, 8, 128]⟩
abbrev S1056x128 : Shape := ⟨2, ![1056, 128]⟩
abbrev S8x128 : Shape := ⟨2, ![8, 128]⟩
abbrev S1x1x8x128 : Shape := ⟨4, ![1, 1, 8, 128]⟩
abbrev S8 : Shape := ⟨1, ![8]⟩
abbrev S8x1 : Shape := ⟨2, ![8, 1]⟩
abbrev S128 : Shape := ⟨1, ![128]⟩
abbrev S1x128 : Shape := ⟨2, ![1, 128]⟩
abbrev S1x1x128 : Shape := ⟨3, ![1, 1, 128]⟩
abbrev S1x8x128 : Shape := ⟨3, ![1, 8, 128]⟩
abbrev S8x128x1 : Shape := ⟨3, ![8, 128, 1]⟩
abbrev S32x128 : Shape := ⟨2, ![32, 128]⟩
abbrev S1x1x32x128 : Shape := ⟨4, ![1, 1, 32, 128]⟩

abbrev nBuf : Space → Nat
  | .hbm => 6
  | .vmem => 18
  | .smem => 2
  | _ => 0

abbrev bufTy : (tb : Table) → Fin (tcTables nBuf tb) → BufTy
  | .hbm, ⟨0, _⟩ => ⟨S256x20x128, .i32⟩
  | .hbm, ⟨1, _⟩ => ⟨S32768x512, .bf16⟩
  | .hbm, ⟨2, _⟩ => ⟨S8x16384x128, .f32⟩
  | .hbm, ⟨3, _⟩ => ⟨S8x20x4096x512, .f32⟩
  | .hbm, ⟨4, _⟩ => ⟨S8x20x4096x512, .fp8e4m3⟩
  | .hbm, ⟨5, _⟩ => ⟨S8x20x4096, .f32⟩
  | .local _ .vmem, ⟨0, _⟩ => ⟨S128x512, .bf16⟩
  | .local _ .vmem, ⟨1, _⟩ => ⟨S128x512, .bf16⟩
  | .local _ .vmem, ⟨2, _⟩ => ⟨S1x16384x128, .f32⟩
  | .local _ .vmem, ⟨3, _⟩ => ⟨S1x16384x128, .f32⟩
  | .local _ .vmem, ⟨4, _⟩ => ⟨S1x20x128x512, .f32⟩
  | .local _ .vmem, ⟨5, _⟩ => ⟨S1x20x128x512, .f32⟩
  | .local _ .vmem, ⟨6, _⟩ => ⟨S1x20x128x512, .fp8e4m3⟩
  | .local _ .vmem, ⟨7, _⟩ => ⟨S1x20x128x512, .fp8e4m3⟩
  | .local _ .vmem, ⟨8, _⟩ => ⟨S1x20x128, .f32⟩
  | .local _ .vmem, ⟨9, _⟩ => ⟨S1x20x128, .f32⟩
  | .local _ .vmem, ⟨10, _⟩ => ⟨S16400x128, .f32⟩
  | .local _ .vmem, ⟨11, _⟩ => ⟨S1024x128, .f32⟩
  | .local _ .vmem, ⟨12, _⟩ => ⟨S448x128, .f32⟩
  | .local _ .vmem, ⟨13, _⟩ => ⟨S20x8x128, .f32⟩
  | .local _ .vmem, ⟨14, _⟩ => ⟨S1056x128, .f32⟩
  | .local _ .vmem, ⟨15, _⟩ => ⟨S1056x128, .f32⟩
  | .local _ .vmem, ⟨16, _⟩ => ⟨S1056x128, .f32⟩
  | .local _ .vmem, ⟨17, _⟩ => ⟨S1056x128, .f32⟩
  | .local _ .smem, ⟨0, _⟩ => ⟨S1x20x128, .i32⟩
  | .local _ .smem, ⟨1, _⟩ => ⟨S1x20x128, .i32⟩
  | _, _ => ⟨S256x20x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .smem S1x20x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x20x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x20x128x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x20x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QuantiseReferenceIdeal.lean ====
abbrev S256x20x128 : Shape := ⟨3, ![256, 20, 128]⟩
abbrev S32768x512 : Shape := ⟨2, ![32768, 512]⟩
abbrev S8x16384x128 : Shape := ⟨3, ![8, 16384, 128]⟩
abbrev S8x20x4096x512 : Shape := ⟨4, ![8, 20, 4096, 512]⟩
abbrev S8x20x4096 : Shape := ⟨3, ![8, 20, 4096]⟩
abbrev S8x20x4096x1 : Shape := ⟨4, ![8, 20, 4096, 1]⟩
abbrev S1x253 : Shape := ⟨2, ![1, 253]⟩
abbrev S1x1x1x253 : Shape := ⟨4, ![1, 1, 1, 253]⟩
abbrev S8x20x4096x253 : Shape := ⟨4, ![8, 20, 4096, 253]⟩

abbrev nBuf : Space → Nat
  | .hbm => 6
  | .vmem => 3
  | .smem => 0
  | _ => 0

abbrev bufTy : (tb : Table) → Fin (tcTables nBuf tb) → BufTy
  | .hbm, ⟨0, _⟩ => ⟨S256x20x128, .i32⟩
  | .hbm, ⟨1, _⟩ => ⟨S32768x512, .bf16⟩
  | .hbm, ⟨2, _⟩ => ⟨S8x16384x128, .f32⟩
  | .hbm, ⟨3, _⟩ => ⟨S8x20x4096x512, .f32⟩
  | .hbm, ⟨4, _⟩ => ⟨S8x20x4096x512, .fp8e4m3⟩
  | .hbm, ⟨5, _⟩ => ⟨S8x20x4096, .f32⟩
  | .local _ .vmem, ⟨0, _⟩ => ⟨S8x20x4096x512, .f32⟩
  | .local _ .vmem, ⟨1, _⟩ => ⟨S8x20x4096x512, .fp8e4m3⟩
  | .local _ .vmem, ⟨2, _⟩ => ⟨S8x20x4096, .f32⟩
  | _, _ => ⟨S256x20x128, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x20x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x20x4096x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x20x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Edges.lean ====
abbrev S256x20x128 : Shape := ⟨3, ![256, 20, 128]⟩
abbrev S32768x512 : Shape := ⟨2, ![32768, 512]⟩
abbrev S8x16384x128 : Shape := ⟨3, ![8, 16384, 128]⟩
abbrev S512x448 : Shape := ⟨2, ![512, 448]⟩
abbrev S448 : Shape := ⟨1, ![448]⟩
abbrev S8x20x4096x512 : Shape := ⟨4, ![8, 20, 4096, 512]⟩
abbrev S_ : Shape := ⟨0, ![]⟩
abbrev S448x1 : Shape := ⟨2, ![448, 1]⟩
abbrev S448x128 : Shape := ⟨2, ![448, 128]⟩
abbrev S448x512 : Shape := ⟨2, ![448, 512]⟩
abbrev S8x448x4096 : Shape := ⟨3, ![8, 448, 4096]⟩
abbrev S8x20x4096 : Shape := ⟨3, ![8, 20, 4096]⟩
abbrev S1x20x128 : Shape := ⟨3, ![1, 20, 128]⟩
abbrev S128x512 : Shape := ⟨2, ![128, 512]⟩
abbrev S1x16384x128 : Shape := ⟨3, ![1, 16384, 128]⟩
abbrev S1x20x128x512 : Shape := ⟨4, ![1, 20, 128, 512]⟩
abbrev S1x448x128 : Shape := ⟨3, ![1, 448, 128]⟩
abbrev S16400x128 : Shape := ⟨2, ![16400, 128]⟩
abbrev S1024x128 : Shape := ⟨2, ![1024, 128]⟩
abbrev S20x8x128 : Shape := ⟨3, ![20, 8, 128]⟩
abbrev S1056x128 : Shape := ⟨2, ![1056, 128]⟩
abbrev S8x128 : Shape := ⟨2, ![8, 128]⟩
abbrev S1x1x8x128 : Shape := ⟨4, ![1, 1, 8, 128]⟩
abbrev S8 : Shape := ⟨1, ![8]⟩
abbrev S8x1 : Shape := ⟨2, ![8, 1]⟩
abbrev S128 : Shape := ⟨1, ![128]⟩
abbrev S1x128 : Shape := ⟨2, ![1, 128]⟩
abbrev S1x1x128 : Shape := ⟨3, ![1, 1, 128]⟩
abbrev S1x8x128 : Shape := ⟨3, ![1, 8, 128]⟩
abbrev S8x128x1 : Shape := ⟨3, ![8, 128, 1]⟩
abbrev S32x128 : Shape := ⟨2, ![32, 128]⟩
abbrev S1x1x32x128 : Shape := ⟨4, ![1, 1, 32, 128]⟩
abbrev S1x2x128x512 : Shape := ⟨4, ![1, 2, 128, 512]⟩
abbrev S2x128x512 : Shape := ⟨3, ![2, 128, 512]⟩
abbrev S256x512 : Shape := ⟨2, ![256, 512]⟩
abbrev S448x256 : Shape := ⟨2, ![448, 256]⟩

abbrev nBuf : Space → Nat
  | .hbm => 21
  | .vmem => 24
  | .smem => 2
  | _ => 0

abbrev bufTy : (tb : Table) → Fin (tcTables nBuf tb) → BufTy
  | .hbm, ⟨0, _⟩ => ⟨S256x20x128, .i32⟩
  | .hbm, ⟨1, _⟩ => ⟨S32768x512, .bf16⟩
  | .hbm, ⟨2, _⟩ => ⟨S8x16384x128, .f32⟩
  | .hbm, ⟨3, _⟩ => ⟨S512x448, .fp8e4m3⟩
  | .hbm, ⟨4, _⟩ => ⟨S448, .f32⟩
  | .hbm, ⟨5, _⟩ => ⟨S448, .f32⟩
  | .hbm, ⟨6, _⟩ => ⟨S8x20x4096x512, .f32⟩
  | .hbm, ⟨7, _⟩ => ⟨S_, .f32⟩
  | .hbm, ⟨8, _⟩ => ⟨S448, .f32⟩
  | .hbm, ⟨9, _⟩ => ⟨S448, .i1⟩
  | .hbm, ⟨10, _⟩ => ⟨S448, .f32⟩
  | .hbm, ⟨11, _⟩ => ⟨S448x1, .f32⟩
  | .hbm, ⟨12, _⟩ => ⟨S448x128, .f32⟩
  | .hbm, ⟨13, _⟩ => ⟨S448x512, .fp8e4m3⟩
  | .hbm, ⟨14, _⟩ => ⟨S448x1, .i1⟩
  | .hbm, ⟨15, _⟩ => ⟨S448x1, .i32⟩
  | .hbm, ⟨16, _⟩ => ⟨S448x1, .f32⟩
  | .hbm, ⟨17, _⟩ => ⟨S448x128, .f32⟩
  | .hbm, ⟨18, _⟩ => ⟨S8x448x4096, .bf16⟩
  | .hbm, ⟨19, _⟩ => ⟨S8x20x4096x512, .fp8e4m3⟩
  | .hbm, ⟨20, _⟩ => ⟨S8x20x4096, .f32⟩
  | .local _ .vmem, ⟨0, _⟩ => ⟨S128x512, .bf16⟩
  | .local _ .vmem, ⟨1, _⟩ => ⟨S128x512, .bf16⟩
  | .local _ .vmem, ⟨2, _⟩ => ⟨S1x16384x128, .f32⟩
  | .local _ .vmem, ⟨3, _⟩ => ⟨S1x16384x128, .f32⟩
  | .local _ .vmem, ⟨4, _⟩ => ⟨S448x512, .fp8e4m3⟩
  | .local _ .vmem, ⟨5, _⟩ => ⟨S448x1, .i32⟩
  | .local _ .vmem, ⟨6, _⟩ => ⟨S448x128, .f32⟩
  | .local _ .vmem, ⟨7, _⟩ => ⟨S448x128, .f32⟩
  | .local _ .vmem, ⟨8, _⟩ => ⟨S1x20x128x512, .f32⟩
  | .local _ .vmem, ⟨9, _⟩ => ⟨S1x20x128x512, .f32⟩
  | .local _ .vmem, ⟨10, _⟩ => ⟨S1x448x128, .bf16⟩
  | .local _ .vmem, ⟨11, _⟩ => ⟨S1x448x128, .bf16⟩
  | .local _ .vmem, ⟨12, _⟩ => ⟨S1x20x128x512, .fp8e4m3⟩
  | .local _ .vmem, ⟨13, _⟩ => ⟨S1x20x128x512, .fp8e4m3⟩
  | .local _ .vmem, ⟨14, _⟩ => ⟨S1x20x128, .f32⟩
  | .local _ .vmem, ⟨15, _⟩ => ⟨S1x20x128, .f32⟩
  | .local _ .vmem, ⟨16, _⟩ => ⟨S16400x128, .f32⟩
  | .local _ .vmem, ⟨17, _⟩ => ⟨S1024x128, .f32⟩
  | .local _ .vmem, ⟨18, _⟩ => ⟨S448x128, .f32⟩
  | .local _ .vmem, ⟨19, _⟩ => ⟨S20x8x128, .f32⟩
  | .local _ .vmem, ⟨20, _⟩ => ⟨S1056x128, .f32⟩
  | .local _ .vmem, ⟨21, _⟩ => ⟨S1056x128, .f32⟩
  | .local _ .vmem, ⟨22, _⟩ => ⟨S1056x128, .f32⟩
  | .local _ .vmem, ⟨23, _⟩ => ⟨S1056x128, .f32⟩
  | .local _ .smem, ⟨0, _⟩ => ⟨S1x20x128, .i32⟩
  | .local _ .smem, ⟨1, _⟩ => ⟨S1x20x128, .i32⟩
  | _, _ => ⟨S256x20x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .smem S1x20x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S448x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S448x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S448x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S448x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x20x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x448x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x20x128x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x20x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== EdgesReferenceIdeal.lean ====
abbrev S256x20x128 : Shape := ⟨3, ![256, 20, 128]⟩
abbrev S32768x512 : Shape := ⟨2, ![32768, 512]⟩
abbrev S8x16384x128 : Shape := ⟨3, ![8, 16384, 128]⟩
abbrev S512x448 : Shape := ⟨2, ![512, 448]⟩
abbrev S448 : Shape := ⟨1, ![448]⟩
abbrev S8x20x4096x512 : Shape := ⟨4, ![8, 20, 4096, 512]⟩
abbrev S8x448x4096 : Shape := ⟨3, ![8, 448, 4096]⟩
abbrev S8x20x4096 : Shape := ⟨3, ![8, 20, 4096]⟩
abbrev S8x20x4096x1 : Shape := ⟨4, ![8, 20, 4096, 1]⟩
abbrev S1x253 : Shape := ⟨2, ![1, 253]⟩
abbrev S1x1x1x253 : Shape := ⟨4, ![1, 1, 1, 253]⟩
abbrev S8x20x4096x253 : Shape := ⟨4, ![8, 20, 4096, 253]⟩
abbrev S655360x512 : Shape := ⟨2, ![655360, 512]⟩
abbrev S655360x448 : Shape := ⟨2, ![655360, 448]⟩
abbrev S8x20x4096x448 : Shape := ⟨4, ![8, 20, 4096, 448]⟩
abbrev S1x1x1x448 : Shape := ⟨4, ![1, 1, 1, 448]⟩
abbrev S8x4096x448 : Shape := ⟨3, ![8, 4096, 448]⟩

abbrev nBuf : Space → Nat
  | .hbm => 10
  | .vmem => 7
  | .smem => 0
  | _ => 0

abbrev bufTy : (tb : Table) → Fin (tcTables nBuf tb) → BufTy
  | .hbm, ⟨0, _⟩ => ⟨S256x20x128, .i32⟩
  | .hbm, ⟨1, _⟩ => ⟨S32768x512, .bf16⟩
  | .hbm, ⟨2, _⟩ => ⟨S8x16384x128, .f32⟩
  | .hbm, ⟨3, _⟩ => ⟨S512x448, .fp8e4m3⟩
  | .hbm, ⟨4, _⟩ => ⟨S448, .f32⟩
  | .hbm, ⟨5, _⟩ => ⟨S448, .f32⟩
  | .hbm, ⟨6, _⟩ => ⟨S8x20x4096x512, .f32⟩
  | .hbm, ⟨7, _⟩ => ⟨S8x448x4096, .bf16⟩
  | .hbm, ⟨8, _⟩ => ⟨S8x20x4096x512, .fp8e4m3⟩
  | .hbm, ⟨9, _⟩ => ⟨S8x20x4096, .f32⟩
  | .local _ .vmem, ⟨0, _⟩ => ⟨S512x448, .fp8e4m3⟩
  | .local _ .vmem, ⟨1, _⟩ => ⟨S448, .f32⟩
  | .local _ .vmem, ⟨2, _⟩ => ⟨S448, .f32⟩
  | .local _ .vmem, ⟨3, _⟩ => ⟨S8x20x4096x512, .f32⟩
  | .local _ .vmem, ⟨4, _⟩ => ⟨S8x448x4096, .bf16⟩
  | .local _ .vmem, ⟨5, _⟩ => ⟨S8x20x4096x512, .fp8e4m3⟩
  | .local _ .vmem, ⟨6, _⟩ => ⟨S8x20x4096, .f32⟩
  | _, _ => ⟨S256x20x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S512x448 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x20x4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x448x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x20x4096x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x20x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.SecondValue.lean ====
module

public import Idealize.ShloMosaic.Lib.Pipeline.ValueKit
public import Idealize.ShloMosaic.Lib.Pointwise
public import proofs.«01_k».proof.Proof.Gen.SecondIdeal.Value
public import proofs.«01_k».proof.Proof.Gen.SecondReferenceIdeal.Value
public import proofs.«01_k».proof.Pre_s_second_is_not_negative

@[expose] public section

set_option maxRecDepth 16384

noncomputable section

namespace Cert.SecondIdeal.Val

open Idealize.ShloMosaic Idealize.ShloMosaic.TcCoe Idealize.SL.Sem
open Idealize.ShloMosaic.Pipeline (Dat)
open Cert.SecondIdeal Cert.SecondIdeal.Gen

/-- Where each window's block lies at grid point `t`. -/
theorem idx : ∀ t : Fin cfg0.N,
    win0_3.index t = ![0, 0] ∧ win0_4.index t = ![0, 0] ∧ win0_5.index t = ![0, 0] ∧ win0_6.index t = ![0, 0]
    ∧ win0_7.index t = ![t.val / 32, 0, t.val % 32, 0] ∧ win0_8.index t = ![t.val / 32, 0, t.val % 32]
    ∧ win0_9.index t = ![t.val / 32, 0, t.val % 32] ∧ t.val / 32 < 8 :=
  (by decide +kernel : ∀ t : Fin grid0.N, _)

/-- The reference's result as a function of the second weight, its scales, the shift, the codes and their scales. -/
abbrev REF (a3 : FVec Ideal S512x448 .fp8e4m3) (a4 : FVec Ideal S448 .f32) (a5 : FVec Ideal S448 .f32) (a6 : FVec Ideal S8x20x4096x512 .fp8e4m3)
    (a7 : FVec Ideal S8x20x4096 .f32) : FVec Ideal S8x448x4096 .bf16 :=
  Cert.SecondReferenceIdeal.Gen.k0_pay1 a6 a3 a7 a4 a5

/-- The maximum over the twenty edges of a scaled and shifted score is the scaled and shifted maximum, the maxima taken pair by pair. -/
theorem fold20 (f : Fin 20 → EReal) (s b : EReal) (hs : 0 ≤ s) :
    Finset.univ.fold max (Ideal.ofBits .f32 0xFF800000#32) (fun k => f k * s + b) = (max (max (max (max (max (max (max (max (max (max (f 0) (f 1)) (max (f 2) (f 3))) (max (f 4) (f 5))) (max (f 6) (f 7))) (max (f 8) (f 9))) (max (f 10) (f 11))) (max (f 12) (f 13))) (max (f 14) (f 15))) (max (f 16) (f 17))) (max (f 18) (f 19))) * s + b := by
  have hmono : Monotone (fun x : EReal => x * s + b) := fun x y h =>
    add_le_add (mul_le_mul_of_nonneg_right h hs) le_rfl
  have hbot : Ideal.ofBits .f32 0xFF800000#32 = (⊥ : EReal) := by
    simp [Ideal.ofBits, Ideal.ieee]
  rw [hbot]
  have e : ∀ g : Fin 20 → EReal, Finset.univ.fold max ⊥ g = (max (max (max (max (max (max (max (max (max (max (g 0) (g 1)) (max (g 2) (g 3))) (max (g 4) (g 5))) (max (g 6) (g 7))) (max (g 8) (g 9))) (max (g 10) (g 11))) (max (g 12) (g 13))) (max (g 14) (g 15))) (max (g 16) (g 17))) (max (g 18) (g 19))) := by
    intro g
    refine eq_of_forall_ge_iff fun c => ?_
    simp only [Finset.fold_max_le, bot_le, true_and, Finset.mem_univ, forall_true_left, Fin.forall_fin_succ, max_le_iff, IsEmpty.forall_iff, and_true]
    simp only [and_assoc]
    rfl
  have d := fun x y => (hmono.map_max (a := x) (b := y)).symm
  beta_reduce at d
  rw [e]
  simp only [d]

/-- Maxima of equal numbers are equal. -/
theorem mcong {a b c d : EReal} (h : a = c) (h' : b = d) : max a b = max c d := by rw [h, h']

/-- The score of edge `k`: the product of the codes with the weight's column, times the edge's scale. -/
def E (a3 : FVec Ideal S512x448 .fp8e4m3) (a6 : FVec Ideal S8x20x4096x512 .fp8e4m3) (a7 : FVec Ideal S8x20x4096 .f32)
    (b : Fin 8) (o : Fin 448) (n : Fin 4096) (k : Fin 20) : EReal :=
  (∑ x : Fin 512, @HMul.hMul EReal EReal EReal _ (a3 (ix2 x o)) (a6 (ix4 b k n x))) * (a7 (ix3 b k n) : EReal)

/-- The maximum of twenty scores, pair by pair. -/
def M (E : Fin 20 → EReal) : EReal := (max (max (max (max (max (max (max (max (max (max (E 0) (E 1)) (max (E 2) (E 3))) (max (E 4) (E 5))) (max (E 6) (E 7))) (max (E 8) (E 9))) (max (E 10) (E 11))) (max (E 12) (E 13))) (max (E 14) (E 15))) (max (E 16) (E 17))) (max (E 18) (E 19)))

/-- The reference's result at an index: the largest score, scaled and shifted. -/
theorem ref_at (a3 : FVec Ideal S512x448 .fp8e4m3) (a4 : FVec Ideal S448 .f32) (a5 : FVec Ideal S448 .f32) (a6 : FVec Ideal S8x20x4096x512 .fp8e4m3)
    (a7 : FVec Ideal S8x20x4096 .f32) (b : Fin 8) (o : Fin 448) (n : Fin 4096) (hs : (0 : EReal) ≤ a4 (ix1 o)) :
    REF a3 a4 a5 a6 a7 (ix3 b o n) = @HAdd.hAdd EReal EReal EReal _ (M (E a3 a6 a7 b o n) * (a4 (ix1 o) : EReal)) (a5 (ix1 o)) := by
  pointwise [REF, Cert.SecondReferenceIdeal.Gen.k0_pay1]
  refine Eq.trans ?_ (fold20 (E a3 a6 a7 b o n) (a4 (ix1 o)) (a5 (ix1 o)) hs)
  refine congrArg (fun f => Finset.fold max _ f _) (funext fun k => ?_)
  refine congrArg (· + (a5 (ix1 o) : EReal)) ?_
  rw [← mul_assoc]
  refine congrArg (fun z : EReal => z * (a7 (ix3 b k n) : EReal) * (a4 (ix1 o) : EReal)) ?_
  exact Finset.sum_congr rfl fun x _ => mul_comm (G := EReal) _ _

variable (m : (ℓ : Loc nD τ sig) → Buf (Elt Ideal) ℓ)

/-- The scales of the second weight, one per output channel. -/
abbrev sArg (c : Dev nD) : FVec Ideal S448 .f32 := m ((c : Thread nD τ).loc main_arg4)

/-- No scale is below zero, so no sign is flipped. -/
theorem flip_zero (c : Dev nD) (t : Fin cfg0.N) (y1 : Fin 448) (hs : ∀ i, (0 : EReal) ≤ sArg m c i) :
    iblk m c 4 t (ix2 y1 0) = 0#32 := by
  obtain ⟨h3, h4, h5, h6, h7, h8, h9, hb⟩ := idx t
  blk_simp [iblk, h4]
  entry_read
  pointwise
  have h := not_lt.mpr (hs (ix1 (((View.whole main_v7).slice (win0_4.rect t)).emb (ix2 y1 0) 0)))
  rw [decide_eq_false h]
  rfl

/-- The kernel's operand of absolute scales holds the scales. -/
theorem ss_eq (c : Dev nD) (t : Fin cfg0.N) (y1 : Fin 448) (y2 : Fin 128) (hs : ∀ i, (0 : EReal) ≤ sArg m c i) :
    iblk m c 5 t (ix2 y1 y2) = sArg m c (ix1 y1) := by
  obtain ⟨h3, h4, h5, h6, h7, h8, h9, hb⟩ := idx t
  have e : iblk m c 5 t (ix2 y1 y2) = (FloatOps.absf (sArg m c (ix1 y1)) : Ideal .f32) := by
    blk_simp [iblk, h5]
    entry_read
    pointwise
    congr 1
    blk_ext [h5]
  rw [e]
  show max (sArg m c (ix1 y1) : EReal) (-sArg m c (ix1 y1)) = _
  refine max_eq_left ((EReal.neg_le_neg_iff.mpr (hs _)).trans ?_)
  rw [neg_zero]
  exact hs _

/-- The precondition, read: no scale of the second weight is below zero. -/
theorem nonneg (a0 a1 a2 a3 : _) (a4 : FVec Ideal Cert.Pre_s_second_is_not_negative.S448 .f32) (a5 a6 a7) [Cert.Pre_s_second_is_not_negative.Facts]
   (h : Cert.Pre_s_second_is_not_negative.fn (F := Ideal) a0 a1 a2 a3 a4 a5 a6 a7 = fun _ => 1#1) (i) : (0 : EReal) ≤ a4 i := by
  have h1 := congrFun h i
  pointwise [Cert.Pre_s_second_is_not_negative.fn] at h1
  by_contra hn
  rw [decide_eq_false hn] at h1
  exact absurd h1 (by decide)

set_option maxHeartbeats 1000000 in
/-- The array of results the kernel leaves is the reference's, where no scale is below zero. -/
theorem final (c : Dev nD) (hs : ∀ i, (0 : EReal) ≤ sArg m c i) :
    (dats m 0 c).arrAt 9 cfg0.N = REF (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  unfold Gen.outsAt0
  frame_out
  idx_vars y
  generalize hR : REF (m ((c : Thread nD τ).loc main_arg3)) (m ((c : Thread nD τ).loc main_arg4)) (m ((c : Thread nD τ).loc main_arg5)) (m ((c : Thread nD τ).loc main_arg6)) (m ((c : Thread nD τ).loc main_arg7)) = R
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  have hf := flip_zero m c t y1 hs
  have hz : IntOp.cmpi CmpIPredicate.ne 0#32 0#32 = 0#1 := rfl
  have hsel : ∀ a b : EReal, Scalar.select 0#1 a b = b := fun a b => rfl
  simp only [hf, hz, hsel]
  obtain ⟨-, -, -, -, -, -, -, hb⟩ := idx t
  have hn : t.val % 32 * 128 + (y2 : ℕ) < 4096 := by omega
  refine Eq.trans (b := R (ix3 ⟨t.val / 32, hb⟩ y1 ⟨t.val % 32 * 128 + y2, hn⟩)) ?_ ?_
  swap
  · blk_ext [idx t]
  subst hR
  refine Eq.trans ?_ (ref_at _ _ _ _ _ _ _ _ (hs _)).symm
  have hE : ∀ (a a' : Fin 20) (y' : Fin 128), a' = a → y' = y2 →
      @HMul.hMul EReal EReal EReal _ (∑ x : Fin 512, @HMul.hMul EReal EReal EReal _ (iblk m c 3 t (ix2 y1 x)) (iblk m c 7 t (ix4 0 a' y' x)))
        (iblk m c 8 t (ix3 0 a y2))
      = E (m ((c : Thread nD τ).loc main_arg3)) (m ((c : Thread nD τ).loc main_arg6)) (m ((c : Thread nD τ).loc main_arg7))
          ⟨t.val / 32, hb⟩ y1 ⟨t.val % 32 * 128 + y2, hn⟩ a := by
    intro a a' y' ha hy
    subst ha hy
    unfold E
    blk_point [iblk, V, idx t]
  have hb1 : iblk m c 6 t (ix2 y1 y2) = m ((c : Thread nD τ).loc main_arg5) (ix1 y1) := by
    blk_point [iblk, V, idx t]
  refine congrArg₂ (fun a b : EReal => a + b) (congrArg₂ (fun a b : EReal => a * b) ?_ (ss_eq m c t y1 y2 hs)) hb1
  unfold M
  refine (mcong (mcong (mcong (mcong (mcong (mcong (mcong (mcong (mcong (mcong ?_ ?_) (mcong ?_ ?_)) (mcong ?_ ?_)) (mcong ?_ ?_)) (mcong ?_ ?_)) (mcong ?_ ?_)) (mcong ?_ ?_)) (mcong ?_ ?_)) (mcong ?_ ?_)) (mcong ?_ ?_))
  · have := hE 0 ⟨(y2 : ℕ) / 128, by omega⟩ ⟨(y2 : ℕ) % 128, by omega⟩ (Fin.ext (by simp; try omega)) (Fin.ext (by simp; try omega))
    with_reducible exact this
  · have := hE 1 ⟨(128 + (y2 : ℕ)) / 128, by omega⟩ y2 (Fin.ext (by simp; try omega)) rfl
    with_reducible exact this
  · have := hE 2 ⟨2 + (y2 : ℕ) / 128, by omega⟩ ⟨(y2 : ℕ) % 128, by omega⟩ (Fin.ext (by simp; try omega)) (Fin.ext (by simp; try omega))
    with_reducible exact this
  · have := hE 3 ⟨2 + (128 + (y2 : ℕ)) / 128, by omega⟩ y2 (Fin.ext (by simp; try omega)) rfl
    with_reducible exact this
  · have := hE 4 ⟨4 + (y2 : ℕ) / 128, by omega⟩ ⟨(y2 : ℕ) % 128, by omega⟩ (Fin.ext (by simp; try omega)) (Fin.ext (by simp; try omega))
    with_reducible exact this
  · have := hE 5 ⟨4 + (128 + (y2 : ℕ)) / 128, by omega⟩ y2 (Fin.ext (by simp; try omega)) rfl
    with_reducible exact this
  · have := hE 6 ⟨6 + (y2 : ℕ) / 128, by omega⟩ ⟨(y2 : ℕ) % 128, by omega⟩ (Fin.ext (by simp; try omega)) (Fin.ext (by simp; try omega))
    with_reducible exact this
  · have := hE 7 ⟨6 + (128 + (y2 : ℕ)) / 128, by omega⟩ y2 (Fin.ext (by simp; try omega)) rfl
    with_reducible exact this
  · have := hE 8 ⟨8 + (y2 : ℕ) / 128, by omega⟩ ⟨(y2 : ℕ) % 128, by omega⟩ (Fin.ext (by simp; try omega)) (Fin.ext (by simp; try omega))
    with_reducible exact this
  · have := hE 9 ⟨8 + (128 + (y2 : ℕ)) / 128, by omega⟩ y2 (Fin.ext (by simp; try omega)) rfl
    with_reducible exact this
  · have := hE 10 ⟨10 + (y2 : ℕ) / 128, by omega⟩ ⟨(y2 : ℕ) % 128, by omega⟩ (Fin.ext (by simp; try omega)) (Fin.ext (by simp; try omega))
    with_reducible exact this
  · have := hE 11 ⟨10 + (128 + (y2 : ℕ)) / 128, by omega⟩ y2 (Fin.ext (by simp; try omega)) rfl
    with_reducible exact this
  · have := hE 12 ⟨12 + (y2 : ℕ) / 128, by omega⟩ ⟨(y2 : ℕ) % 128, by omega⟩ (Fin.ext (by simp; try omega)) (Fin.ext (by simp; try omega))
    with_reducible exact this
  · have := hE 13 ⟨12 + (128 + (y2 : ℕ)) / 128, by omega⟩ y2 (Fin.ext (by simp; try omega)) rfl
    with_reducible exact this
  · have := hE 14 ⟨14 + (y2 : ℕ) / 128, by omega⟩ ⟨(y2 : ℕ) % 128, by omega⟩ (Fin.ext (by simp; try omega)) (Fin.ext (by simp; try omega))
    with_reducible exact this
  · have := hE 15 ⟨14 + (128 + (y2 : ℕ)) / 128, by omega⟩ y2 (Fin.ext (by simp; try omega)) rfl
    with_reducible exact this
  · have := hE 16 ⟨16 + (y2 : ℕ) / 128, by omega⟩ ⟨(y2 : ℕ) % 128, by omega⟩ (Fin.ext (by simp; try omega)) (Fin.ext (by simp; try omega))
    with_reducible exact this
  · have := hE 17 ⟨16 + (128 + (y2 : ℕ)) / 128, by omega⟩ y2 (Fin.ext (by simp; try omega)) rfl
    with_reducible exact this
  · have := hE 18 ⟨18 + (y2 : ℕ) / 128, by omega⟩ ⟨(y2 : ℕ) % 128, by omega⟩ (Fin.ext (by simp; try omega)) (Fin.ext (by simp; try omega))
    with_reducible exact this
  · have := hE 19 ⟨18 + (128 + (y2 : ℕ)) / 128, by omega⟩ y2 (Fin.ext (by simp; try omega)) rfl
    with_reducible exact this

end Cert.SecondIdeal.Val
end
end
-- ==== Proof.PointsFrame.lean ====
module

public import proofs.«01_k».proof.Proof.Gen.Kernel.Frame
public import proofs.«01_k».proof.Proof.Gen.Kernel.Skeleton
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 4, through which its contents are stated (`View.read_writes_of_cover`: the
    choice does not matter). -/
abbrev VO0_4 : View sig .tc .vmem S512x1024 .fp8e4m3 := (Memref.whole cc0_stg4_0 : Memref sig .tc .vmem S512x1024 .fp8e4m3).view
/-- One staging buffer of output window 5, through which its contents are stated (`View.read_writes_of_cover`: the
    choice does not matter). -/
abbrev VO0_5 : View sig .tc .vmem S1x4x128 .f32 := (Memref.whole cc0_stg5_0 : Memref sig .tc .vmem S1x4x128 .f32).view
/-- One staging buffer of output window 6, through which its contents are stated (`View.read_writes_of_cover`: the
    choice does not matter). -/
abbrev VO0_6 : View sig .tc .vmem S512x512 .bf16 := (Memref.whole cc0_stg6_0 : Memref sig .tc .vmem S512x512 .bf16).view
/-- One staging buffer of output window 7, through which its contents are stated (`View.read_writes_of_cover`: the
    choice does not matter). -/
abbrev VO0_7 : View sig .tc .vmem S2048x128 .f32 := (Memref.whole cc0_stg7_0 : Memref sig .tc .vmem S2048x128 .f32).view
/-- Each window's current staging memref at point `t`, spelled as the pipeline passes it (`bodyAt0`), and its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) :
    Σ' (L4 : List (View.Piece (Elt F) S512x1024 .fp8e4m3)), Σ' (L5 : List (View.Piece (Elt F) S1x4x128 .f32)), Σ' (L6 : List (View.Piece (Elt F) S512x512 .bf16)), { L7 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_points i arg1 harg1 arg2 harg2 arg3 harg3 arg4 harg4 arg5 harg5 arg6 harg6 arg7 harg7 arg8 harg8) K } := by
  refine ⟨?_, ?_, ?_, ?_, fun E K => ?run⟩
  case run =>
    simp only [cc0_points_eq_skeleton]; unfold cc0_points_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

/-- Whether, for each of the four residues, some piece stores the rows of that residue modulo four. -/
def rowsOk (L : List (View.Piece (Elt F) S2048x128 .f32)) : Bool :=
  (List.range 4).all fun r => L.any fun p =>
    decide (p.1.off 0 = r ∧ p.1.off 1 = 0 ∧ p.1.size 0 = 512 ∧ p.1.size 1 = 128 ∧ p.1.stride 0 = 4 ∧ p.1.stride 1 = 1)

/-- Pieces that store the rows of every residue modulo four cover the block. -/
theorem cover_of_rows (L : List (View.Piece (Elt F) S2048x128 .f32)) (h : rowsOk L = true) (y : S2048x128.Idx) :
    ∃ p ∈ L, y ∈ p.1.set := by
  have h0 : (y 0).val < 2048 := (y 0).isLt
  have h1 : (y 1).val < 128 := (y 1).isLt
  obtain ⟨p, hp, hd⟩ := List.any_eq_true.mp (List.all_eq_true.mp h ((y 0).val % 4) (List.mem_range.mpr (by omega)))
  obtain ⟨o0, o1, s0, s1, t0, t1⟩ := of_decide_eq_true hd
  refine ⟨p, hp, p.1.mem_set.mpr fun a => ?_⟩
  match a with
  | ⟨0, _⟩ => exact ⟨(y 0).val / 4, by rw [show p.1.size ⟨0, _⟩ = 512 from s0]; omega, by
      rw [show p.1.off ⟨0, _⟩ = _ from o0, show p.1.stride ⟨0, _⟩ = 4 from t0]
      show (y 0).val = _
      omega⟩
  | ⟨1, _⟩ => exact ⟨(y 1).val, by rw [show p.1.size ⟨1, _⟩ = 128 from s1]; exact h1, by
      rw [show p.1.off ⟨1, _⟩ = 0 from o1, show p.1.stride ⟨1, _⟩ = 1 from t1]
      show (y 1).val = _
      omega⟩

/-- The run's pieces for output 4 tile its block (8 stores of `S512x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) (y : S512x1024.Idx) :
    ∃ pc ∈ (kernelRun0_A c i arg1 harg1 arg2 harg2 arg3 harg3 arg4 harg4 arg5 harg5 arg6 harg6 arg7 harg7 arg8 harg8 x0 x1 x2 x3).1, y ∈ pc.1.set :=
  View.cover_of_tiledL (kernelRun0_A c i arg1 harg1 arg2 harg2 arg3 harg3 arg4 harg4 arg5 harg5 arg6 harg6 arg7 harg7 arg8 harg8 x0 x1 x2 x3).1 S512x128.size (by sl_kernel_rfl) y

/-- What the run leaves in output 4's staging buffer: its pieces read back over junk. -/
def out0_A_4 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) : Vec F S512x1024 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 x0 x1 x2 x3).1)

/-- The run's pieces for output 5 tile its block (4 stores of `S1x1x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) (y : S1x4x128.Idx) :
    ∃ pc ∈ (kernelRun0_A c i arg1 harg1 arg2 harg2 arg3 harg3 arg4 harg4 arg5 harg5 arg6 harg6 arg7 harg7 arg8 harg8 x0 x1 x2 x3).2.1, y ∈ pc.1.set :=
  View.cover_of_tiledL (kernelRun0_A c i arg1 harg1 arg2 harg2 arg3 harg3 arg4 harg4 arg5 harg5 arg6 harg6 arg7 harg7 arg8 harg8 x0 x1 x2 x3).2.1 S1x1x128.size (by sl_kernel_rfl) y

/-- What the run leaves in output 5's staging buffer: its pieces read back over junk. -/
def out0_A_5 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) : Vec F S1x4x128 .f32 :=
  VO0_5.read (Elt F) (VO0_5.writes (Elt F) VO0_5.junk (kernelRun0_A c i arg1 harg1 arg2 harg2 arg3 harg3 arg4 harg4 arg5 harg5 arg6 harg6 arg7 harg7 arg8 harg8 x0 x1 x2 x3).2.1)

/-- The run's pieces for output 6 tile its block (4 stores of `S512x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) (y : S512x512.Idx) :
    ∃ pc ∈ (kernelRun0_A c i arg1 harg1 arg2 harg2 arg3 harg3 arg4 harg4 arg5 harg5 arg6 harg6 arg7 harg7 arg8 harg8 x0 x1 x2 x3).2.2.1, y ∈ pc.1.set :=
  View.cover_of_tiledL (kernelRun0_A c i arg1 harg1 arg2 harg2 arg3 harg3 arg4 harg4 arg5 harg5 arg6 harg6 arg7 harg7 arg8 harg8 x0 x1 x2 x3).2.2.1 S512x128.size (by sl_kernel_rfl) y

/-- What the run leaves in output 6's staging buffer: its pieces read back over junk. -/
def out0_A_6 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) : Vec F S512x512 .bf16 :=
  VO0_6.read (Elt F) (VO0_6.writes (Elt F) VO0_6.junk (kernelRun0_A c i arg1 harg1 arg2 harg2 arg3 harg3 arg4 harg4 arg5 harg5 arg6 harg6 arg7 harg7 arg8 harg8 x0 x1 x2 x3).2.2.1)

/-- The run's pieces for output 7 tile its block (four stores of every fourth row), so they cover it. -/
theorem cover0_A_7 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) (y : S2048x128.Idx) :
    ∃ pc ∈ (kernelRun0_A c i arg1 harg1 arg2 harg2 arg3 harg3 arg4 harg4 arg5 harg5 arg6 harg6 arg7 harg7 arg8 harg8 x0 x1 x2 x3).2.2.2.1, y ∈ pc.1.set :=
  cover_of_rows (kernelRun0_A c i arg1 harg1 arg2 harg2 arg3 harg3 arg4 harg4 arg5 harg5 arg6 harg6 arg7 harg7 arg8 harg8 x0 x1 x2 x3).2.2.2.1 (by sl_kernel_rfl) y

/-- What the run leaves in output 7's staging buffer: its pieces read back over junk. -/
def out0_A_7 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) : Vec F S2048x128 .f32 :=
  VO0_7.read (Elt F) (VO0_7.writes (Elt F) VO0_7.junk (kernelRun0_A c i arg1 harg1 arg2 harg2 arg3 harg3 arg4 harg4 arg5 harg5 arg6 harg6 arg7 harg7 arg8 harg8 x0 x1 x2 x3).2.2.2.1)

/-! ## What the outputs hold after each point -/

/-- What the outputs' staging buffers hold after the body at point `t` (as a tuple, in window order): the run's contents at
    the point's memrefs and input blocks. -/
def outsAt0 (c : Dev nD) (t : Fin cfg0.N) : Vec F S512x1024 .fp8e4m3 × Vec F S1x4x128 .f32 × Vec F S512x512 .bf16 × Vec F S2048x128 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2.1
    | ⟨7, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2.1 := by dsimp only [dats]
theorem after0_7 (c : Dev nD) (t : Fin cfg0.N) : (dats m 0 c).after 7 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold outsAt0
  unfold out0_A_4 out0_A_5 out0_A_6 out0_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ (iblk m c 0 t) (iblk m c 1 t) (iblk m c 2 t) (iblk m c 3 t)).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.PointsIdealFrame.lean ====
module

public import proofs.«01_k».proof.Proof.Gen.KernelIdeal.Frame
public import proofs.«01_k».proof.Proof.Gen.KernelIdeal.Skeleton
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 4, through which its contents are stated (`View.read_writes_of_cover`: the
    choice does not matter). -/
abbrev VO0_4 : View sig .tc .vmem S512x1024 .fp8e4m3 := (Memref.whole cc0_stg4_0 : Memref sig .tc .vmem S512x1024 .fp8e4m3).view
/-- One staging buffer of output window 5, through which its contents are stated (`View.read_writes_of_cover`: the
    choice does not matter). -/
abbrev VO0_5 : View sig .tc .vmem S1x4x128 .f32 := (Memref.whole cc0_stg5_0 : Memref sig .tc .vmem S1x4x128 .f32).view
/-- One staging buffer of output window 6, through which its contents are stated (`View.read_writes_of_cover`: the
    choice does not matter). -/
abbrev VO0_6 : View sig .tc .vmem S512x512 .bf16 := (Memref.whole cc0_stg6_0 : Memref sig .tc .vmem S512x512 .bf16).view
/-- One staging buffer of output window 7, through which its contents are stated (`View.read_writes_of_cover`: the
    choice does not matter). -/
abbrev VO0_7 : View sig .tc .vmem S2048x128 .f32 := (Memref.whole cc0_stg7_0 : Memref sig .tc .vmem S2048x128 .f32).view
/-- Each window's current staging memref at point `t`, spelled as the pipeline passes it (`bodyAt0`), and its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) :
    Σ' (L4 : List (View.Piece (Elt F) S512x1024 .fp8e4m3)), Σ' (L5 : List (View.Piece (Elt F) S1x4x128 .f32)), Σ' (L6 : List (View.Piece (Elt F) S512x512 .bf16)), { L7 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_points i arg1 harg1 arg2 harg2 arg3 harg3 arg4 harg4 arg5 harg5 arg6 harg6 arg7 harg7 arg8 harg8) K } := by
  refine ⟨?_, ?_, ?_, ?_, fun E K => ?run⟩
  case run =>
    simp only [cc0_points_eq_skeleton]; unfold cc0_points_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

/-- Whether, for each of the four residues, some piece stores the rows of that residue modulo four. -/
def rowsOk (L : List (View.Piece (Elt F) S2048x128 .f32)) : Bool :=
  (List.range 4).all fun r => L.any fun p =>
    decide (p.1.off 0 = r ∧ p.1.off 1 = 0 ∧ p.1.size 0 = 512 ∧ p.1.size 1 = 128 ∧ p.1.stride 0 = 4 ∧ p.1.stride 1 = 1)

/-- Pieces that store the rows of every residue modulo four cover the block. -/
theorem cover_of_rows (L : List (View.Piece (Elt F) S2048x128 .f32)) (h : rowsOk L = true) (y : S2048x128.Idx) :
    ∃ p ∈ L, y ∈ p.1.set := by
  have h0 : (y 0).val < 2048 := (y 0).isLt
  have h1 : (y 1).val < 128 := (y 1).isLt
  obtain ⟨p, hp, hd⟩ := List.any_eq_true.mp (List.all_eq_true.mp h ((y 0).val % 4) (List.mem_range.mpr (by omega)))
  obtain ⟨o0, o1, s0, s1, t0, t1⟩ := of_decide_eq_true hd
  refine ⟨p, hp, p.1.mem_set.mpr fun a => ?_⟩
  match a with
  | ⟨0, _⟩ => exact ⟨(y 0).val / 4, by rw [show p.1.size ⟨0, _⟩ = 512 from s0]; omega, by
      rw [show p.1.off ⟨0, _⟩ = _ from o0, show p.1.stride ⟨0, _⟩ = 4 from t0]
      show (y 0).val = _
      omega⟩
  | ⟨1, _⟩ => exact ⟨(y 1).val, by rw [show p.1.size ⟨1, _⟩ = 128 from s1]; exact h1, by
      rw [show p.1.off ⟨1, _⟩ = 0 from o1, show p.1.stride ⟨1, _⟩ = 1 from t1]
      show (y 1).val = _
      omega⟩

/-- The run's pieces for output 4 tile its block (8 stores of `S512x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) (y : S512x1024.Idx) :
    ∃ pc ∈ (kernelRun0_A c i arg1 harg1 arg2 harg2 arg3 harg3 arg4 harg4 arg5 harg5 arg6 harg6 arg7 harg7 arg8 harg8 x0 x1 x2 x3).1, y ∈ pc.1.set :=
  View.cover_of_tiledL (kernelRun0_A c i arg1 harg1 arg2 harg2 arg3 harg3 arg4 harg4 arg5 harg5 arg6 harg6 arg7 harg7 arg8 harg8 x0 x1 x2 x3).1 S512x128.size (by sl_kernel_rfl) y

/-- What the run leaves in output 4's staging buffer: its pieces read back over junk. -/
def out0_A_4 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) : Vec F S512x1024 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 x0 x1 x2 x3).1)

/-- The run's pieces for output 5 tile its block (4 stores of `S1x1x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) (y : S1x4x128.Idx) :
    ∃ pc ∈ (kernelRun0_A c i arg1 harg1 arg2 harg2 arg3 harg3 arg4 harg4 arg5 harg5 arg6 harg6 arg7 harg7 arg8 harg8 x0 x1 x2 x3).2.1, y ∈ pc.1.set :=
  View.cover_of_tiledL (kernelRun0_A c i arg1 harg1 arg2 harg2 arg3 harg3 arg4 harg4 arg5 harg5 arg6 harg6 arg7 harg7 arg8 harg8 x0 x1 x2 x3).2.1 S1x1x128.size (by sl_kernel_rfl) y

/-- What the run leaves in output 5's staging buffer: its pieces read back over junk. -/
def out0_A_5 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) : Vec F S1x4x128 .f32 :=
  VO0_5.read (Elt F) (VO0_5.writes (Elt F) VO0_5.junk (kernelRun0_A c i arg1 harg1 arg2 harg2 arg3 harg3 arg4 harg4 arg5 harg5 arg6 harg6 arg7 harg7 arg8 harg8 x0 x1 x2 x3).2.1)

/-- The run's pieces for output 6 tile its block (4 stores of `S512x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) (y : S512x512.Idx) :
    ∃ pc ∈ (kernelRun0_A c i arg1 harg1 arg2 harg2 arg3 harg3 arg4 harg4 arg5 harg5 arg6 harg6 arg7 harg7 arg8 harg8 x0 x1 x2 x3).2.2.1, y ∈ pc.1.set :=
  View.cover_of_tiledL (kernelRun0_A c i arg1 harg1 arg2 harg2 arg3 harg3 arg4 harg4 arg5 harg5 arg6 harg6 arg7 harg7 arg8 harg8 x0 x1 x2 x3).2.2.1 S512x128.size (by sl_kernel_rfl) y

/-- What the run leaves in output 6's staging buffer: its pieces read back over junk. -/
def out0_A_6 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) : Vec F S512x512 .bf16 :=
  VO0_6.read (Elt F) (VO0_6.writes (Elt F) VO0_6.junk (kernelRun0_A c i arg1 harg1 arg2 harg2 arg3 harg3 arg4 harg4 arg5 harg5 arg6 harg6 arg7 harg7 arg8 harg8 x0 x1 x2 x3).2.2.1)

/-- The run's pieces for output 7 tile its block (four stores of every fourth row), so they cover it. -/
theorem cover0_A_7 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) (y : S2048x128.Idx) :
    ∃ pc ∈ (kernelRun0_A c i arg1 harg1 arg2 harg2 arg3 harg3 arg4 harg4 arg5 harg5 arg6 harg6 arg7 harg7 arg8 harg8 x0 x1 x2 x3).2.2.2.1, y ∈ pc.1.set :=
  cover_of_rows (kernelRun0_A c i arg1 harg1 arg2 harg2 arg3 harg3 arg4 harg4 arg5 harg5 arg6 harg6 arg7 harg7 arg8 harg8 x0 x1 x2 x3).2.2.2.1 (by sl_kernel_rfl) y

/-- What the run leaves in output 7's staging buffer: its pieces read back over junk. -/
def out0_A_7 (c : Dev nD) (i : grid0.Coords) (arg1 : Memref sig .tc .vmem S512x1024 .bf16) (harg1 : arg1.IsWhole) (arg2 : Memref sig .tc .vmem S2x1024x512 .fp8e4m3) (harg2 : arg2.IsWhole) (arg3 : Memref sig .tc .vmem S2x512 .f32) (harg3 : arg3.IsWhole) (arg4 : Memref sig .tc .vmem S1x512 .f32) (harg4 : arg4.IsWhole) (arg5 : Memref sig .tc .vmem S512x1024 .fp8e4m3) (harg5 : arg5.IsWhole) (arg6 : Memref sig .tc .vmem S1x4x128 .f32) (harg6 : arg6.IsWhole) (arg7 : Memref sig .tc .vmem S512x512 .bf16) (harg7 : arg7.IsWhole) (arg8 : Memref sig .tc .vmem S2048x128 .f32) (harg8 : arg8.IsWhole)
    (x0 : Vec F S512x1024 .bf16) (x1 : Vec F S2x1024x512 .fp8e4m3) (x2 : Vec F S2x512 .f32) (x3 : Vec F S1x512 .f32) : Vec F S2048x128 .f32 :=
  VO0_7.read (Elt F) (VO0_7.writes (Elt F) VO0_7.junk (kernelRun0_A c i arg1 harg1 arg2 harg2 arg3 harg3 arg4 harg4 arg5 harg5 arg6 harg6 arg7 harg7 arg8 harg8 x0 x1 x2 x3).2.2.2.1)

/-! ## What the outputs hold after each point -/

/-- What the outputs' staging buffers hold after the body at point `t` (as a tuple, in window order): the run's contents at
    the point's memrefs and input blocks. -/
def outsAt0 (c : Dev nD) (t : Fin cfg0.N) : Vec F S512x1024 .fp8e4m3 × Vec F S1x4x128 .f32 × Vec F S512x512 .bf16 × Vec F S2048x128 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2.1
    | ⟨7, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2.1 := by dsimp only [dats]
theorem after0_7 (c : Dev nD) (t : Fin cfg0.N) : (dats m 0 c).after 7 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold outsAt0
  unfold out0_A_4 out0_A_5 out0_A_6 out0_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ (iblk m c 0 t) (iblk m c 1 t) (iblk m c 2 t) (iblk m c 3 t)).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Scale.lean ====
module

public import Idealize.ShloMosaic.Lib.Pointwise
public import Idealize.ShloMosaic.PureOps

@[expose] public section

set_option maxRecDepth 16384

noncomputable section

namespace Cert.Scale

open Idealize.ShloMosaic

/-- The number whose word has exponent field `n` and nothing else. -/
def P (n : ℕ) : EReal := if n = 0 then 0 else if n < 255 then (((2 : ℝ) ^ ((n : ℤ) - 127) : ℝ) : EReal) else ⊤

/-- The word with exponent field `n` and nothing else. -/
def W (n : ℕ) : BitVec 32 := BitVec.ofNat 32 (n * 8388608)

/-- The number with a field that is neither the least nor the greatest. -/
theorem P_of (n : ℕ) (h0 : n ≠ 0) (h1 : n < 255) : P n = (((2 : ℝ) ^ ((n : ℤ) - 127) : ℝ) : EReal) := by
  unfold P
  rw [if_neg h0, if_pos h1]

/-- What the word with exponent field `n` denotes. -/
theorem ofBits_W (n : ℕ) (h : n < 256) : Ideal.ofBits .f32 (W n) = P n := by
  have hn : (BitVec.extractLsb' 31 1 (W n) == 1#1) = false ∧ (BitVec.extractLsb' 23 8 (W n)).toNat = n ∧ (BitVec.extractLsb' 0 23 (W n)).toNat = 0 :=
    (by decide +kernel : ∀ n : Fin 256, (BitVec.extractLsb' 31 1 (W n) == 1#1) = false ∧ (BitVec.extractLsb' 23 8 (W n)).toNat = n.val ∧ (BitVec.extractLsb' 0 23 (W n)).toNat = 0) ⟨n, h⟩
  obtain ⟨h1, h2, h3⟩ := hn
  show Ideal.ieee 8 23 (W n) = P n
  unfold Ideal.ieee P
  simp only [h1, h2, h3]
  norm_num
  split_ifs with h4 h5 h6 h7 <;> first | rfl | omega | skip
  rw [← EReal.coe_mul]
  congr 1
  rw [show ((8388608 : ℝ)) = (2 : ℝ) ^ (23 : ℤ) by norm_num, ← zpow_add₀ (by norm_num)]
  congr 1
  ring

/-- The numbers grow with the field. -/
theorem P_mono : Monotone P := by
  intro a b h
  unfold P
  split_ifs <;> first | omega | exact le_top | exact le_rfl | skip
  · exact EReal.coe_nonneg.mpr (by positivity)
  · exact EReal.coe_le_coe_iff.mpr (zpow_le_zpow_right₀ (by norm_num) (by omega))

/-- One comparison of the search, on words. -/
def stepB (v : EReal) (s : BitVec 32) (b : BitVec 32) : BitVec 32 :=
  Scalar.select (Ideal.cmp .oge v (Ideal.ofBits .f32 (IntOp.addi b s))) (IntOp.addi b s) b

/-- One comparison of the search, on exponent fields. -/
def stepN (v : EReal) (s n : ℕ) : ℕ := if P (n + s) ≤ v then n + s else n

/-- The two agree. -/
theorem stepB_eq (v : EReal) (s n : ℕ) (h : n + s < 256) : stepB v (W s) (W n) = W (stepN v s n) := by
  have e : IntOp.addi (W n) (W s) = W (n + s) := by
    unfold IntOp.addi W
    rw [← BitVec.ofNat_add, Nat.add_mul]
  unfold stepB stepN
  rw [e, ofBits_W _ h]
  by_cases hc : P (n + s) ≤ v
  · rw [if_pos hc]
    simp [Ideal.cmp, Scalar.select, hc]
  · rw [if_neg hc]
    simp [Ideal.cmp, Scalar.select, hc]

/-- A comparison halves the range that holds the field. -/
theorem stepN_inv (v : EReal) (s n : ℕ) (h0 : P n ≤ v) (h1 : v < P (n + 2 * s)) (h2 : n + 2 * s ≤ 256) :
    P (stepN v s n) ≤ v ∧ v < P (stepN v s n + s) ∧ stepN v s n + s ≤ 256 := by
  unfold stepN
  split_ifs with h
  · exact ⟨h, by rw [show n + s + s = n + 2 * s by ring]; exact h1, by omega⟩
  · exact ⟨h0, lt_of_not_ge h, by omega⟩

/-- The words of the search for the exponent field of `v`. -/
def searchB (v : EReal) : BitVec 32 :=
  stepB v (W 1) (stepB v (W 2) (stepB v (W 4) (stepB v (W 8) (stepB v (W 16) (stepB v (W 32) (stepB v (W 64) (stepB v (W 128) (W 0))))))))

/-- The search finds the field. -/
theorem searchB_eq (v : EReal) (h0 : 0 ≤ v) (h1 : v < P 248) : ∃ n, searchB v = W n ∧ P n ≤ v ∧ v < P (n + 1) ∧ n < 248 := by
  have h256 : v < P (0 + 2 * 128) := h1.trans_le (P_mono (by norm_num))
  obtain ⟨a8, b8, c8⟩ := stepN_inv v 128 0 (by simpa [P] using h0) h256 (by norm_num)
  have e8 := stepB_eq v 128 0 (by norm_num)
  generalize stepN v 128 0 = n8 at *
  obtain ⟨a7, b7, c7⟩ := stepN_inv v 64 n8 a8 b8 c8
  have e7 := stepB_eq v 64 n8 (by omega)
  generalize stepN v 64 n8 = n7 at *
  obtain ⟨a6, b6, c6⟩ := stepN_inv v 32 n7 a7 b7 c7
  have e6 := stepB_eq v 32 n7 (by omega)
  generalize stepN v 32 n7 = n6 at *
  obtain ⟨a5, b5, c5⟩ := stepN_inv v 16 n6 a6 b6 c6
  have e5 := stepB_eq v 16 n6 (by omega)
  generalize stepN v 16 n6 = n5 at *
  obtain ⟨a4, b4, c4⟩ := stepN_inv v 8 n5 a5 b5 c5
  have e4 := stepB_eq v 8 n5 (by omega)
  generalize stepN v 8 n5 = n4 at *
  obtain ⟨a3, b3, c3⟩ := stepN_inv v 4 n4 a4 b4 c4
  have e3 := stepB_eq v 4 n4 (by omega)
  generalize stepN v 4 n4 = n3 at *
  obtain ⟨a2, b2, c2⟩ := stepN_inv v 2 n3 a3 b3 c3
  have e2 := stepB_eq v 2 n3 (by omega)
  generalize stepN v 2 n3 = n2 at *
  obtain ⟨a1, b1, c1⟩ := stepN_inv v 1 n2 a2 b2 c2
  have e1 := stepB_eq v 1 n2 (by omega)
  generalize stepN v 1 n2 = n1 at *
  refine ⟨n1, ?_, a1, b1, ?_⟩
  · unfold searchB
    rw [e8, e7, e6, e5, e4, e3, e2, e1]
  · by_contra hc
    exact absurd (h1.trans_le (P_mono (by omega : 248 ≤ n1))) (not_lt.mpr a1)

/-- The word of the scale, from the word the search finds. -/
def scaleB (b : BitVec 32) : BitVec 32 :=
  Scalar.select (IntOp.cmpi .slt b 8388608#32) 1065353216#32 (IntOp.addi (IntOp.andi b 2139095040#32) 8388608#32)

/-- The exponent field of the scale of a number with exponent field `n`. -/
def K (n : ℕ) : ℕ := if n = 0 then 127 else n + 1

/-- The word of the scale, and that of its inverse. -/
theorem scaleB_eq (n : ℕ) (h : n < 248) : scaleB (W n) = W (K n) ∧ IntOp.subi 2130706432#32 (scaleB (W n)) = W (254 - K n) :=
  (by decide +kernel : ∀ n : Fin 248, scaleB (W n) = W (K n) ∧ IntOp.subi 2130706432#32 (scaleB (W n)) = W (254 - K n)) ⟨n, h⟩

/-- The scale of a row whose largest entry over 448 is `v`: the least power of two above `v`, or one where `v` is below the
    least normal number. -/
def SC (v : EReal) : EReal :=
  Scalar.select (Ideal.cmp .olt v (Ideal.ofBits .f32 0x00800000#32)) (Ideal.ofBits .f32 0x3F800000#32)
    (Finset.univ.fold min (Ideal.ofBits .f32 0x7F800000#32) fun i : Fin 253 =>
      Scalar.select (Ideal.cmp .olt v (Ideal.exp2 (((IntOp.subi (BitVec.ofNat 32 i.val) 125#32).toInt : ℝ) : EReal)))
        (Ideal.exp2 (((IntOp.subi (BitVec.ofNat 32 i.val) 125#32).toInt : ℝ) : EReal)) (Ideal.ofBits .f32 0x7F800000#32))

/-- The candidates for a scale. -/
theorem exp2_eq (i : Fin 253) : Ideal.exp2 (((IntOp.subi (BitVec.ofNat 32 i.val) 125#32).toInt : ℝ) : EReal) = P (i.val + 2) := by
  have h : (IntOp.subi (BitVec.ofNat 32 i.val) 125#32).toInt = (i.val : ℤ) - 125 :=
    (by decide +kernel : ∀ i : Fin 253, (IntOp.subi (BitVec.ofNat 32 i.val) 125#32).toInt = (i.val : ℤ) - 125) i
  have hi := i.isLt
  rw [h, Ideal.exp2_coe]
  unfold P
  rw [if_neg (by omega), if_pos (by omega)]
  congr 1
  show (2 : ℝ) ^ (((i.val : ℤ) - 125 : ℤ) : ℝ) = _
  rw [Real.rpow_intCast]
  congr 1
  push_cast
  ring

/-- The scale by comparisons is the scale by its exponent field. -/
theorem SC_eq (v : EReal) (n : ℕ) (h0 : P n ≤ v) (h1 : v < P (n + 1)) (hn : n < 248) : SC v = P (K n) := by
  have hw1 : Ideal.ofBits .f32 0x00800000#32 = P 1 := ofBits_W 1 (by norm_num)
  have hw2 : Ideal.ofBits .f32 0x3F800000#32 = P 127 := ofBits_W 127 (by norm_num)
  have hw3 : Ideal.ofBits .f32 0x7F800000#32 = ⊤ := (ofBits_W 255 (by norm_num)).trans (by simp [P])
  unfold SC K
  simp only [hw1, hw2, hw3, exp2_eq]
  by_cases hz : n = 0
  · subst hz
    rw [if_pos rfl]
    simp [Ideal.cmp, Scalar.select, h1]
  · rw [if_neg hz]
    have hge : ¬ v < P 1 := not_lt.mpr ((P_mono (by omega : 1 ≤ n)).trans h0)
    have e1 : Scalar.select (Ideal.cmp .olt v (P 1)) (P 127) = fun x : EReal => x := by
      funext x
      simp [Ideal.cmp, Scalar.select, hge]
    rw [e1]
    refine le_antisymm ?_ ?_
    · rw [Finset.fold_min_le]
      refine Or.inr ⟨⟨n - 1, by omega⟩, Finset.mem_univ _, ?_⟩
      rw [show n - 1 + 2 = n + 1 by omega]
      simp [Ideal.cmp, Scalar.select, h1]
    · rw [Finset.le_fold_min]
      refine ⟨le_top, fun i _ => ?_⟩
      by_cases hc : v < P (i.val + 2)
      · have : n + 1 ≤ i.val + 2 := by
          by_contra hh
          exact absurd (hc.trans_le (P_mono (by omega : i.val + 2 ≤ n))) (not_lt.mpr h0)
        simpa [Ideal.cmp, Scalar.select, hc] using P_mono this
      · simp [Ideal.cmp, Scalar.select, hc]

/-- The inverse of a scale is the number with the mirrored exponent field. -/
theorem inv_eq (k : ℕ) (h0 : 2 ≤ k) (h1 : k < 253) : Ideal.div (Ideal.ofBits .f32 0x3F800000#32) (P k) = P (254 - k) := by
  have hw2 : Ideal.ofBits .f32 0x3F800000#32 = 1 := (ofBits_W 127 (by norm_num)).trans (by simp [P])
  rw [hw2]
  rw [P_of k (by omega) (by omega), P_of (254 - k) (by omega) (by omega)]
  have hp : ((2 : ℝ) ^ ((k : ℤ) - 127)) ≠ 0 := by positivity
  unfold Ideal.div
  rw [if_neg (by exact_mod_cast hp), one_mul, ← EReal.coe_inv]
  congr 1
  rw [← zpow_neg]
  congr 1
  omega

/-- The kernel's word of the scale denotes the scale, and its word of the inverse the scale's inverse. -/
theorem scale (v : EReal) (h0 : 0 ≤ v) (h1 : v < P 248) :
    Ideal.ofBits .f32 (scaleB (searchB v)) = SC v
    ∧ Ideal.ofBits .f32 (IntOp.subi 2130706432#32 (scaleB (searchB v))) = Ideal.div (Ideal.ofBits .f32 0x3F800000#32) (SC v)
    ∧ 0 ≤ SC v := by
  obtain ⟨n, e, ha, hb, hn⟩ := searchB_eq v h0 h1
  obtain ⟨e1, e2⟩ := scaleB_eq n hn
  have hk : 2 ≤ K n ∧ K n < 253 := by unfold K; split_ifs <;> omega
  rw [e, e2, e1, SC_eq v n ha hb hn, ofBits_W _ (by omega), ofBits_W _ (by omega), inv_eq _ hk.1 hk.2]
  refine ⟨rfl, rfl, ?_⟩
  have := P_mono (Nat.zero_le (K n))
  simpa [P] using this

end Cert.Scale
end
end
-- ==== Proof.PointsLemmas.lean ====
module

public import Idealize.ShloMosaic.Lib.Pipeline.ValueKit
public import Idealize.ShloMosaic.Lib.Pointwise
public import proofs.«01_k».proof.Proof.Scale
public import proofs.«01_k».proof.Pre_x_is_finite
public import proofs.«01_k».proof.Proof.PointsIdealFrame
public import proofs.«01_k».proof.Proof.Gen.ReferenceIdeal.Value

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

/-- The largest absolute value of a row, over 448. -/
def Amax (f : Fin 1024 → EReal) : EReal :=
  (Finset.univ.fold max (Ideal.ofBits .f32 0xFF800000#32) fun k => max (f k) (-f k)) * Ideal.ofBits .f32 0x3B124925#32

/-- The reference's largest absolute value of a row. -/
theorem ref_m (x : FVec Ideal Cert.ReferenceIdeal.S32768x1024 .f32) (r : Fin 32768) :
   (shapeCast ReferenceIdeal.S32768x1
            (multiReduction FKind.maximumf [1] ReferenceIdeal.S32768 (absf x) (4286578688#32)
              ReferenceIdeal.Gen.reduces_S32768x1024_S32768 (.inl rfl) rfl)
            ReferenceIdeal.Gen.shapeCasts_S32768_S32768x1) (ix2 r 0) =
    Finset.univ.fold max (Ideal.ofBits .f32 0xFF800000#32) fun k : Fin 1024 => (FloatOps.absf (x (ix2 r k)) : Ideal .f32) := by
  pointwise

/-- A product with a constant at an index. -/
theorem ref_mul (y : FVec Ideal Cert.ReferenceIdeal.S32768x1 .f32) (r : Fin 32768) :
    mulf y (broadcast ReferenceIdeal.S32768x1 (FloatOps.ofBits FTy.f32 991054117#32)) (ix2 r 0) = @HMul.hMul EReal EReal EReal _ (y (ix2 r 0)) (Ideal.ofBits .f32 0x3B124925#32) := rfl

/-- The reference's candidates for the scale. -/
theorem ref_p (i : Fin 253) :
   (exp2 (F := Ideal)
                  (sitofp FTy.f32
                    (subi (iota Kind.tc ReferenceIdeal.S1x253 32 [1] ReferenceIdeal.Gen.iota_S1x253_d1_w32)
                      (broadcast ReferenceIdeal.S1x253 125#32)))) (ix2 0 i) = Ideal.exp2 (((IntOp.subi (BitVec.ofNat 32 i.val) 125#32).toInt : ℝ) : EReal) := by
  pointwise
  rfl

/-- The reference's least candidate above a number. -/
theorem ref_min (v7 : FVec Ideal Cert.ReferenceIdeal.S32768x1 .f32) (v14 : FVec Ideal Cert.ReferenceIdeal.S1x253 .f32)  (r : Fin 32768) :
      (shapeCast ReferenceIdeal.S32768x1
        (multiReduction FKind.minimumf [1] ReferenceIdeal.S32768
          (select
            (cmpf CmpFPredicate.olt
              (broadcastTo ReferenceIdeal.S32768x253 v7
                ReferenceIdeal.Gen.broadcasts_S32768x1_S32768x253)
              (broadcastTo ReferenceIdeal.S32768x253 v14
                ReferenceIdeal.Gen.broadcasts_S1x253_S32768x253))
            (broadcastTo ReferenceIdeal.S32768x253
              (shapeCast ReferenceIdeal.S1x253 v14
                ReferenceIdeal.Gen.shapeCasts_S1x253_S1x253)
              ReferenceIdeal.Gen.broadcasts_S1x253_S32768x253)
            (broadcast ReferenceIdeal.S32768x253 (FloatOps.ofBits FTy.f32 2139095040#32)))
          (2139095040#32) ReferenceIdeal.Gen.reduces_S32768x253_S32768 (.inl rfl) rfl)
        ReferenceIdeal.Gen.shapeCasts_S32768_S32768x1)
      (ix2 r 0) = Finset.univ.fold min (Ideal.ofBits .f32 0x7F800000#32) fun i : Fin 253 =>
      Scalar.select (Ideal.cmp .olt (v7 (ix2 r 0)) (v14 (ix2 0 i)))
        (v14 (ix2 0 i)) (Ideal.ofBits .f32 0x7F800000#32) := by
  pointwise

/-- The reference's scale, of a number. -/
theorem ref_sel (v7 : FVec Ideal Cert.ReferenceIdeal.S32768x1 .f32) (v22 : FVec Ideal Cert.ReferenceIdeal.S32768x1 .f32) (r : Fin 32768)
   (h : v22 (ix2 r 0) = Finset.univ.fold min (Ideal.ofBits .f32 0x7F800000#32) fun i : Fin 253 =>
      Scalar.select (Ideal.cmp .olt (v7 (ix2 r 0)) (Ideal.exp2 (((IntOp.subi (BitVec.ofNat 32 i.val) 125#32).toInt : ℝ) : EReal)))
        (Ideal.exp2 (((IntOp.subi (BitVec.ofNat 32 i.val) 125#32).toInt : ℝ) : EReal)) (Ideal.ofBits .f32 0x7F800000#32)) :
    select (cmpf .olt v7 (broadcast ReferenceIdeal.S32768x1 (FloatOps.ofBits FTy.f32 8388608#32))) (broadcast ReferenceIdeal.S32768x1 (FloatOps.ofBits FTy.f32 1065353216#32)) v22 (ix2 r 0) = Cert.Scale.SC (v7 (ix2 r 0)) := by
  unfold Cert.Scale.SC
  rw [← h]
  rfl

/-- The reference's scale, of a largest absolute value. -/
theorem ref_asm (y : FVec Ideal Cert.ReferenceIdeal.S32768x1 .f32) (r : Fin 32768) (m : EReal) (hm : y (ix2 r 0) = m) :
    let v7 : FVec Ideal Cert.ReferenceIdeal.S32768x1 .f32 := mulf y (broadcast ReferenceIdeal.S32768x1 (FloatOps.ofBits FTy.f32 991054117#32))
    let v14 : FVec Ideal Cert.ReferenceIdeal.S1x253 .f32 := exp2 (F := Ideal)
                  (sitofp FTy.f32
                    (subi (iota Kind.tc ReferenceIdeal.S1x253 32 [1] ReferenceIdeal.Gen.iota_S1x253_d1_w32)
                      (broadcast ReferenceIdeal.S1x253 125#32)))
    select (cmpf .olt v7 (broadcast ReferenceIdeal.S32768x1 (FloatOps.ofBits FTy.f32 8388608#32))) (broadcast ReferenceIdeal.S32768x1 (FloatOps.ofBits FTy.f32 1065353216#32))
      (shapeCast ReferenceIdeal.S32768x1
        (multiReduction FKind.minimumf [1] ReferenceIdeal.S32768
          (select
            (cmpf CmpFPredicate.olt
              (broadcastTo ReferenceIdeal.S32768x253 v7
                ReferenceIdeal.Gen.broadcasts_S32768x1_S32768x253)
              (broadcastTo ReferenceIdeal.S32768x253 v14
                ReferenceIdeal.Gen.broadcasts_S1x253_S32768x253))
            (broadcastTo ReferenceIdeal.S32768x253
              (shapeCast ReferenceIdeal.S1x253 v14
                ReferenceIdeal.Gen.shapeCasts_S1x253_S1x253)
              ReferenceIdeal.Gen.broadcasts_S1x253_S32768x253)
            (broadcast ReferenceIdeal.S32768x253 (FloatOps.ofBits FTy.f32 2139095040#32)))
          (2139095040#32) ReferenceIdeal.Gen.reduces_S32768x253_S32768 (.inl rfl) rfl)
        ReferenceIdeal.Gen.shapeCasts_S32768_S32768x1)
    (ix2 r 0) = Cert.Scale.SC (m * Ideal.ofBits .f32 0x3B124925#32) := by
  intro v7 v14
  have hp : ∀ i, v14 (ix2 0 i) = _ := ref_p
  clear_value v14
  have hv : v7 (ix2 r 0) = m * Ideal.ofBits .f32 0x3B124925#32 := (ref_mul y r).trans (by rw [hm])
  clear_value v7
  have e1 := ref_min v7 v14 r
  simp only [hp] at e1
  exact (ref_sel v7 _ r e1).trans (congrArg Cert.Scale.SC hv)

/-- The reference's scale of a row. -/
theorem ref_scale (x : Vec Ideal Cert.ReferenceIdeal.S32768x1024 .bf16) (r : Fin 32768) :
    Cert.ReferenceIdeal.Gen.k0_pay4 (F := Ideal) x (ix2 r 0) = Cert.Scale.SC (Amax fun k => x (ix2 r k)) := by
  have h3 : ∀ k, Cert.ReferenceIdeal.Gen.k0_pay3 (F := Ideal) x (ix2 r k) = x (ix2 r k) := by
    intro k
    pointwise [Cert.ReferenceIdeal.Gen.k0_pay3]
  unfold Cert.ReferenceIdeal.Gen.k0_pay4
  have hm := ref_m (Cert.ReferenceIdeal.Gen.k0_pay3 x) r
  simp only [h3] at hm
  exact ref_asm _ r _ hm

/-- The kernel's largest absolute value of a row, over 448: chunk by chunk, then over the lanes. -/
theorem k_v (X : Vec Ideal S512x1024 .bf16) (r : Fin 512) (l : Fin 128) :
    k0_pay2 (View.ld X (Rect.unit ![0, 0] ![512, 128] inb_S512x1024_S512x128_0_0))
      (View.ld X (Rect.unit ![0, 128] ![512, 128] inb_S512x1024_S512x128_0_128))
      (View.ld X (Rect.unit ![0, 256] ![512, 128] inb_S512x1024_S512x128_0_256))
      (View.ld X (Rect.unit ![0, 384] ![512, 128] inb_S512x1024_S512x128_0_384))
      (View.ld X (Rect.unit ![0, 512] ![512, 128] inb_S512x1024_S512x128_0_512))
      (View.ld X (Rect.unit ![0, 640] ![512, 128] inb_S512x1024_S512x128_0_640))
      (View.ld X (Rect.unit ![0, 768] ![512, 128] inb_S512x1024_S512x128_0_768))
      (View.ld X (Rect.unit ![0, 896] ![512, 128] inb_S512x1024_S512x128_0_896)) (ix2 r l) = Amax fun k => X (ix2 r k) := by
  pointwise [k0_pay2]
  refine congrArg (fun z : EReal => z * Ideal.ofBits .f32 0x3B124925#32) ?_
  refine eq_of_forall_ge_iff fun c => ?_
  simp only [Finset.fold_max_le, Finset.mem_univ, forall_true_left, max_le_iff]
  have e : (∀ k : Fin 1024, (X (ix2 r k) : EReal) ≤ c ∧ -(X (ix2 r k) : EReal) ≤ c) ↔ ∀ k : Fin 1024, ((FloatOps.absf (X (ix2 r k) : Ideal .bf16) : Ideal .bf16) : EReal) ≤ c :=
    forall_congr' fun k => max_le_iff.symm
  refine and_congr_right fun _ => Iff.trans ?_ e.symm
  refine ⟨fun h k => ?_, fun h x => ⟨⟨⟨⟨⟨⟨⟨h _, h _⟩, h _⟩, h _⟩, h _⟩, h _⟩, h _⟩, h _⟩⟩
  have hk := k.isLt
  obtain ⟨⟨⟨⟨⟨⟨⟨h0, h1⟩, h2⟩, h3⟩, h4⟩, h5⟩, h6⟩, h7⟩ := h ⟨k.val % 128, by omega⟩
  obtain hq | hq | hq | hq | hq | hq | hq | hq : k.val / 128 = 0 ∨ k.val / 128 = 1 ∨ k.val / 128 = 2 ∨ k.val / 128 = 3 ∨ k.val / 128 = 4 ∨ k.val / 128 = 5 ∨ k.val / 128 = 6 ∨ k.val / 128 = 7 := by omega
  · have e : (⟨k.val % 128, by omega⟩ : Fin 1024) = k := Fin.ext (by show k.val % 128 = k.val; omega)
    rw [← e]
    exact h0
  · have e : (⟨128 + k.val % 128, by omega⟩ : Fin 1024) = k := Fin.ext (by show 128 + k.val % 128 = k.val; omega)
    rw [← e]
    exact h1
  · have e : (⟨256 + k.val % 128, by omega⟩ : Fin 1024) = k := Fin.ext (by show 256 + k.val % 128 = k.val; omega)
    rw [← e]
    exact h2
  · have e : (⟨384 + k.val % 128, by omega⟩ : Fin 1024) = k := Fin.ext (by show 384 + k.val % 128 = k.val; omega)
    rw [← e]
    exact h3
  · have e : (⟨512 + k.val % 128, by omega⟩ : Fin 1024) = k := Fin.ext (by show 512 + k.val % 128 = k.val; omega)
    rw [← e]
    exact h4
  · have e : (⟨640 + k.val % 128, by omega⟩ : Fin 1024) = k := Fin.ext (by show 640 + k.val % 128 = k.val; omega)
    rw [← e]
    exact h5
  · have e : (⟨768 + k.val % 128, by omega⟩ : Fin 1024) = k := Fin.ext (by show 768 + k.val % 128 = k.val; omega)
    rw [← e]
    exact h6
  · have e : (⟨896 + k.val % 128, by omega⟩ : Fin 1024) = k := Fin.ext (by show 896 + k.val % 128 = k.val; omega)
    rw [← e]
    exact h7

/-- One comparison of the search, on vectors of words. -/
def stepV (v : FVec Ideal S512x128 .f32) (s : BitVec 32) (b : IVec S512x128 32) : IVec S512x128 32 :=
  select (cmpf .oge v (bitcastToFloat .f32 (addi b (broadcast S512x128 s)))) (addi b (broadcast S512x128 s)) b

/-- At an index it is the comparison on words. -/
theorem stepV_at (v s b i) : stepV v s b i = Cert.Scale.stepB (v i) s (b i) := rfl

/-- The word of the scale, of the word found, on vectors. -/
def scaleV (b : IVec S512x128 32) : IVec S512x128 32 :=
  select (cmpi .slt b (broadcast S512x128 8388608#32)) (broadcast S512x128 1065353216#32) (addi (andi b (broadcast S512x128 2139095040#32)) (broadcast S512x128 8388608#32))

/-- At an index it is the word of the scale. -/
theorem scaleV_at (b i) : scaleV b i = Cert.Scale.scaleB (b i) := rfl

/-- The search on vectors. -/
def searchV (v : FVec Ideal S512x128 .f32) : IVec S512x128 32 :=
    stepV v 8388608#32 (stepV v 16777216#32 (stepV v 33554432#32 (stepV v 67108864#32 (stepV v 134217728#32 (stepV v 268435456#32 (stepV v 536870912#32 (stepV v 1073741824#32 k0_pay3)))))))

/-- The kernel's words of the scales, as vectors. -/
theorem k_words (v : FVec Ideal S512x128 .f32) : k0_pay4 v k0_pay3 1073741824#32 = scaleV (searchV v) := rfl

/-- The words of the steps. -/
theorem W_words : Cert.Scale.W 1 = 8388608#32 ∧ Cert.Scale.W 2 = 16777216#32 ∧ Cert.Scale.W 4 = 33554432#32 ∧ Cert.Scale.W 8 = 67108864#32 ∧
    Cert.Scale.W 16 = 134217728#32 ∧ Cert.Scale.W 32 = 268435456#32 ∧ Cert.Scale.W 64 = 536870912#32 ∧ Cert.Scale.W 128 = 1073741824#32 ∧ Cert.Scale.W 0 = 0#32 := by
  decide +kernel

/-- The search at an index. -/
theorem searchV_at (v : FVec Ideal S512x128 .f32) (i) : searchV v i = Cert.Scale.searchB (v i) := by
  obtain ⟨h1, h2, h3, h4, h5, h6, h7, h8, h0⟩ := W_words
  unfold searchV Cert.Scale.searchB
  rw [h1, h2, h3, h4, h5, h6, h7, h8, h0]
  rw [stepV_at, stepV_at, stepV_at, stepV_at, stepV_at, stepV_at, stepV_at, stepV_at]
  have e : (k0_pay3 : IVec S512x128 32) i = 0#32 := rfl
  rw [e]

/-- The kernel's word of a scale. -/
theorem k_word (v : FVec Ideal S512x128 .f32) (i) : k0_pay4 v k0_pay3 1073741824#32 i = Cert.Scale.scaleB (Cert.Scale.searchB (v i)) := by
  rw [k_words, scaleV_at, searchV_at]

/-- The reference's code at an index. -/
theorem ref_code (v0 : Vec Ideal Cert.ReferenceIdeal.S32768x1024 .bf16) (r : Fin 32768) (k : Fin 1024) : Cert.ReferenceIdeal.Gen.k0_pay5 (F := Ideal) v0 (ix2 r k) =
  min (Ideal.ofBits .f32 0x43E00000#32) (max (Ideal.ofBits .f32 0xC3E00000#32) (@HMul.hMul EReal EReal EReal _ (v0 (ix2 r k)) (Ideal.div (Ideal.ofBits .f32 0x3F800000#32) (Cert.ReferenceIdeal.Gen.k0_pay4 (F := Ideal) v0 (ix2 r 0) : EReal)))) := by
  refine (Cert.ReferenceIdeal.Value.piece4_0 (F := Ideal) v0 (ix2 r k)).trans ?_
  have e0 : Cert.ReferenceIdeal.Value.ix4_0 (Cert.ReferenceIdeal.Gen.r0_0.idx (ix2 r k)) = ix2 r k := by
    funext a
    refine Fin.ext ?_
    match a with
    | ⟨0, _⟩ => show 0 + 1 * r.val = r.val; omega
    | ⟨1, _⟩ => show 0 + 1 * k.val = k.val; omega
  have e1 : Cert.ReferenceIdeal.Value.ix4_1 (Cert.ReferenceIdeal.Gen.r0_0.idx (ix2 r k)) = ix2 r 0 := by
    funext a
    refine Fin.ext ?_
    match a with
    | ⟨0, _⟩ => show 0 + 1 * r.val = r.val; omega
    | ⟨1, _⟩ => rfl
  unfold Cert.ReferenceIdeal.Value.E4
  beta_reduce
  rw [e0, e1]
  rfl

/-- A finite number's size is below the bound the scale asks for. -/
theorem fin_lt : Ideal.ofBits .bf16 0x7F7F#16 * Ideal.ofBits .f32 0x3B124925#32 < Cert.Scale.P 248 := by
  rw [Cert.Scale.P_of 248 (by norm_num) (by norm_num)]
  have h : ((255 * 2 ^ 120 * (9586981 * (2 ^ 32)⁻¹) : ℝ) : EReal) < ((2 ^ 121 : ℝ) : EReal) := EReal.coe_lt_coe_iff.mpr (by norm_num)
  simpa [Ideal.ofBits, Ideal.ieee] using h

/-- The constant of the quantiser is not below zero. -/
theorem c_nonneg : 0 ≤ Ideal.ofBits .f32 0x3B124925#32 := by
  have h : ((0 : ℝ) : EReal) ≤ ((9586981 * (2 ^ 32)⁻¹ : ℝ) : EReal) := EReal.coe_le_coe_iff.mpr (by norm_num)
  simpa [Ideal.ofBits, Ideal.ieee] using h

/-- The largest absolute value over 448 is not below zero. -/
theorem V_nonneg (f : Fin 1024 → EReal) : 0 ≤ Amax f := by
  unfold Amax
  refine mul_nonneg ?_ c_nonneg
  refine Finset.le_fold_max _ |>.mpr (Or.inr ⟨0, Finset.mem_univ _, ?_⟩)
  rcases le_total 0 (f 0) with h | h
  · exact h.trans (le_max_left _ _)
  · refine le_trans ?_ (le_max_right _ _)
    rw [EReal.le_neg, neg_zero]
    exact h

/-- The largest absolute value of a finite row over 448 is below the bound the scale asks for. -/
theorem V_lt (f : Fin 1024 → EReal) (hf : ∀ k, max (f k) (-f k) ≤ Ideal.ofBits .bf16 0x7F7F#16) : Amax f < Cert.Scale.P 248 := by
  unfold Amax
  refine lt_of_le_of_lt (mul_le_mul_of_nonneg_right ?_ c_nonneg) fin_lt
  refine Finset.fold_max_le _ |>.mpr ⟨?_, fun k _ => hf k⟩
  have hbot : Ideal.ofBits .f32 0xFF800000#32 = (⊥ : EReal) := by
    simp [Ideal.ofBits, Ideal.ieee]
  rw [hbot]
  exact bot_le

/-- The precondition, read: every entry of the input is finite. -/
theorem finite (a0 : FVec Ideal Cert.Pre_x_is_finite.S8x4096x1024 .bf16) (a1 a2 a3) [Cert.Pre_x_is_finite.Facts]
   (h : Cert.Pre_x_is_finite.fn (F := Ideal) a0 a1 a2 a3 = fun _ => 1#1) (i) : max (a0 i : EReal) (-(a0 i : EReal)) ≤ Ideal.ofBits .bf16 0x7F7F#16 := by
  have h1 := congrFun h i
  pointwise [Cert.Pre_x_is_finite.fn] at h1
  by_contra hn
  have h2 : decide ((FloatOps.absf (a0 i : Ideal .bf16) : EReal) ≤ Ideal.ofBits .bf16 0x7F7F#16) = false := decide_eq_false hn
  rw [h2] at h1
  exact absurd h1 (by decide)

/-- The scale of a row. -/
def S (f : Fin 1024 → EReal) : EReal := Cert.Scale.SC (Amax f)

/-- The code of entry `k` of a row. -/
def C (f : Fin 1024 → EReal) (k : Fin 1024) : EReal :=
  min (Ideal.ofBits .f32 0x43E00000#32) (max (Ideal.ofBits .f32 0xC3E00000#32) (f k * Ideal.div (Ideal.ofBits .f32 0x3F800000#32) (S f)))

/-- Row `q` of the flattened input. -/
def row (x : FVec Ideal S8x4096x1024 .bf16) (q : Fin 32768) (k : Fin 1024) : EReal :=
  x (ix3 ⟨q.val / 4096, by omega⟩ ⟨q.val % 4096, by omega⟩ k)

/-- The codes of the input. -/
def O4 (x : FVec Ideal S8x4096x1024 .bf16) : FVec Ideal S32768x1024 .fp8e4m3 := fun i => C (row x (i 0)) (i 1)

/-- The scales of the input, a block's rows laid out four by 128. -/
def O5 (x : FVec Ideal S8x4096x1024 .bf16) : FVec Ideal S64x4x128 .f32 := fun i =>
  S (row x ⟨(i 0).val * 512 + (i 1).val * 128 + (i 2).val, by
    have h0 : (i 0).val < 64 := (i 0).isLt
    have h1 : (i 1).val < 4 := (i 1).isLt
    have h2 : (i 2).val < 128 := (i 2).isLt
    omega⟩)

/-- A row's codes times a column of the first weight's half `g`, with both scales. -/
def Z (x : FVec Ideal S8x4096x1024 .bf16) (w : FVec Ideal S1024x2x512 .fp8e4m3) (s : FVec Ideal S2x512 .f32) (g : Fin 2) (q : Fin 32768) (c : Fin 512) : EReal :=
  (∑ k : Fin 1024, @HMul.hMul EReal EReal EReal _ (C (row x q) k) (w (ix3 k g c))) * @HMul.hMul EReal EReal EReal _ (S (row x q)) (s (ix2 g c))

/-- The first half's products, shifted. -/
def O6 (x : FVec Ideal S8x4096x1024 .bf16) (w : FVec Ideal S1024x2x512 .fp8e4m3) (s : FVec Ideal S2x512 .f32) (b : FVec Ideal S512 .f32) : FVec Ideal S32768x512 .bf16 := fun i =>
  @HAdd.hAdd EReal EReal EReal _ (Z x w s 0 (i 0) (i 1)) (b (ix1 (i 1)))

/-- The second half's products, a row's 512 laid out four by 128. -/
def O7 (x : FVec Ideal S8x4096x1024 .bf16) (w : FVec Ideal S1024x2x512 .fp8e4m3) (s : FVec Ideal S2x512 .f32) : FVec Ideal S131072x128 .f32 := fun i =>
  Z x w s 1 ⟨(i 0).val / 4, by have h0 : (i 0).val < 131072 := (i 0).isLt; omega⟩
    ⟨(i 0).val % 4 * 128 + (i 1).val, by have h1 : (i 1).val < 128 := (i 1).isLt; omega⟩

end Cert.KernelIdeal.Val
end
end
-- ==== Proof.PointsReference.lean ====
module

public import Idealize.ShloMosaic.Lib.Pipeline.ValueKit
public import Idealize.ShloMosaic.Lib.Pointwise
public import proofs.«01_k».proof.Proof.PointsLemmas
public import proofs.«01_k».proof.Proof.PointsIdealFrame
public import proofs.«01_k».proof.Proof.Gen.ReferenceIdeal.Value

@[expose] public section

set_option maxRecDepth 16384

noncomputable section

namespace Cert.ReferenceIdeal.Val

open Idealize.ShloMosaic Idealize.ShloMosaic.TcCoe Idealize.SL.Sem
open Idealize.ShloMosaic.Pipeline (Dat)
open Cert.ReferenceIdeal Cert.ReferenceIdeal.Gen
open Cert.KernelIdeal.Val (row S C Z O4 O5 O6 O7 ref_code ref_scale)

/-- Where each window's block lies. -/
theorem idx : ∀ t : Fin cfg0.N,
    win0_0.index t = ![0, 0] ∧ win0_1.index t = ![0, 0, 0] ∧ win0_2.index t = ![0, 0] ∧ win0_3.index t = ![0]
    ∧ win0_4.index t = ![0, 0] ∧ win0_5.index t = ![0, 0, 0] ∧ win0_6.index t = ![0, 0] ∧ win0_7.index t = ![0, 0] :=
  (by decide +kernel : ∀ t : Fin grid0.N, _)

variable (m : (ℓ : Loc nD τ sig) → Buf (Elt Ideal) ℓ)

/-- The reference's rows are the flattened input's. -/
theorem row_eq (c : Dev nD) (t : Fin cfg0.N) (q : Fin 32768) : (fun k => (iblk m c 0 t (ix2 q k) : EReal)) = row (m ((c : Thread nD τ).loc main_arg0)) q := by
  funext k
  unfold row
  blk_point [iblk, V, idx t]

/-- The reference's weights, half by half. -/
theorem w_eq (c : Dev nD) (t : Fin cfg0.N) (k : Fin 1024) (j : Fin 512) :
   View.ld (iblk m c 1 t) r0_2 (ix3 k 0 j) = m ((c : Thread nD τ).loc main_arg1) (ix3 k 0 j)
   ∧ View.ld (iblk m c 1 t) r0_4 (ix3 k 0 j) = m ((c : Thread nD τ).loc main_arg1) (ix3 k 1 j) := by
  constructor
  · blk_point [iblk, V, idx t]
  · blk_point [iblk, V, idx t]

/-- The reference's scales of the weights. -/
theorem s_eq (c : Dev nD) (t : Fin cfg0.N) (j : Fin 512) :
   View.ld (iblk m c 2 t) r0_3 (ix2 0 j) = m ((c : Thread nD τ).loc main_arg2) (ix2 0 j)
   ∧ View.ld (iblk m c 2 t) r0_5 (ix2 0 j) = m ((c : Thread nD τ).loc main_arg2) (ix2 1 j) := by
  constructor
  · blk_point [iblk, V, idx t]
  · blk_point [iblk, V, idx t]

/-- The reference's shift. -/
theorem b_eq (c : Dev nD) (t : Fin cfg0.N) (j : Fin 512) : iblk m c 3 t (ix1 j) = m ((c : Thread nD τ).loc main_arg3) (ix1 j) := by
  blk_point [iblk, V, idx t]

/-- The reference's code of a row's entry. -/
theorem code_eq (c : Dev nD) (t : Fin cfg0.N) (q : Fin 32768) (k : Fin 1024) :
    k0_pay5 (F := Ideal) (iblk m c 0 t) (ix2 q k) = C (row (m ((c : Thread nD τ).loc main_arg0)) q) k := by
  refine (ref_code (iblk m c 0 t) q k).trans ?_
  rw [ref_scale (iblk m c 0 t) q, ← row_eq m c t q]
  rfl

/-- The reference's scale of a row. -/
theorem scale_eq (c : Dev nD) (t : Fin cfg0.N) (q : Fin 32768) :
    k0_pay4 (F := Ideal) (iblk m c 0 t) (ix2 q 0) = S (row (m ((c : Thread nD τ).loc main_arg0)) q) := by
  rw [ref_scale (iblk m c 0 t) q, ← row_eq m c t q]
  rfl

/-- A load of the whole block is the block. -/
theorem ld_whole (v : Vec Ideal S32768x1024 .bf16) : View.ld v r0_0 = v := by
  funext y
  idx_vars y
  show v _ = v _
  congr 1
  funext a
  refine Fin.ext ?_
  match a with
  | ⟨0, _⟩ => show 0 + 1 * y0.val = y0.val; omega
  | ⟨1, _⟩ => show 0 + 1 * y1.val = y1.val; omega

/-- The codes and scales of the products are those stored. -/
theorem pays (x0 x1 x2 x3) : k0_pay7 (F := Ideal) x0 x1 x2 x3 = k0_pay4 x0 ∧ k0_pay8 (F := Ideal) x0 x1 x2 x3 = k0_pay5 x0 := by
  unfold k0_pay7 k0_pay8
  rw [ld_whole]
  exact ⟨rfl, rfl⟩

/-- The reference's first half at an index. -/
theorem p1 (v0 : FVec Ideal S32768x1 .f32) (v1 : FVec Ideal S32768x1024 .fp8e4m3) (v2 : Vec Ideal S1024x1x512 .fp8e4m3) (v3 : Vec Ideal S1x512 .f32) (v4 : Vec Ideal S512 .f32) (r : Fin 32768) (k : Fin 512) :
    k0_pay1 (F := Ideal) v0 v1 v2 v3 v4 (ix2 r k) = @HAdd.hAdd EReal EReal EReal _ (@HMul.hMul EReal EReal EReal _ (∑ x : Fin 1024, @HMul.hMul EReal EReal EReal _ (v1 (ix2 r x)) (v2 (ix3 x 0 k))) (@HMul.hMul EReal EReal EReal _ (v0 (ix2 r 0)) (v3 (ix2 0 k)))) (v4 (ix1 k)) := by
  pointwise [k0_pay1]

/-- The reference's second half at an index. -/
theorem p2 (v0 : FVec Ideal S32768x1 .f32) (v1 : FVec Ideal S32768x1024 .fp8e4m3) (v2 : Vec Ideal S1024x1x512 .fp8e4m3) (v3 : Vec Ideal S1x512 .f32) (r : Fin 131072) (k : Fin 128) :
    k0_pay2 (F := Ideal) v0 v1 v2 v3 (ix2 r k) = (@HMul.hMul EReal EReal EReal _ (∑ x : Fin 1024, @HMul.hMul EReal EReal EReal _ (v1 (ix2 ⟨r.val / 4, by omega⟩ x)) (v2 (ix3 x 0 ⟨r.val % 4 * 128 + k.val, by omega⟩))) (@HMul.hMul EReal EReal EReal _ (v0 (ix2 ⟨r.val / 4, by omega⟩ 0)) (v3 (ix2 0 ⟨r.val % 4 * 128 + k.val, by omega⟩)))) := by
  pointwise [k0_pay2]

/-- The reference's scales, laid out. -/
theorem p6 (v0 : Vec Ideal S32768x1024 .bf16) (r : Fin 64) (k : Fin 4) (q : Fin 128) : k0_pay6 (F := Ideal) v0 (ix3 r k q) = k0_pay4 (F := Ideal) v0 (ix2 ⟨r.val * 512 + k.val * 128 + q.val, by omega⟩ 0) := by
  unfold k0_pay6
  generalize k0_pay4 (F := Ideal) v0 = y
  pointwise

set_option maxHeartbeats 400000 in
/-- The array of the reference's codes. -/
theorem final4 (c : Dev nD) : (dats m 0 c).arrAt 4 cfg0.N = O4 (m ((c : Thread nD τ).loc main_arg0)) := by
  refine (dats m 0 c).arrAt_eq_of_covers 4 _ (by decide +kernel) fun t _ y => ?_
  blk_simp
  rw [after0_4]
  frame_out
  idx_vars y
  generalize hO : O4 (m ((c : Thread nD τ).loc main_arg0)) = O
  refine Eq.trans (b := O (ix2 y0 y1)) ?_ ?_
  swap
  · blk_ext [idx t]
  subst hO
  exact code_eq m c t y0 y1

set_option maxHeartbeats 400000 in
/-- The array of the reference's scales. -/
theorem final5 (c : Dev nD) : (dats m 0 c).arrAt 5 cfg0.N = O5 (m ((c : Thread nD τ).loc main_arg0)) := by
  refine (dats m 0 c).arrAt_eq_of_covers 5 _ (by decide +kernel) fun t _ y => ?_
  blk_simp
  rw [after0_5]
  frame_out
  idx_vars y
  generalize hO : O5 (m ((c : Thread nD τ).loc main_arg0)) = O
  refine Eq.trans (b := O (ix3 y0 y1 y2)) ?_ ?_
  swap
  · blk_ext [idx t]
  subst hO
  exact (p6 _ _ _ _).trans (scale_eq m c t _)

set_option maxHeartbeats 400000 in
/-- The array of the reference's first half. -/
theorem final6 (c : Dev nD) : (dats m 0 c).arrAt 6 cfg0.N = O6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  idx_vars y
  generalize hO : O6 (m ((c : Thread nD τ).loc main_arg0)) (m ((c : Thread nD τ).loc main_arg1)) (m ((c : Thread nD τ).loc main_arg2)) (m ((c : Thread nD τ).loc main_arg3)) = O
  refine Eq.trans (b := O (ix2 y0 y1)) ?_ ?_
  swap
  · blk_ext [idx t]
  subst hO
  rw [(pays _ _ _ _).1, (pays _ _ _ _).2]
  refine (p1 _ _ _ _ _ _ _).trans ?_
  refine congrArg₂ (fun a b : EReal => a + b) (congrArg₂ (fun a b : EReal => a * b) (Finset.sum_congr rfl fun x _ => congrArg₂ (fun a b : EReal => a * b) ?_ ?_) (congrArg₂ (fun a b : EReal => a * b) ?_ ?_)) ?_
  · exact code_eq m c t y0 x
  · exact (w_eq m c t x y1).1
  · exact scale_eq m c t y0
  · exact (s_eq m c t y1).1
  · exact b_eq m c t y1

set_option maxHeartbeats 400000 in
/-- The array of the reference's second half. -/
theorem final7 (c : Dev nD) : (dats m 0 c).arrAt 7 cfg0.N = O7 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  idx_vars y
  generalize hO : O7 (m ((c : Thread nD τ).loc main_arg0)) (m ((c : Thread nD τ).loc main_arg1)) (m ((c : Thread nD τ).loc main_arg2)) = O
  refine Eq.trans (b := O (ix2 y0 y1)) ?_ ?_
  swap
  · blk_ext [idx t]
  subst hO
  rw [(pays _ _ _ _).1, (pays _ _ _ _).2]
  refine (p2 _ _ _ _ _ _).trans ?_
  refine (congrArg₂ (fun a b : EReal => a * b) (Finset.sum_congr rfl fun x _ => congrArg₂ (fun a b : EReal => a * b) ?_ ?_) (congrArg₂ (fun a b : EReal => a * b) ?_ ?_))
  · exact code_eq m c t _ x
  · exact (w_eq m c t x _).2
  · exact scale_eq m c t _
  · exact (s_eq m c t _).2

end Cert.ReferenceIdeal.Val
end
end
-- ==== Proof.PointsKernel.lean ====
module

public import Idealize.ShloMosaic.Lib.Pipeline.ValueKit
public import Idealize.ShloMosaic.Lib.Pointwise
public import proofs.«01_k».proof.Proof.PointsLemmas
public import proofs.«01_k».proof.Proof.PointsIdealFrame
public import proofs.«01_k».proof.Proof.Gen.ReferenceIdeal.Value

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

/-- Where each window's block lies at grid point `t`. -/
theorem idx : ∀ t : Fin cfg0.N, win0_0.index t = ![t.val, 0] ∧ win0_1.index t = ![0, 0, 0] ∧ win0_2.index t = ![0, 0] ∧ win0_3.index t = ![0, 0]
    ∧ win0_4.index t = ![t.val, 0] ∧ win0_5.index t = ![t.val, 0, 0] ∧ win0_6.index t = ![t.val, 0] ∧ win0_7.index t = ![t.val, 0] ∧ t.val < 64 :=
  (by decide +kernel : ∀ t : Fin grid0.N, _)

variable (m : (ℓ : Loc nD τ sig) → Buf (Elt Ideal) ℓ)

/-- Row `r` of block `t`. -/
abbrev at_ (t : Fin cfg0.N) (r : Fin 512) : Fin 32768 := ⟨t.val * 512 + r.val, by have := (idx t).2.2.2.2.2.2.2.2; omega⟩

/-- The rows of block `t` are the flattened input's. -/
theorem row_eq (c : Dev nD) (t : Fin cfg0.N) (r : Fin 512) : (fun k => (iblk m c 0 t (ix2 r k) : EReal)) = row (m ((c : Thread nD τ).loc main_arg0)) (at_ t r) := by
  funext k
  unfold row
  blk_point [iblk, V, idx t]

/-- The weights of the first product, transposed by the host. -/
theorem w_eq (c : Dev nD) (t : Fin cfg0.N) (g : Fin 2) (k : Fin 1024) (j : Fin 512) :
   iblk m c 1 t (ix3 g k j) = m ((c : Thread nD τ).loc main_arg1) (ix3 k g j) := by
  blk_point [iblk, V, idx t]

/-- Their scales. -/
theorem s_eq (c : Dev nD) (t : Fin cfg0.N) (g : Fin 2) (j : Fin 512) :
   iblk m c 2 t (ix2 g j) = m ((c : Thread nD τ).loc main_arg2) (ix2 g j) := by
  blk_point [iblk, V, idx t]

/-- The shift. -/
theorem b_eq (c : Dev nD) (t : Fin cfg0.N) (j : Fin 512) : iblk m c 3 t (ix2 0 j) = m ((c : Thread nD τ).loc main_arg3) (ix1 j) := by
  blk_point [iblk, V, idx t]

/-- The chunks of the input's block a row's largest absolute value is taken over. -/
abbrev M (X : Vec Ideal S512x1024 .bf16) : FVec Ideal S512x128 .f32 :=
  k0_pay2 (F := Ideal) (View.ld X (Rect.unit ![0, 0] ![512, 128] inb_S512x1024_S512x128_0_0))
    (View.ld X (Rect.unit ![0, 128] ![512, 128] inb_S512x1024_S512x128_0_128))
    (View.ld X (Rect.unit ![0, 256] ![512, 128] inb_S512x1024_S512x128_0_256))
    (View.ld X (Rect.unit ![0, 384] ![512, 128] inb_S512x1024_S512x128_0_384))
    (View.ld X (Rect.unit ![0, 512] ![512, 128] inb_S512x1024_S512x128_0_512))
    (View.ld X (Rect.unit ![0, 640] ![512, 128] inb_S512x1024_S512x128_0_640))
    (View.ld X (Rect.unit ![0, 768] ![512, 128] inb_S512x1024_S512x128_0_768))
    (View.ld X (Rect.unit ![0, 896] ![512, 128] inb_S512x1024_S512x128_0_896))

/-- The words of the scales of a block's rows. -/
abbrev B (X : Vec Ideal S512x1024 .bf16) : IVec S512x128 32 := k0_pay4 (M X) k0_pay3 1073741824#32

/-- The rows of a block are finite. -/
abbrev Fin_ (X : Vec Ideal S512x1024 .bf16) : Prop :=
  ∀ r k, max (X (ix2 r k) : EReal) (-(X (ix2 r k) : EReal)) ≤ Ideal.ofBits .bf16 0x7F7F#16

/-- A word of a scale at an index. -/
theorem B_at (X : Vec Ideal S512x1024 .bf16) (r : Fin 512) (l : Fin 128) :
    B X (ix2 r l) = Cert.Scale.scaleB (Cert.Scale.searchB (Amax fun k => X (ix2 r k))) :=
  (k_word (M X) (ix2 r l)).trans (congrArg (fun v => Cert.Scale.scaleB (Cert.Scale.searchB v)) (k_v X r l))

/-- What it denotes, and what the word of the inverse denotes. -/
theorem B_scale (X : Vec Ideal S512x1024 .bf16) (hX : Fin_ X) (r : Fin 512) (l : Fin 128) :
    Ideal.ofBits .f32 (B X (ix2 r l)) = S (fun k => X (ix2 r k))
    ∧ Ideal.ofBits .f32 (IntOp.subi 2130706432#32 (B X (ix2 r l))) = Ideal.div (Ideal.ofBits .f32 0x3F800000#32) (S fun k => X (ix2 r k))
    ∧ 0 ≤ S (fun k => X (ix2 r k)) := by
  rw [B_at]
  exact Cert.Scale.scale _ (V_nonneg _) (V_lt _ (hX r))

/-- A code, of an entry and the inverse of its scale. -/
def Q (a b : EReal) : EReal := min (Ideal.ofBits .f32 0x43E00000#32) (max (Ideal.ofBits .f32 0xC3E00000#32) (a * b))

/-- A chunk of codes at an index. -/
theorem q10 (v : FVec Ideal S512x128 .bf16) (w : Vec Ideal S512x128 .bf16) (r : Fin 512) (k : Fin 128) :
    k0_pay10 (F := Ideal) v w (ix2 r k) = Q (w (ix2 r k)) (v (ix2 r k)) := by
  unfold Q
  pointwise [k0_pay10]

/-- A chunk of codes at an index. -/
theorem q11 (v : FVec Ideal S512x128 .bf16) (w : Vec Ideal S512x128 .bf16) (r : Fin 512) (k : Fin 128) :
    k0_pay11 (F := Ideal) v w (ix2 r k) = Q (w (ix2 r k)) (v (ix2 r k)) := by
  unfold Q
  pointwise [k0_pay11]

/-- A chunk of codes at an index. -/
theorem q12 (v : FVec Ideal S512x128 .bf16) (w : Vec Ideal S512x128 .bf16) (r : Fin 512) (k : Fin 128) :
    k0_pay12 (F := Ideal) v w (ix2 r k) = Q (w (ix2 r k)) (v (ix2 r k)) := by
  unfold Q
  pointwise [k0_pay12]

/-- A chunk of codes at an index. -/
theorem q15 (v : FVec Ideal S512x128 .bf16) (w : Vec Ideal S512x128 .bf16) (r : Fin 512) (k : Fin 128) :
    k0_pay15 (F := Ideal) v w (ix2 r k) = Q (w (ix2 r k)) (v (ix2 r k)) := by
  unfold Q
  pointwise [k0_pay15]

/-- A chunk of codes at an index. -/
theorem q7 (b : IVec S512x128 32) (w : Vec Ideal S512x128 .bf16) (r : Fin 512) (k : Fin 128) :
    k0_pay7 (F := Ideal) b w (ix2 r k) = Q (w (ix2 r k)) (k0_pay6 (F := Ideal) b (ix2 r k)) := by
  unfold Q k0_pay7
  generalize k0_pay6 (F := Ideal) b = v
  pointwise

/-- A chunk of codes at an index. -/
theorem q8 (b : IVec S512x128 32) (w : Vec Ideal S512x128 .bf16) (r : Fin 512) (k : Fin 128) :
    k0_pay8 (F := Ideal) b w (ix2 r k) = Q (w (ix2 r k)) (k0_pay6 (F := Ideal) b (ix2 r k)) := by
  unfold Q k0_pay8
  generalize k0_pay6 (F := Ideal) b = v
  pointwise

/-- A chunk of codes at an index. -/
theorem q9 (b : IVec S512x128 32) (w : Vec Ideal S512x128 .bf16) (r : Fin 512) (k : Fin 128) :
    k0_pay9 (F := Ideal) b w (ix2 r k) = Q (w (ix2 r k)) (k0_pay6 (F := Ideal) b (ix2 r k)) := by
  unfold Q k0_pay9
  generalize k0_pay6 (F := Ideal) b = v
  pointwise

/-- A chunk of codes at an index. -/
theorem q14 (v : FVec Ideal S512x128 .bf16) (w : Vec Ideal S512x128 .bf16) (r : Fin 512) (k : Fin 128) :
    k0_pay14 (F := Ideal) (k0_pay13 v w) (FloatOps.ofBits FTy.f32 3286237184#32) (FloatOps.ofBits FTy.f32 1138753536#32) (ix2 r k) = Q (w (ix2 r k)) (v (ix2 r k)) := by
  unfold Q
  pointwise [k0_pay13, k0_pay14]

/-- The codes a block's body stores, chunk by chunk. -/
abbrev L4 (X : Vec Ideal S512x1024 .bf16) (b : IVec S512x128 32) (v : FVec Ideal S512x128 .bf16) : List (View.Piece (Elt Ideal) S512x1024 .fp8e4m3) :=
      [⟨Rect.unit ![0, 896] ![512, 128] inb_S512x1024_S512x128_0_896,
          k0_pay15 (F := Ideal) v (View.ld X (Rect.unit ![0, 896] ![512, 128] inb_S512x1024_S512x128_0_896))⟩,
        ⟨Rect.unit ![0, 768] ![512, 128] inb_S512x1024_S512x128_0_768,
          k0_pay14 (F := Ideal) (k0_pay13 v (View.ld X (Rect.unit ![0, 768] ![512, 128] inb_S512x1024_S512x128_0_768)))
            (FloatOps.ofBits FTy.f32 3286237184#32) (FloatOps.ofBits FTy.f32 1138753536#32)⟩,
        ⟨Rect.unit ![0, 640] ![512, 128] inb_S512x1024_S512x128_0_640,
          k0_pay12 (F := Ideal) v (View.ld X (Rect.unit ![0, 640] ![512, 128] inb_S512x1024_S512x128_0_640))⟩,
        ⟨Rect.unit ![0, 512] ![512, 128] inb_S512x1024_S512x128_0_512,
          k0_pay11 (F := Ideal) v (View.ld X (Rect.unit ![0, 512] ![512, 128] inb_S512x1024_S512x128_0_512))⟩,
        ⟨Rect.unit ![0, 384] ![512, 128] inb_S512x1024_S512x128_0_384,
          k0_pay10 (F := Ideal) v (View.ld X (Rect.unit ![0, 384] ![512, 128] inb_S512x1024_S512x128_0_384))⟩,
        ⟨Rect.unit ![0, 256] ![512, 128] inb_S512x1024_S512x128_0_256,
          k0_pay9 (F := Ideal) b (View.ld X (Rect.unit ![0, 256] ![512, 128] inb_S512x1024_S512x128_0_256))⟩,
        ⟨Rect.unit ![0, 128] ![512, 128] inb_S512x1024_S512x128_0_128,
          k0_pay8 (F := Ideal) b (View.ld X (Rect.unit ![0, 128] ![512, 128] inb_S512x1024_S512x128_0_128))⟩,
        ⟨Rect.unit ![0, 0] ![512, 128] inb_S512x1024_S512x128_0_0,
          k0_pay7 (F := Ideal) b (View.ld X (Rect.unit ![0, 0] ![512, 128] inb_S512x1024_S512x128_0_0))⟩]

/-- The codes the chunks leave. -/
def G4 (X : Vec Ideal S512x1024 .bf16) (inv : Fin 512 → EReal) : FVec Ideal S512x1024 .fp8e4m3 := fun i => Q (X i) (inv (i 0))

/-- They are the entries times the inverses of the scales, clipped. -/
theorem canon4 (X : Vec Ideal S512x1024 .bf16) (b : IVec S512x128 32) (v : FVec Ideal S512x128 .bf16) (inv : Fin 512 → EReal)
    (hv : ∀ r l, v (ix2 r l) = inv r) (hb : k0_pay6 (F := Ideal) b = v) (y) : View.canon (L4 X b v) y = G4 X inv y := by
  have e : ∀ (w w' v v' : EReal), w = w' → v = v' → Q w v = Q w' v' := fun _ _ _ _ h h' => by rw [h, h']
  refine View.canon_apply_of_pieces (G4 X inv) _ ?_ y (View.cover_of_tiledL (L4 X b v) S512x128.size (by sl_kernel_rfl) y)
  intro p hp
  simp only [List.mem_cons, List.not_mem_nil, or_false] at hp
  rcases hp with rfl | rfl | rfl | rfl | rfl | rfl | rfl | rfl <;> intro x <;> idx_vars x
  · exact (q15 _ _ _ _).trans (e _ _ _ _ rfl ((hv _ _).trans (congrArg inv (Fin.ext (by show x0.val = 0 + 1 * x0.val; omega)))))
  · exact (q14 _ _ _ _).trans (e _ _ _ _ rfl ((hv _ _).trans (congrArg inv (Fin.ext (by show x0.val = 0 + 1 * x0.val; omega)))))
  · exact (q12 _ _ _ _).trans (e _ _ _ _ rfl ((hv _ _).trans (congrArg inv (Fin.ext (by show x0.val = 0 + 1 * x0.val; omega)))))
  · exact (q11 _ _ _ _).trans (e _ _ _ _ rfl ((hv _ _).trans (congrArg inv (Fin.ext (by show x0.val = 0 + 1 * x0.val; omega)))))
  · exact (q10 _ _ _ _).trans (e _ _ _ _ rfl ((hv _ _).trans (congrArg inv (Fin.ext (by show x0.val = 0 + 1 * x0.val; omega)))))
  · exact (q9 _ _ _ _).trans (e _ _ _ _ rfl (((congrFun hb _).trans (hv _ _)).trans (congrArg inv (Fin.ext (by show x0.val = 0 + 1 * x0.val; omega)))))
  · exact (q8 _ _ _ _).trans (e _ _ _ _ rfl (((congrFun hb _).trans (hv _ _)).trans (congrArg inv (Fin.ext (by show x0.val = 0 + 1 * x0.val; omega)))))
  · exact (q7 _ _ _ _).trans (e _ _ _ _ rfl (((congrFun hb _).trans (hv _ _)).trans (congrArg inv (Fin.ext (by show x0.val = 0 + 1 * x0.val; omega)))))

/-- When an entry lies on the diagonal that starts at row `8 j`. -/
theorem on_diag : ∀ (r : Fin 128) (x : Fin 8) (j : Fin 16),
    IntOp.cmpi CmpIPredicate.eq (IntOp.subi (BitVec.ofNat 32 r.val) (BitVec.ofNat 32 x.val)) (BitVec.ofNat 32 (8 * j.val)) = if r.val = 8 * j.val + x.val then 1#1 else 0#1 := by
  decide +kernel

/-- The entry of a diagonal, read by comparisons and a maximum over eight rows. -/
theorem diag (r : Fin 128) (A : EReal) (hA : 0 ≤ A) (z : EReal) (hz : z = 0) (bot : EReal) (hbot : bot ≤ 0)
   (f0 : Fin 8 → EReal) (f1 : Fin 8 → EReal) (f2 : Fin 8 → EReal) (f3 : Fin 8 → EReal) (f4 : Fin 8 → EReal) (f5 : Fin 8 → EReal) (f6 : Fin 8 → EReal) (f7 : Fin 8 → EReal) (f8 : Fin 8 → EReal) (f9 : Fin 8 → EReal) (f10 : Fin 8 → EReal) (f11 : Fin 8 → EReal) (f12 : Fin 8 → EReal) (f13 : Fin 8 → EReal) (f14 : Fin 8 → EReal) (f15 : Fin 8 → EReal)
   (h0 : ∀ x : Fin 8, r.val = 0 + x.val → f0 x = A) (h1 : ∀ x : Fin 8, r.val = 8 + x.val → f1 x = A) (h2 : ∀ x : Fin 8, r.val = 16 + x.val → f2 x = A) (h3 : ∀ x : Fin 8, r.val = 24 + x.val → f3 x = A) (h4 : ∀ x : Fin 8, r.val = 32 + x.val → f4 x = A) (h5 : ∀ x : Fin 8, r.val = 40 + x.val → f5 x = A) (h6 : ∀ x : Fin 8, r.val = 48 + x.val → f6 x = A) (h7 : ∀ x : Fin 8, r.val = 56 + x.val → f7 x = A) (h8 : ∀ x : Fin 8, r.val = 64 + x.val → f8 x = A) (h9 : ∀ x : Fin 8, r.val = 72 + x.val → f9 x = A) (h10 : ∀ x : Fin 8, r.val = 80 + x.val → f10 x = A) (h11 : ∀ x : Fin 8, r.val = 88 + x.val → f11 x = A) (h12 : ∀ x : Fin 8, r.val = 96 + x.val → f12 x = A) (h13 : ∀ x : Fin 8, r.val = 104 + x.val → f13 x = A) (h14 : ∀ x : Fin 8, r.val = 112 + x.val → f14 x = A) (h15 : ∀ x : Fin 8, r.val = 120 + x.val → f15 x = A) :
   Finset.univ.fold max bot (fun x : Fin 8 =>
    Scalar.select (IntOp.cmpi CmpIPredicate.eq (IntOp.subi (BitVec.ofNat 32 r.val) (BitVec.ofNat 32 x.val)) 120#32) (f15 x) (Scalar.select (IntOp.cmpi CmpIPredicate.eq (IntOp.subi (BitVec.ofNat 32 r.val) (BitVec.ofNat 32 x.val)) 112#32) (f14 x) (Scalar.select (IntOp.cmpi CmpIPredicate.eq (IntOp.subi (BitVec.ofNat 32 r.val) (BitVec.ofNat 32 x.val)) 104#32) (f13 x) (Scalar.select (IntOp.cmpi CmpIPredicate.eq (IntOp.subi (BitVec.ofNat 32 r.val) (BitVec.ofNat 32 x.val)) 96#32) (f12 x) (Scalar.select (IntOp.cmpi CmpIPredicate.eq (IntOp.subi (BitVec.ofNat 32 r.val) (BitVec.ofNat 32 x.val)) 88#32) (f11 x) (Scalar.select (IntOp.cmpi CmpIPredicate.eq (IntOp.subi (BitVec.ofNat 32 r.val) (BitVec.ofNat 32 x.val)) 80#32) (f10 x) (Scalar.select (IntOp.cmpi CmpIPredicate.eq (IntOp.subi (BitVec.ofNat 32 r.val) (BitVec.ofNat 32 x.val)) 72#32) (f9 x) (Scalar.select (IntOp.cmpi CmpIPredicate.eq (IntOp.subi (BitVec.ofNat 32 r.val) (BitVec.ofNat 32 x.val)) 64#32) (f8 x) (Scalar.select (IntOp.cmpi CmpIPredicate.eq (IntOp.subi (BitVec.ofNat 32 r.val) (BitVec.ofNat 32 x.val)) 56#32) (f7 x) (Scalar.select (IntOp.cmpi CmpIPredicate.eq (IntOp.subi (BitVec.ofNat 32 r.val) (BitVec.ofNat 32 x.val)) 48#32) (f6 x) (Scalar.select (IntOp.cmpi CmpIPredicate.eq (IntOp.subi (BitVec.ofNat 32 r.val) (BitVec.ofNat 32 x.val)) 40#32) (f5 x) (Scalar.select (IntOp.cmpi CmpIPredicate.eq (IntOp.subi (BitVec.ofNat 32 r.val) (BitVec.ofNat 32 x.val)) 32#32) (f4 x) (Scalar.select (IntOp.cmpi CmpIPredicate.eq (IntOp.subi (BitVec.ofNat 32 r.val) (BitVec.ofNat 32 x.val)) 24#32) (f3 x) (Scalar.select (IntOp.cmpi CmpIPredicate.eq (IntOp.subi (BitVec.ofNat 32 r.val) (BitVec.ofNat 32 x.val)) 16#32) (f2 x) (Scalar.select (IntOp.cmpi CmpIPredicate.eq (IntOp.subi (BitVec.ofNat 32 r.val) (BitVec.ofNat 32 x.val)) 8#32) (f1 x) (Scalar.select (IntOp.cmpi CmpIPredicate.eq (IntOp.subi (BitVec.ofNat 32 r.val) (BitVec.ofNat 32 x.val)) 0#32) (f0 x) (z))))))))))))))))) = A := by
  have hn : ∀ x : Fin 8, Scalar.select (IntOp.cmpi CmpIPredicate.eq (IntOp.subi (BitVec.ofNat 32 r.val) (BitVec.ofNat 32 x.val)) 120#32) (f15 x) (Scalar.select (IntOp.cmpi CmpIPredicate.eq (IntOp.subi (BitVec.ofNat 32 r.val) (BitVec.ofNat 32 x.val)) 112#32) (f14 x) (Scalar.select (IntOp.cmpi CmpIPredicate.eq (IntOp.subi (BitVec.ofNat 32 r.val) (BitVec.ofNat 32 x.val)) 104#32) (f13 x) (Scalar.select (IntOp.cmpi CmpIPredicate.eq (IntOp.subi (BitVec.ofNat 32 r.val) (BitVec.ofNat 32 x.val)) 96#32) (f12 x) (Scalar.select (IntOp.cmpi CmpIPredicate.eq (IntOp.subi (BitVec.ofNat 32 r.val) (BitVec.ofNat 32 x.val)) 88#32) (f11 x) (Scalar.select (IntOp.cmpi CmpIPredicate.eq (IntOp.subi (BitVec.ofNat 32 r.val) (BitVec.ofNat 32 x.val)) 80#32) (f10 x) (Scalar.select (IntOp.cmpi CmpIPredicate.eq (IntOp.subi (BitVec.ofNat 32 r.val) (BitVec.ofNat 32 x.val)) 72#32) (f9 x) (Scalar.select (IntOp.cmpi CmpIPredicate.eq (IntOp.subi (BitVec.ofNat 32 r.val) (BitVec.ofNat 32 x.val)) 64#32) (f8 x) (Scalar.select (IntOp.cmpi CmpIPredicate.eq (IntOp.subi (BitVec.ofNat 32 r.val) (BitVec.ofNat 32 x.val)) 56#32) (f7 x) (Scalar.select (IntOp.cmpi CmpIPredicate.eq (IntOp.subi (BitVec.ofNat 32 r.val) (BitVec.ofNat 32 x.val)) 48#32) (f6 x) (Scalar.select (IntOp.cmpi CmpIPredicate.eq (IntOp.subi (BitVec.ofNat 32 r.val) (BitVec.ofNat 32 x.val)) 40#32) (f5 x) (Scalar.select (IntOp.cmpi CmpIPredicate.eq (IntOp.subi (BitVec.ofNat 32 r.val) (BitVec.ofNat 32 x.val)) 32#32) (f4 x) (Scalar.select (IntOp.cmpi CmpIPredicate.eq (IntOp.subi (BitVec.ofNat 32 r.val) (BitVec.ofNat 32 x.val)) 24#32) (f3 x) (Scalar.select (IntOp.cmpi CmpIPredicate.eq (IntOp.subi (BitVec.ofNat 32 r.val) (BitVec.ofNat 32 x.val)) 16#32) (f2 x) (Scalar.select (IntOp.cmpi CmpIPredicate.eq (IntOp.subi (BitVec.ofNat 32 r.val) (BitVec.ofNat 32 x.val)) 8#32) (f1 x) (Scalar.select (IntOp.cmpi CmpIPredicate.eq (IntOp.subi (BitVec.ofNat 32 r.val) (BitVec.ofNat 32 x.val)) 0#32) (f0 x) (z)))))))))))))))) = if r.val % 8 = x.val then A else 0 := by
    intro x
    have c0 := on_diag r x 0
    change IntOp.cmpi _ _ 0#32 = if r.val = 0 + x.val then 1#1 else 0#1 at c0
    rw [c0]
    have c1 := on_diag r x 1
    change IntOp.cmpi _ _ 8#32 = if r.val = 8 + x.val then 1#1 else 0#1 at c1
    rw [c1]
    have c2 := on_diag r x 2
    change IntOp.cmpi _ _ 16#32 = if r.val = 16 + x.val then 1#1 else 0#1 at c2
    rw [c2]
    have c3 := on_diag r x 3
    change IntOp.cmpi _ _ 24#32 = if r.val = 24 + x.val then 1#1 else 0#1 at c3
    rw [c3]
    have c4 := on_diag r x 4
    change IntOp.cmpi _ _ 32#32 = if r.val = 32 + x.val then 1#1 else 0#1 at c4
    rw [c4]
    have c5 := on_diag r x 5
    change IntOp.cmpi _ _ 40#32 = if r.val = 40 + x.val then 1#1 else 0#1 at c5
    rw [c5]
    have c6 := on_diag r x 6
    change IntOp.cmpi _ _ 48#32 = if r.val = 48 + x.val then 1#1 else 0#1 at c6
    rw [c6]
    have c7 := on_diag r x 7
    change IntOp.cmpi _ _ 56#32 = if r.val = 56 + x.val then 1#1 else 0#1 at c7
    rw [c7]
    have c8 := on_diag r x 8
    change IntOp.cmpi _ _ 64#32 = if r.val = 64 + x.val then 1#1 else 0#1 at c8
    rw [c8]
    have c9 := on_diag r x 9
    change IntOp.cmpi _ _ 72#32 = if r.val = 72 + x.val then 1#1 else 0#1 at c9
    rw [c9]
    have c10 := on_diag r x 10
    change IntOp.cmpi _ _ 80#32 = if r.val = 80 + x.val then 1#1 else 0#1 at c10
    rw [c10]
    have c11 := on_diag r x 11
    change IntOp.cmpi _ _ 88#32 = if r.val = 88 + x.val then 1#1 else 0#1 at c11
    rw [c11]
    have c12 := on_diag r x 12
    change IntOp.cmpi _ _ 96#32 = if r.val = 96 + x.val then 1#1 else 0#1 at c12
    rw [c12]
    have c13 := on_diag r x 13
    change IntOp.cmpi _ _ 104#32 = if r.val = 104 + x.val then 1#1 else 0#1 at c13
    rw [c13]
    have c14 := on_diag r x 14
    change IntOp.cmpi _ _ 112#32 = if r.val = 112 + x.val then 1#1 else 0#1 at c14
    rw [c14]
    have c15 := on_diag r x 15
    change IntOp.cmpi _ _ 120#32 = if r.val = 120 + x.val then 1#1 else 0#1 at c15
    rw [c15]
    have hr := r.isLt
    have hx := x.isLt
    have sel : ∀ (p : Prop) [Decidable p] (a b : EReal), Scalar.select (if p then 1#1 else 0#1) a b = if p then a else b := by
      intro p _ a b
      by_cases h : p
      · rw [if_pos h, if_pos h]; rfl
      · rw [if_neg h, if_neg h]; rfl
    simp only [sel]
    by_cases d15 : r.val = 120 + x.val
    · rw [if_pos d15, h15 x d15, if_pos (by omega)]
    rw [if_neg d15]
    by_cases d14 : r.val = 112 + x.val
    · rw [if_pos d14, h14 x d14, if_pos (by omega)]
    rw [if_neg d14]
    by_cases d13 : r.val = 104 + x.val
    · rw [if_pos d13, h13 x d13, if_pos (by omega)]
    rw [if_neg d13]
    by_cases d12 : r.val = 96 + x.val
    · rw [if_pos d12, h12 x d12, if_pos (by omega)]
    rw [if_neg d12]
    by_cases d11 : r.val = 88 + x.val
    · rw [if_pos d11, h11 x d11, if_pos (by omega)]
    rw [if_neg d11]
    by_cases d10 : r.val = 80 + x.val
    · rw [if_pos d10, h10 x d10, if_pos (by omega)]
    rw [if_neg d10]
    by_cases d9 : r.val = 72 + x.val
    · rw [if_pos d9, h9 x d9, if_pos (by omega)]
    rw [if_neg d9]
    by_cases d8 : r.val = 64 + x.val
    · rw [if_pos d8, h8 x d8, if_pos (by omega)]
    rw [if_neg d8]
    by_cases d7 : r.val = 56 + x.val
    · rw [if_pos d7, h7 x d7, if_pos (by omega)]
    rw [if_neg d7]
    by_cases d6 : r.val = 48 + x.val
    · rw [if_pos d6, h6 x d6, if_pos (by omega)]
    rw [if_neg d6]
    by_cases d5 : r.val = 40 + x.val
    · rw [if_pos d5, h5 x d5, if_pos (by omega)]
    rw [if_neg d5]
    by_cases d4 : r.val = 32 + x.val
    · rw [if_pos d4, h4 x d4, if_pos (by omega)]
    rw [if_neg d4]
    by_cases d3 : r.val = 24 + x.val
    · rw [if_pos d3, h3 x d3, if_pos (by omega)]
    rw [if_neg d3]
    by_cases d2 : r.val = 16 + x.val
    · rw [if_pos d2, h2 x d2, if_pos (by omega)]
    rw [if_neg d2]
    by_cases d1 : r.val = 8 + x.val
    · rw [if_pos d1, h1 x d1, if_pos (by omega)]
    rw [if_neg d1]
    by_cases d0 : r.val = 0 + x.val
    · rw [if_pos d0, h0 x d0, if_pos (by omega)]
    rw [if_neg d0]
    rw [if_neg (by omega), hz]
  simp only [hn]
  refine eq_of_forall_ge_iff fun c => ?_
  rw [Finset.fold_max_le]
  constructor
  · rintro ⟨-, h⟩
    have := h ⟨r.val % 8, by omega⟩ (Finset.mem_univ _)
    rwa [if_pos rfl] at this
  · intro h
    refine ⟨hbot.trans (hA.trans h), fun x _ => ?_⟩
    split_ifs
    · exact h
    · exact hA.trans h

/-- Row 0 of a block's scales, laid along the lanes. -/
theorem lane0 (s : FVec Ideal S512x128 .f32) (A : EReal) (hA : 0 ≤ A) (r : Fin 128) (hs : s (ix2 ⟨0 + r.val, by omega⟩ r) = A) :
    k0_pay34 (F := Ideal)
            (k0_pay33 (k0_pay16 s) (k0_pay17 s) (k0_pay18 s) (k0_pay19 s) (k0_pay20 s) (k0_pay21 s) (k0_pay22 s)
              (k0_pay23 s) (k0_pay24 s) (k0_pay25 s) (k0_pay26 s) (k0_pay27 s) (k0_pay28 s) (k0_pay29 s) k0_pay30
              (k0_pay31 s) k0_pay32) (ix3 0 0 r) = A := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  refine diag r A hA _ ?_ _ ?_ _ _ _ _ _ _ _ _ _ _ _ _ _ _ _ _ ?_ ?_ ?_ ?_ ?_ ?_ ?_ ?_ ?_ ?_ ?_ ?_ ?_ ?_ ?_ ?_
  · rfl
  · have hbot : Ideal.ofBits .f32 0xFF800000#32 = (⊥ : EReal) := by
      simp [Ideal.ofBits, Ideal.ieee]
    rw [hbot]
    exact bot_le
  · exact fun x hx => (congrArg (fun q => s (ix2 q r)) (Fin.ext (by show x.val = 0 + r.val; omega))).trans hs
  · exact fun x hx => (congrArg (fun q => s (ix2 q r)) (Fin.ext (by show 8 + x.val = 0 + r.val; omega))).trans hs
  · exact fun x hx => (congrArg (fun q => s (ix2 q r)) (Fin.ext (by show 16 + x.val = 0 + r.val; omega))).trans hs
  · exact fun x hx => (congrArg (fun q => s (ix2 q r)) (Fin.ext (by show 24 + x.val = 0 + r.val; omega))).trans hs
  · exact fun x hx => (congrArg (fun q => s (ix2 q r)) (Fin.ext (by show 32 + x.val = 0 + r.val; omega))).trans hs
  · exact fun x hx => (congrArg (fun q => s (ix2 q r)) (Fin.ext (by show 40 + x.val = 0 + r.val; omega))).trans hs
  · exact fun x hx => (congrArg (fun q => s (ix2 q r)) (Fin.ext (by show 48 + x.val = 0 + r.val; omega))).trans hs
  · exact fun x hx => (congrArg (fun q => s (ix2 q r)) (Fin.ext (by show 56 + x.val = 0 + r.val; omega))).trans hs
  · exact fun x hx => (congrArg (fun q => s (ix2 q r)) (Fin.ext (by show 64 + x.val = 0 + r.val; omega))).trans hs
  · exact fun x hx => (congrArg (fun q => s (ix2 q r)) (Fin.ext (by show 72 + x.val = 0 + r.val; omega))).trans hs
  · exact fun x hx => (congrArg (fun q => s (ix2 q r)) (Fin.ext (by show 80 + x.val = 0 + r.val; omega))).trans hs
  · exact fun x hx => (congrArg (fun q => s (ix2 q r)) (Fin.ext (by show 88 + x.val = 0 + r.val; omega))).trans hs
  · exact fun x hx => (congrArg (fun q => s (ix2 q r)) (Fin.ext (by show 96 + x.val = 0 + r.val; omega))).trans hs
  · exact fun x hx => (congrArg (fun q => s (ix2 q r)) (Fin.ext (by show 104 + x.val = 0 + r.val; omega))).trans hs
  · exact fun x hx => (congrArg (fun q => s (ix2 q r)) (Fin.ext (by show 112 + x.val = 0 + r.val; omega))).trans hs
  · exact fun x hx => (congrArg (fun q => s (ix2 q r)) (Fin.ext (by show 120 + x.val = 0 + r.val; omega))).trans hs

/-- Row 1 of a block's scales, laid along the lanes. -/
theorem lane1 (s : FVec Ideal S512x128 .f32) (A : EReal) (hA : 0 ≤ A) (r : Fin 128) (hs : s (ix2 ⟨128 + r.val, by omega⟩ r) = A) :
    k0_pay46 (F := Ideal) (k0_pay35 s) (k0_pay36 s) (k0_pay37 s) (k0_pay38 s) (k0_pay39 s) (k0_pay40 s) (k0_pay41 s)
            (k0_pay42 s) k0_pay43 (k0_pay44 s) k0_pay45 (ix3 0 0 r) = A := by
  pointwise [k0_pay35, k0_pay36, k0_pay37, k0_pay38, k0_pay39, k0_pay40, k0_pay41, k0_pay42, k0_pay43, k0_pay44, k0_pay45, k0_pay46]
  refine diag r A hA _ ?_ _ ?_ _ _ _ _ _ _ _ _ _ _ _ _ _ _ _ _ ?_ ?_ ?_ ?_ ?_ ?_ ?_ ?_ ?_ ?_ ?_ ?_ ?_ ?_ ?_ ?_
  · rfl
  · have hbot : Ideal.ofBits .f32 0xFF800000#32 = (⊥ : EReal) := by
      simp [Ideal.ofBits, Ideal.ieee]
    rw [hbot]
    exact bot_le
  · exact fun x hx => (congrArg (fun q => s (ix2 q r)) (Fin.ext (by show 128 + x.val = 128 + r.val; omega))).trans hs
  · exact fun x hx => (congrArg (fun q => s (ix2 q r)) (Fin.ext (by show 136 + x.val = 128 + r.val; omega))).trans hs
  · exact fun x hx => (congrArg (fun q => s (ix2 q r)) (Fin.ext (by show 144 + x.val = 128 + r.val; omega))).trans hs
  · exact fun x hx => (congrArg (fun q => s (ix2 q r)) (Fin.ext (by show 152 + x.val = 128 + r.val; omega))).trans hs
  · exact fun x hx => (congrArg (fun q => s (ix2 q r)) (Fin.ext (by show 160 + x.val = 128 + r.val; omega))).trans hs
  · exact fun x hx => (congrArg (fun q => s (ix2 q r)) (Fin.ext (by show 168 + x.val = 128 + r.val; omega))).trans hs
  · exact fun x hx => (congrArg (fun q => s (ix2 q r)) (Fin.ext (by show 176 + x.val = 128 + r.val; omega))).trans hs
  · exact fun x hx => (congrArg (fun q => s (ix2 q r)) (Fin.ext (by show 184 + x.val = 128 + r.val; omega))).trans hs
  · exact fun x hx => (congrArg (fun q => s (ix2 q r)) (Fin.ext (by show 192 + x.val = 128 + r.val; omega))).trans hs
  · exact fun x hx => (congrArg (fun q => s (ix2 q r)) (Fin.ext (by show 200 + x.val = 128 + r.val; omega))).trans hs
  · exact fun x hx => (congrArg (fun q => s (ix2 q r)) (Fin.ext (by show 208 + x.val = 128 + r.val; omega))).trans hs
  · exact fun x hx => (congrArg (fun q => s (ix2 q r)) (Fin.ext (by show 216 + x.val = 128 + r.val; omega))).trans hs
  · exact fun x hx => (congrArg (fun q => s (ix2 q r)) (Fin.ext (by show 224 + x.val = 128 + r.val; omega))).trans hs
  · exact fun x hx => (congrArg (fun q => s (ix2 q r)) (Fin.ext (by show 232 + x.val = 128 + r.val; omega))).trans hs
  · exact fun x hx => (congrArg (fun q => s (ix2 q r)) (Fin.ext (by show 240 + x.val = 128 + r.val; omega))).trans hs
  · exact fun x hx => (congrArg (fun q => s (ix2 q r)) (Fin.ext (by show 248 + x.val = 128 + r.val; omega))).trans hs

/-- Row 2 of a block's scales, laid along the lanes. -/
theorem lane2 (s : FVec Ideal S512x128 .f32) (A : EReal) (hA : 0 ≤ A) (r : Fin 128) (hs : s (ix2 ⟨256 + r.val, by omega⟩ r) = A) :
    k0_pay66 (F := Ideal) (k0_pay62 s) k0_pay63
            (k0_pay65 (k0_pay47 s) (k0_pay48 s) (k0_pay49 s) (k0_pay50 s) (k0_pay51 s) (k0_pay52 s) (k0_pay53 s)
              (k0_pay54 s) (k0_pay55 s) (k0_pay56 s) (k0_pay57 s) (k0_pay58 s) (k0_pay59 s) (k0_pay60 s) (k0_pay61 s)
              k0_pay63 k0_pay64) (ix3 0 0 r) = A := by
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
  refine diag r A hA _ ?_ _ ?_ _ _ _ _ _ _ _ _ _ _ _ _ _ _ _ _ ?_ ?_ ?_ ?_ ?_ ?_ ?_ ?_ ?_ ?_ ?_ ?_ ?_ ?_ ?_ ?_
  · rfl
  · have hbot : Ideal.ofBits .f32 0xFF800000#32 = (⊥ : EReal) := by
      simp [Ideal.ofBits, Ideal.ieee]
    rw [hbot]
    exact bot_le
  · exact fun x hx => (congrArg (fun q => s (ix2 q r)) (Fin.ext (by show 256 + x.val = 256 + r.val; omega))).trans hs
  · exact fun x hx => (congrArg (fun q => s (ix2 q r)) (Fin.ext (by show 264 + x.val = 256 + r.val; omega))).trans hs
  · exact fun x hx => (congrArg (fun q => s (ix2 q r)) (Fin.ext (by show 272 + x.val = 256 + r.val; omega))).trans hs
  · exact fun x hx => (congrArg (fun q => s (ix2 q r)) (Fin.ext (by show 280 + x.val = 256 + r.val; omega))).trans hs
  · exact fun x hx => (congrArg (fun q => s (ix2 q r)) (Fin.ext (by show 288 + x.val = 256 + r.val; omega))).trans hs
  · exact fun x hx => (congrArg (fun q => s (ix2 q r)) (Fin.ext (by show 296 + x.val = 256 + r.val; omega))).trans hs
  · exact fun x hx => (congrArg (fun q => s (ix2 q r)) (Fin.ext (by show 304 + x.val = 256 + r.val; omega))).trans hs
  · exact fun x hx => (congrArg (fun q => s (ix2 q r)) (Fin.ext (by show 312 + x.val = 256 + r.val; omega))).trans hs
  · exact fun x hx => (congrArg (fun q => s (ix2 q r)) (Fin.ext (by show 320 + x.val = 256 + r.val; omega))).trans hs
  · exact fun x hx => (congrArg (fun q => s (ix2 q r)) (Fin.ext (by show 328 + x.val = 256 + r.val; omega))).trans hs
  · exact fun x hx => (congrArg (fun q => s (ix2 q r)) (Fin.ext (by show 336 + x.val = 256 + r.val; omega))).trans hs
  · exact fun x hx => (congrArg (fun q => s (ix2 q r)) (Fin.ext (by show 344 + x.val = 256 + r.val; omega))).trans hs
  · exact fun x hx => (congrArg (fun q => s (ix2 q r)) (Fin.ext (by show 352 + x.val = 256 + r.val; omega))).trans hs
  · exact fun x hx => (congrArg (fun q => s (ix2 q r)) (Fin.ext (by show 360 + x.val = 256 + r.val; omega))).trans hs
  · exact fun x hx => (congrArg (fun q => s (ix2 q r)) (Fin.ext (by show 368 + x.val = 256 + r.val; omega))).trans hs
  · exact fun x hx => (congrArg (fun q => s (ix2 q r)) (Fin.ext (by show 376 + x.val = 256 + r.val; omega))).trans hs

/-- Row 3 of a block's scales, laid along the lanes. -/
theorem lane3 (s : FVec Ideal S512x128 .f32) (A : EReal) (hA : 0 ≤ A) (r : Fin 128) (hs : s (ix2 ⟨384 + r.val, by omega⟩ r) = A) :
    k0_pay79 (F := Ideal) (k0_pay67 s) (k0_pay68 s) (k0_pay69 s) (k0_pay70 s) (k0_pay71 s) (k0_pay72 s) (k0_pay73 s)
            (k0_pay74 s) (k0_pay75 s) (k0_pay76 s) k0_pay77 (k0_pay78 s) 48#32 (ix3 0 0 r) = A := by
  pointwise [k0_pay67, k0_pay68, k0_pay69, k0_pay70, k0_pay71, k0_pay72, k0_pay73, k0_pay74, k0_pay75, k0_pay76, k0_pay77, k0_pay78, k0_pay79]
  refine diag r A hA _ ?_ _ ?_ _ _ _ _ _ _ _ _ _ _ _ _ _ _ _ _ ?_ ?_ ?_ ?_ ?_ ?_ ?_ ?_ ?_ ?_ ?_ ?_ ?_ ?_ ?_ ?_
  · rfl
  · have hbot : Ideal.ofBits .f32 0xFF800000#32 = (⊥ : EReal) := by
      simp [Ideal.ofBits, Ideal.ieee]
    rw [hbot]
    exact bot_le
  · exact fun x hx => (congrArg (fun q => s (ix2 q r)) (Fin.ext (by show 384 + x.val = 384 + r.val; omega))).trans hs
  · exact fun x hx => (congrArg (fun q => s (ix2 q r)) (Fin.ext (by show 392 + x.val = 384 + r.val; omega))).trans hs
  · exact fun x hx => (congrArg (fun q => s (ix2 q r)) (Fin.ext (by show 400 + x.val = 384 + r.val; omega))).trans hs
  · exact fun x hx => (congrArg (fun q => s (ix2 q r)) (Fin.ext (by show 408 + x.val = 384 + r.val; omega))).trans hs
  · exact fun x hx => (congrArg (fun q => s (ix2 q r)) (Fin.ext (by show 416 + x.val = 384 + r.val; omega))).trans hs
  · exact fun x hx => (congrArg (fun q => s (ix2 q r)) (Fin.ext (by show 424 + x.val = 384 + r.val; omega))).trans hs
  · exact fun x hx => (congrArg (fun q => s (ix2 q r)) (Fin.ext (by show 432 + x.val = 384 + r.val; omega))).trans hs
  · exact fun x hx => (congrArg (fun q => s (ix2 q r)) (Fin.ext (by show 440 + x.val = 384 + r.val; omega))).trans hs
  · exact fun x hx => (congrArg (fun q => s (ix2 q r)) (Fin.ext (by show 448 + x.val = 384 + r.val; omega))).trans hs
  · exact fun x hx => (congrArg (fun q => s (ix2 q r)) (Fin.ext (by show 456 + x.val = 384 + r.val; omega))).trans hs
  · exact fun x hx => (congrArg (fun q => s (ix2 q r)) (Fin.ext (by show 464 + x.val = 384 + r.val; omega))).trans hs
  · exact fun x hx => (congrArg (fun q => s (ix2 q r)) (Fin.ext (by show 472 + x.val = 384 + r.val; omega))).trans hs
  · exact fun x hx => (congrArg (fun q => s (ix2 q r)) (Fin.ext (by show 480 + x.val = 384 + r.val; omega))).trans hs
  · exact fun x hx => (congrArg (fun q => s (ix2 q r)) (Fin.ext (by show 488 + x.val = 384 + r.val; omega))).trans hs
  · exact fun x hx => (congrArg (fun q => s (ix2 q r)) (Fin.ext (by show 496 + x.val = 384 + r.val; omega))).trans hs
  · exact fun x hx => (congrArg (fun q => s (ix2 q r)) (Fin.ext (by show 504 + x.val = 384 + r.val; omega))).trans hs

/-- The scales a block's body stores, a row of lanes after another. -/
abbrev L5 (s : FVec Ideal S512x128 .f32) : List (View.Piece (Elt Ideal) S1x4x128 .f32) :=
      [⟨Rect.unit ![0, 3, 0] ![1, 1, 128] inb_S1x4x128_S1x1x128_0_3_0, k0_pay79 (F := Ideal) (k0_pay67 s) (k0_pay68 s) (k0_pay69 s) (k0_pay70 s) (k0_pay71 s) (k0_pay72 s) (k0_pay73 s)
            (k0_pay74 s) (k0_pay75 s) (k0_pay76 s) k0_pay77 (k0_pay78 s) 48#32⟩,
        ⟨Rect.unit ![0, 2, 0] ![1, 1, 128] inb_S1x4x128_S1x1x128_0_2_0, k0_pay66 (F := Ideal) (k0_pay62 s) k0_pay63
            (k0_pay65 (k0_pay47 s) (k0_pay48 s) (k0_pay49 s) (k0_pay50 s) (k0_pay51 s) (k0_pay52 s) (k0_pay53 s)
              (k0_pay54 s) (k0_pay55 s) (k0_pay56 s) (k0_pay57 s) (k0_pay58 s) (k0_pay59 s) (k0_pay60 s) (k0_pay61 s)
              k0_pay63 k0_pay64)⟩,
        ⟨Rect.unit ![0, 1, 0] ![1, 1, 128] inb_S1x4x128_S1x1x128_0_1_0, k0_pay46 (F := Ideal) (k0_pay35 s) (k0_pay36 s) (k0_pay37 s) (k0_pay38 s) (k0_pay39 s) (k0_pay40 s) (k0_pay41 s)
            (k0_pay42 s) k0_pay43 (k0_pay44 s) k0_pay45⟩,
        ⟨Rect.unit ![0, 0, 0] ![1, 1, 128] inb_S1x4x128_S1x1x128_0_0_0, k0_pay34 (F := Ideal)
            (k0_pay33 (k0_pay16 s) (k0_pay17 s) (k0_pay18 s) (k0_pay19 s) (k0_pay20 s) (k0_pay21 s) (k0_pay22 s)
              (k0_pay23 s) (k0_pay24 s) (k0_pay25 s) (k0_pay26 s) (k0_pay27 s) (k0_pay28 s) (k0_pay29 s) k0_pay30
              (k0_pay31 s) k0_pay32)⟩]

/-- The scales laid out. -/
def G5 (Sc : Fin 512 → EReal) : FVec Ideal S1x4x128 .f32 := fun i => Sc ⟨(i 1).val * 128 + (i 2).val, by
    have h1 : (i 1).val < 4 := (i 1).isLt
    have h2 : (i 2).val < 128 := (i 2).isLt
    omega⟩

/-- The stores leave the scales laid out. -/
theorem canon5 (s : FVec Ideal S512x128 .f32) (Sc : Fin 512 → EReal) (hs : ∀ r l, s (ix2 r l) = Sc r) (h0 : ∀ r, 0 ≤ Sc r) (y) :
    View.canon (L5 s) y = G5 Sc y := by
  refine View.canon_apply_of_pieces (G5 Sc) _ ?_ y (View.cover_of_tiledL (L5 s) S1x1x128.size (by sl_kernel_rfl) y)
  intro p hp
  simp only [List.mem_cons, List.not_mem_nil, or_false] at hp
  rcases hp with rfl | rfl | rfl | rfl <;> intro x <;> idx_vars x <;> obtain rfl : x0 = 0 := Subsingleton.elim _ _ <;> obtain rfl : x1 = 0 := Subsingleton.elim _ _
  · exact (lane3 s (Sc ⟨384 + x2.val, by omega⟩) (h0 _) x2 (hs _ _)).trans (congrArg Sc (Fin.ext (by show 384 + x2.val = (3 + 1 * 0) * 128 + (0 + 1 * x2.val); omega)))
  · exact (lane2 s (Sc ⟨256 + x2.val, by omega⟩) (h0 _) x2 (hs _ _)).trans (congrArg Sc (Fin.ext (by show 256 + x2.val = (2 + 1 * 0) * 128 + (0 + 1 * x2.val); omega)))
  · exact (lane1 s (Sc ⟨128 + x2.val, by omega⟩) (h0 _) x2 (hs _ _)).trans (congrArg Sc (Fin.ext (by show 128 + x2.val = (1 + 1 * 0) * 128 + (0 + 1 * x2.val); omega)))
  · exact (lane0 s (Sc ⟨0 + x2.val, by omega⟩) (h0 _) x2 (hs _ _)).trans (congrArg Sc (Fin.ext (by show 0 + x2.val = (0 + 1 * 0) * 128 + (0 + 1 * x2.val); omega)))

/-- Chunk 0 of the first half at an index. -/
theorem z82 (s : FVec Ideal S512x128 .f32) (acc : FVec Ideal S512x512 .f32) (f : Vec Ideal S1x128 .f32) (b : Vec Ideal S1x128 .f32) (r : Fin 512) (k : Fin 128) :
    k0_pay82 (F := Ideal) s acc f b (ix2 r k) = @HAdd.hAdd EReal EReal EReal _ (@HMul.hMul EReal EReal EReal _ (acc (ix2 r ⟨0 + k.val, by omega⟩)) (@HMul.hMul EReal EReal EReal _ (s (ix2 r k)) (f (ix2 0 k)))) (b (ix2 0 k)) := by
  pointwise [k0_pay82]

/-- Chunk 1 of the first half at an index. -/
theorem z83 (s : FVec Ideal S512x128 .f32) (acc : FVec Ideal S512x512 .f32) (f : Vec Ideal S1x128 .f32) (b : Vec Ideal S1x128 .f32) (r : Fin 512) (k : Fin 128) :
    k0_pay83 (F := Ideal) s acc f b (ix2 r k) = @HAdd.hAdd EReal EReal EReal _ (@HMul.hMul EReal EReal EReal _ (acc (ix2 r ⟨128 + k.val, by omega⟩)) (@HMul.hMul EReal EReal EReal _ (s (ix2 r k)) (f (ix2 0 k)))) (b (ix2 0 k)) := by
  pointwise [k0_pay83]

/-- Chunk 2 of the first half at an index. -/
theorem z84 (s : FVec Ideal S512x128 .f32) (acc : FVec Ideal S512x512 .f32) (f : Vec Ideal S1x128 .f32) (b : Vec Ideal S1x128 .f32) (r : Fin 512) (k : Fin 128) :
    k0_pay84 (F := Ideal) s acc f b (ix2 r k) = @HAdd.hAdd EReal EReal EReal _ (@HMul.hMul EReal EReal EReal _ (acc (ix2 r ⟨256 + k.val, by omega⟩)) (@HMul.hMul EReal EReal EReal _ (s (ix2 r k)) (f (ix2 0 k)))) (b (ix2 0 k)) := by
  pointwise [k0_pay84]

/-- Chunk 3 of the first half at an index. -/
theorem z87 (s : FVec Ideal S512x128 .f32) (acc : FVec Ideal S512x512 .f32) (f : Vec Ideal S1x128 .f32) (b : Vec Ideal S1x128 .f32) (r : Fin 512) (k : Fin 128) :
    k0_pay87 (F := Ideal) (k0_pay85 acc) (k0_pay86 s f) b (ix2 r k) = @HAdd.hAdd EReal EReal EReal _ (@HMul.hMul EReal EReal EReal _ (acc (ix2 r ⟨384 + k.val, by omega⟩)) (@HMul.hMul EReal EReal EReal _ (s (ix2 r k)) (f (ix2 0 k)))) (b (ix2 0 k)) := by
  pointwise [k0_pay87, k0_pay85, k0_pay86]

/-- The products of the first half's codes and weights at an index. -/
theorem acc81 (C : Vec Ideal S512x1024 .fp8e4m3) (w : Vec Ideal S1x1024x512 .fp8e4m3) (r : Fin 512) (k : Fin 512) :
    k0_pay81 (F := Ideal) C w (ix2 r k) = ∑ x : Fin 1024, @HMul.hMul EReal EReal EReal _ (C (ix2 r x)) (w (ix3 0 x k)) := by
  pointwise [k0_pay81, k0_pay80]

/-- The first half's stores, chunk by chunk. -/
abbrev L6 (s : FVec Ideal S512x128 .f32) (acc : FVec Ideal S512x512 .f32) (F : Vec Ideal S2x512 .f32) (B : Vec Ideal S1x512 .f32) : List (View.Piece (Elt Ideal) S512x512 .bf16) :=
      [⟨Rect.unit ![0, 384] ![512, 128] inb_S512x512_S512x128_0_384,
          k0_pay87 (F := Ideal) (k0_pay85 acc)
            (k0_pay86 s (View.ld F (Rect.unit ![0, 384] ![1, 128] inb_S2x512_S1x128_0_384)))
            (View.ld B (Rect.unit ![0, 384] ![1, 128] inb_S1x512_S1x128_0_384))⟩,
        ⟨Rect.unit ![0, 256] ![512, 128] inb_S512x512_S512x128_0_256,
          k0_pay84 (F := Ideal) s acc
            (View.ld F (Rect.unit ![0, 256] ![1, 128] inb_S2x512_S1x128_0_256))
            (View.ld B (Rect.unit ![0, 256] ![1, 128] inb_S1x512_S1x128_0_256))⟩,
        ⟨Rect.unit ![0, 128] ![512, 128] inb_S512x512_S512x128_0_128,
          k0_pay83 (F := Ideal) s acc
            (View.ld F (Rect.unit ![0, 128] ![1, 128] inb_S2x512_S1x128_0_128))
            (View.ld B (Rect.unit ![0, 128] ![1, 128] inb_S1x512_S1x128_0_128))⟩,
        ⟨Rect.unit ![0, 0] ![512, 128] inb_S512x512_S512x128_0_0,
          k0_pay82 (F := Ideal) s acc
            (View.ld F (Rect.unit ![0, 0] ![1, 128] inb_S2x512_S1x128_0_0))
            (View.ld B (Rect.unit ![0, 0] ![1, 128] inb_S1x512_S1x128_0_0))⟩]

/-- A sum of a product of three and a number: equal parts give equal wholes. -/
theorem zcong {a a' b b' c c' d d' : EReal} (h1 : a = a') (h2 : b = b') (h3 : c = c') (h4 : d = d') :
    @HAdd.hAdd EReal EReal EReal _ (@HMul.hMul EReal EReal EReal _ a (@HMul.hMul EReal EReal EReal _ b c)) d = @HAdd.hAdd EReal EReal EReal _ (@HMul.hMul EReal EReal EReal _ a' (@HMul.hMul EReal EReal EReal _ b' c')) d' := by
  rw [h1, h2, h3, h4]

/-- A product of three numbers: equal parts give equal wholes. -/
theorem zcong3 {a a' b b' c c' : EReal} (h1 : a = a') (h2 : b = b') (h3 : c = c') :
    @HMul.hMul EReal EReal EReal _ a (@HMul.hMul EReal EReal EReal _ b c) = @HMul.hMul EReal EReal EReal _ a' (@HMul.hMul EReal EReal EReal _ b' c') := by
  rw [h1, h2, h3]

/-- The first half of a block. -/
def G6 (Sc : Fin 512 → EReal) (A : Fin 512 → Fin 512 → EReal) (F : Fin 512 → EReal) (B : Fin 512 → EReal) : FVec Ideal S512x512 .bf16 := fun i =>
  @HAdd.hAdd EReal EReal EReal _ (@HMul.hMul EReal EReal EReal _ (A (i 0) (i 1)) (@HMul.hMul EReal EReal EReal _ (Sc (i 0)) (F (i 1)))) (B (i 1))

/-- The stores leave the first half. -/
theorem canon6 (s : FVec Ideal S512x128 .f32) (acc : FVec Ideal S512x512 .f32) (F : Vec Ideal S2x512 .f32) (B : Vec Ideal S1x512 .f32)
    (Sc : Fin 512 → EReal) (A : Fin 512 → Fin 512 → EReal) (F' B' : Fin 512 → EReal) (hs : ∀ r l, s (ix2 r l) = Sc r) (hA : ∀ r j, acc (ix2 r j) = A r j)
    (hF : ∀ j, F (ix2 0 j) = F' j) (hB : ∀ j, B (ix2 0 j) = B' j) (y) :
    View.canon (L6 s acc F B) y = G6 Sc A F' B' y := by
  refine View.canon_apply_of_pieces (G6 Sc A F' B') _ ?_ y (View.cover_of_tiledL (L6 s acc F B) S512x128.size (by sl_kernel_rfl) y)
  intro p hp
  simp only [List.mem_cons, List.not_mem_nil, or_false] at hp
  have e0 : ∀ r : Fin 512, (⟨0 + 1 * r.val, by omega⟩ : Fin 512) = r := fun r => Fin.ext (by show 0 + 1 * r.val = r.val; omega)
  rcases hp with rfl | rfl | rfl | rfl <;> intro x <;> idx_vars x
  · have e1 : (⟨384 + 1 * x1.val, by omega⟩ : Fin 512) = ⟨384 + x1.val, by omega⟩ := Fin.ext (by show 384 + 1 * x1.val = 384 + x1.val; omega)
    refine (z87 _ _ _ _ _ _).trans ?_
    refine Eq.trans ?_ (zcong (congrArg₂ A (e0 x0) e1).symm (congrArg Sc (e0 x0)).symm (congrArg F' e1).symm (congrArg B' e1).symm)
    refine zcong (hA _ _) (hs _ _) (Eq.trans ?_ (hF _)) (Eq.trans ?_ (hB _))
    · show F _ = F _
      congr 1
      funext a
      refine Fin.ext ?_
      match a with
      | ⟨0, _⟩ => rfl
      | ⟨1, _⟩ => show 384 + 1 * x1.val = 384 + x1.val; omega
    · show B _ = B _
      congr 1
      funext a
      refine Fin.ext ?_
      match a with
      | ⟨0, _⟩ => rfl
      | ⟨1, _⟩ => show 384 + 1 * x1.val = 384 + x1.val; omega
  · have e1 : (⟨256 + 1 * x1.val, by omega⟩ : Fin 512) = ⟨256 + x1.val, by omega⟩ := Fin.ext (by show 256 + 1 * x1.val = 256 + x1.val; omega)
    refine (z84 _ _ _ _ _ _).trans ?_
    refine Eq.trans ?_ (zcong (congrArg₂ A (e0 x0) e1).symm (congrArg Sc (e0 x0)).symm (congrArg F' e1).symm (congrArg B' e1).symm)
    refine zcong (hA _ _) (hs _ _) (Eq.trans ?_ (hF _)) (Eq.trans ?_ (hB _))
    · show F _ = F _
      congr 1
      funext a
      refine Fin.ext ?_
      match a with
      | ⟨0, _⟩ => rfl
      | ⟨1, _⟩ => show 256 + 1 * x1.val = 256 + x1.val; omega
    · show B _ = B _
      congr 1
      funext a
      refine Fin.ext ?_
      match a with
      | ⟨0, _⟩ => rfl
      | ⟨1, _⟩ => show 256 + 1 * x1.val = 256 + x1.val; omega
  · have e1 : (⟨128 + 1 * x1.val, by omega⟩ : Fin 512) = ⟨128 + x1.val, by omega⟩ := Fin.ext (by show 128 + 1 * x1.val = 128 + x1.val; omega)
    refine (z83 _ _ _ _ _ _).trans ?_
    refine Eq.trans ?_ (zcong (congrArg₂ A (e0 x0) e1).symm (congrArg Sc (e0 x0)).symm (congrArg F' e1).symm (congrArg B' e1).symm)
    refine zcong (hA _ _) (hs _ _) (Eq.trans ?_ (hF _)) (Eq.trans ?_ (hB _))
    · show F _ = F _
      congr 1
      funext a
      refine Fin.ext ?_
      match a with
      | ⟨0, _⟩ => rfl
      | ⟨1, _⟩ => show 128 + 1 * x1.val = 128 + x1.val; omega
    · show B _ = B _
      congr 1
      funext a
      refine Fin.ext ?_
      match a with
      | ⟨0, _⟩ => rfl
      | ⟨1, _⟩ => show 128 + 1 * x1.val = 128 + x1.val; omega
  · have e1 : (⟨0 + 1 * x1.val, by omega⟩ : Fin 512) = ⟨0 + x1.val, by omega⟩ := Fin.ext (by show 0 + 1 * x1.val = 0 + x1.val; omega)
    refine (z82 _ _ _ _ _ _).trans ?_
    refine Eq.trans ?_ (zcong (congrArg₂ A (e0 x0) e1).symm (congrArg Sc (e0 x0)).symm (congrArg F' e1).symm (congrArg B' e1).symm)
    refine zcong (hA _ _) (hs _ _) (Eq.trans ?_ (hF _)) (Eq.trans ?_ (hB _))
    · show F _ = F _
      congr 1
      funext a
      refine Fin.ext ?_
      match a with
      | ⟨0, _⟩ => rfl
      | ⟨1, _⟩ => show 0 + 1 * x1.val = 0 + x1.val; omega
    · show B _ = B _
      congr 1
      funext a
      refine Fin.ext ?_
      match a with
      | ⟨0, _⟩ => rfl
      | ⟨1, _⟩ => show 0 + 1 * x1.val = 0 + x1.val; omega

/-- Chunk 0 of the second half at an index. -/
theorem z89 (s : FVec Ideal S512x128 .f32) (C : Vec Ideal S512x1024 .fp8e4m3) (w : Vec Ideal S1x1024x512 .fp8e4m3) (f : Vec Ideal S1x128 .f32) (r : Fin 512) (k : Fin 128) :
    k0_pay89 (F := Ideal) s (k0_pay80 C) w f (ix2 r k) = @HMul.hMul EReal EReal EReal _ (∑ x : Fin 1024, @HMul.hMul EReal EReal EReal _ (C (ix2 r x)) (w (ix3 0 x ⟨0 + k.val, by omega⟩))) (@HMul.hMul EReal EReal EReal _ (s (ix2 r k)) (f (ix2 0 k))) := by
  pointwise [k0_pay89, k0_pay88, k0_pay80]

/-- Chunk 1 of the second half at an index. -/
theorem z90 (s : FVec Ideal S512x128 .f32) (C : Vec Ideal S512x1024 .fp8e4m3) (w : Vec Ideal S1x1024x512 .fp8e4m3) (f : Vec Ideal S1x128 .f32) (r : Fin 512) (k : Fin 128) :
    k0_pay90 (F := Ideal) s (k0_pay80 C) w f (ix2 r k) = @HMul.hMul EReal EReal EReal _ (∑ x : Fin 1024, @HMul.hMul EReal EReal EReal _ (C (ix2 r x)) (w (ix3 0 x ⟨128 + k.val, by omega⟩))) (@HMul.hMul EReal EReal EReal _ (s (ix2 r k)) (f (ix2 0 k))) := by
  pointwise [k0_pay90, k0_pay88, k0_pay80]

/-- Chunk 2 of the second half at an index. -/
theorem z91 (s : FVec Ideal S512x128 .f32) (C : Vec Ideal S512x1024 .fp8e4m3) (w : Vec Ideal S1x1024x512 .fp8e4m3) (f : Vec Ideal S1x128 .f32) (r : Fin 512) (k : Fin 128) :
    k0_pay91 (F := Ideal) s (k0_pay80 C) w f (ix2 r k) = @HMul.hMul EReal EReal EReal _ (∑ x : Fin 1024, @HMul.hMul EReal EReal EReal _ (C (ix2 r x)) (w (ix3 0 x ⟨256 + k.val, by omega⟩))) (@HMul.hMul EReal EReal EReal _ (s (ix2 r k)) (f (ix2 0 k))) := by
  pointwise [k0_pay91, k0_pay88, k0_pay80]

/-- Chunk 3 of the second half at an index. -/
theorem z92 (s : FVec Ideal S512x128 .f32) (C : Vec Ideal S512x1024 .fp8e4m3) (w : Vec Ideal S1x1024x512 .fp8e4m3) (f : Vec Ideal S1x128 .f32) (r : Fin 512) (k : Fin 128) :
    k0_pay1 (F := Ideal) s (k0_pay92 (k0_pay80 C) w) f (ix2 r k) = @HMul.hMul EReal EReal EReal _ (∑ x : Fin 1024, @HMul.hMul EReal EReal EReal _ (C (ix2 r x)) (w (ix3 0 x ⟨384 + k.val, by omega⟩))) (@HMul.hMul EReal EReal EReal _ (s (ix2 r k)) (f (ix2 0 k))) := by
  pointwise [k0_pay1, k0_pay92, k0_pay88, k0_pay80]

/-- The second half's stores, every fourth row each. -/
abbrev L7 (s : FVec Ideal S512x128 .f32) (C : Vec Ideal S512x1024 .fp8e4m3) (w : Vec Ideal S1x1024x512 .fp8e4m3) (F : Vec Ideal S2x512 .f32) : List (View.Piece (Elt Ideal) S2048x128 .f32) :=
      [⟨{ off := ![3, 0], size := ![512, 128], stride := ![4, 1], inb := inb_S2048x128_S512x128_3_0_s_4_1, stride_pos := spos_4_1 },
          k0_pay1 (F := Ideal) s (k0_pay92 (k0_pay80 C) w) (View.ld F (Rect.unit ![1, 384] ![1, 128] inb_S2x512_S1x128_1_384))⟩,
        ⟨{ off := ![2, 0], size := ![512, 128], stride := ![4, 1], inb := inb_S2048x128_S512x128_2_0_s_4_1, stride_pos := spos_4_1 },
          k0_pay91 (F := Ideal) s (k0_pay80 C) w (View.ld F (Rect.unit ![1, 256] ![1, 128] inb_S2x512_S1x128_1_256))⟩,
        ⟨{ off := ![1, 0], size := ![512, 128], stride := ![4, 1], inb := inb_S2048x128_S512x128_1_0_s_4_1, stride_pos := spos_4_1 },
          k0_pay90 (F := Ideal) s (k0_pay80 C) w (View.ld F (Rect.unit ![1, 128] ![1, 128] inb_S2x512_S1x128_1_128))⟩,
        ⟨{ off := ![0, 0], size := ![512, 128], stride := ![4, 1], inb := inb_S2048x128_S512x128_0_0_s_4_1, stride_pos := spos_4_1 },
          k0_pay89 (F := Ideal) s (k0_pay80 C) w (View.ld F (Rect.unit ![1, 0] ![1, 128] inb_S2x512_S1x128_1_0))⟩]

/-- The second half of a block. -/
def G7 (Sc : Fin 512 → EReal) (A : Fin 512 → Fin 512 → EReal) (F : Fin 512 → EReal) : FVec Ideal S2048x128 .f32 := fun i =>
  have h0 : (i 0).val < 2048 := (i 0).isLt
  have h1 : (i 1).val < 128 := (i 1).isLt
  @HMul.hMul EReal EReal EReal _ (A ⟨(i 0).val / 4, by omega⟩ ⟨(i 0).val % 4 * 128 + (i 1).val, by omega⟩) (@HMul.hMul EReal EReal EReal _ (Sc ⟨(i 0).val / 4, by omega⟩) (F ⟨(i 0).val % 4 * 128 + (i 1).val, by omega⟩))

/-- The stores leave the second half. -/
theorem canon7 (s : FVec Ideal S512x128 .f32) (C : Vec Ideal S512x1024 .fp8e4m3) (w : Vec Ideal S1x1024x512 .fp8e4m3) (F : Vec Ideal S2x512 .f32)
    (Sc : Fin 512 → EReal) (A : Fin 512 → Fin 512 → EReal) (F' : Fin 512 → EReal) (hs : ∀ r l, s (ix2 r l) = Sc r)
    (hA : ∀ r j, (∑ x : Fin 1024, @HMul.hMul EReal EReal EReal _ (C (ix2 r x)) (w (ix3 0 x j))) = A r j)
    (hF : ∀ j, F (ix2 1 j) = F' j) (y) :
    View.canon (L7 s C w F) y = G7 Sc A F' y := by
  refine View.canon_apply_of_pieces (G7 Sc A F') _ ?_ y (cover_of_rows (L7 s C w F) (by sl_kernel_rfl) y)
  intro p hp
  simp only [List.mem_cons, List.not_mem_nil, or_false] at hp
  rcases hp with rfl | rfl | rfl | rfl <;> intro x <;> idx_vars x
  · have e0 : (⟨(3 + 4 * x0.val) / 4, by omega⟩ : Fin 512) = x0 := Fin.ext (by show (3 + 4 * x0.val) / 4 = x0.val; omega)
    have e1 : (⟨(3 + 4 * x0.val) % 4 * 128 + (0 + 1 * x1.val), by omega⟩ : Fin 512) = ⟨384 + x1.val, by omega⟩ := Fin.ext (by show (3 + 4 * x0.val) % 4 * 128 + (0 + 1 * x1.val) = 384 + x1.val; omega)
    refine (z92 _ _ _ _ _ _).trans ?_
    refine Eq.trans ?_ (zcong3 (congrArg₂ A e0 e1).symm (congrArg Sc e0).symm (congrArg F' e1).symm)
    refine zcong3 (hA _ _) (hs _ _) (Eq.trans ?_ (hF _))
    show F _ = F _
    congr 1
    funext a
    refine Fin.ext ?_
    match a with
    | ⟨0, _⟩ => rfl
    | ⟨1, _⟩ => show 384 + 1 * x1.val = 384 + x1.val; omega
  · have e0 : (⟨(2 + 4 * x0.val) / 4, by omega⟩ : Fin 512) = x0 := Fin.ext (by show (2 + 4 * x0.val) / 4 = x0.val; omega)
    have e1 : (⟨(2 + 4 * x0.val) % 4 * 128 + (0 + 1 * x1.val), by omega⟩ : Fin 512) = ⟨256 + x1.val, by omega⟩ := Fin.ext (by show (2 + 4 * x0.val) % 4 * 128 + (0 + 1 * x1.val) = 256 + x1.val; omega)
    refine (z91 _ _ _ _ _ _).trans ?_
    refine Eq.trans ?_ (zcong3 (congrArg₂ A e0 e1).symm (congrArg Sc e0).symm (congrArg F' e1).symm)
    refine zcong3 (hA _ _) (hs _ _) (Eq.trans ?_ (hF _))
    show F _ = F _
    congr 1
    funext a
    refine Fin.ext ?_
    match a with
    | ⟨0, _⟩ => rfl
    | ⟨1, _⟩ => show 256 + 1 * x1.val = 256 + x1.val; omega
  · have e0 : (⟨(1 + 4 * x0.val) / 4, by omega⟩ : Fin 512) = x0 := Fin.ext (by show (1 + 4 * x0.val) / 4 = x0.val; omega)
    have e1 : (⟨(1 + 4 * x0.val) % 4 * 128 + (0 + 1 * x1.val), by omega⟩ : Fin 512) = ⟨128 + x1.val, by omega⟩ := Fin.ext (by show (1 + 4 * x0.val) % 4 * 128 + (0 + 1 * x1.val) = 128 + x1.val; omega)
    refine (z90 _ _ _ _ _ _).trans ?_
    refine Eq.trans ?_ (zcong3 (congrArg₂ A e0 e1).symm (congrArg Sc e0).symm (congrArg F' e1).symm)
    refine zcong3 (hA _ _) (hs _ _) (Eq.trans ?_ (hF _))
    show F _ = F _
    congr 1
    funext a
    refine Fin.ext ?_
    match a with
    | ⟨0, _⟩ => rfl
    | ⟨1, _⟩ => show 128 + 1 * x1.val = 128 + x1.val; omega
  · have e0 : (⟨(0 + 4 * x0.val) / 4, by omega⟩ : Fin 512) = x0 := Fin.ext (by show (0 + 4 * x0.val) / 4 = x0.val; omega)
    have e1 : (⟨(0 + 4 * x0.val) % 4 * 128 + (0 + 1 * x1.val), by omega⟩ : Fin 512) = ⟨0 + x1.val, by omega⟩ := Fin.ext (by show (0 + 4 * x0.val) % 4 * 128 + (0 + 1 * x1.val) = 0 + x1.val; omega)
    refine (z89 _ _ _ _ _ _).trans ?_
    refine Eq.trans ?_ (zcong3 (congrArg₂ A e0 e1).symm (congrArg Sc e0).symm (congrArg F' e1).symm)
    refine zcong3 (hA _ _) (hs _ _) (Eq.trans ?_ (hF _))
    show F _ = F _
    congr 1
    funext a
    refine Fin.ext ?_
    match a with
    | ⟨0, _⟩ => rfl
    | ⟨1, _⟩ => show 0 + 1 * x1.val = 0 + x1.val; omega

end Cert.KernelIdeal.Val
end
end
-- ==== Proof.PointsValue.lean ====
module

public import Idealize.ShloMosaic.Lib.Pipeline.ValueKit
public import Idealize.ShloMosaic.Lib.Pointwise
public import proofs.«01_k».proof.Proof.PointsKernel
public import proofs.«01_k».proof.Proof.PointsIdealFrame
public import proofs.«01_k».proof.Proof.Gen.ReferenceIdeal.Value

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The input is finite. -/
abbrev Finite (x : FVec Ideal S8x4096x1024 .bf16) : Prop := ∀ i, max (x i : EReal) (-(x i : EReal)) ≤ Ideal.ofBits .bf16 0x7F7F#16

/-- The codes a point reads back for its products. -/
abbrev back (c : Dev nD) (t : Fin cfg0.N) : Vec Ideal S512x1024 .fp8e4m3 :=
  View.readCov (Val := Elt Ideal) (ms0_4 t).view (L4 (iblk m c 0 t) (B (iblk m c 0 t)) (k0_pay6 (F := Ideal) (B (iblk m c 0 t)))) (Rect.unit (s := S512x1024) ![0, 0] ![512, 1024] inb_S512x1024_S512x1024_0_0).toLoadRect

/-- So every block of it is. -/
theorem fin_blk (c : Dev nD) (hx : Finite (m ((c : Thread nD τ).loc main_arg0))) (t : Fin cfg0.N) : Fin_ (iblk m c 0 t) := by
  intro r k
  have e : (iblk m c 0 t (ix2 r k) : EReal) = row (m ((c : Thread nD τ).loc main_arg0)) (at_ t r) k := congrFun (row_eq m c t r) k
  rw [e]
  exact hx _

/-- The scales of a block's rows, and their inverses. -/
theorem scale_eq (c : Dev nD) (hx : Finite (m ((c : Thread nD τ).loc main_arg0))) (t : Fin cfg0.N) (r : Fin 512) (l : Fin 128) :
    (k0_pay5 (F := Ideal) (M (iblk m c 0 t)) k0_pay3 1073741824#32 (ix2 r l) : EReal) = S (row (m ((c : Thread nD τ).loc main_arg0)) (at_ t r))
    ∧ (k0_pay6 (F := Ideal) (B (iblk m c 0 t)) (ix2 r l) : EReal) = Ideal.div (Ideal.ofBits .f32 0x3F800000#32) (S (row (m ((c : Thread nD τ).loc main_arg0)) (at_ t r)))
    ∧ 0 ≤ S (row (m ((c : Thread nD τ).loc main_arg0)) (at_ t r)) := by
  obtain ⟨h1, h2, h3⟩ := B_scale (iblk m c 0 t) (fin_blk m c hx t) r l
  rw [row_eq m c t r] at h1 h2 h3
  refine ⟨Eq.trans ?_ h1, Eq.trans ?_ h2, h3⟩ <;> rfl

/-- The codes a block's stores leave. -/
theorem codes (c : Dev nD) (hx : Finite (m ((c : Thread nD τ).loc main_arg0))) (t : Fin cfg0.N) (r : Fin 512) (k : Fin 1024) :
    View.canon (L4 (iblk m c 0 t) (B (iblk m c 0 t)) (k0_pay6 (F := Ideal) (B (iblk m c 0 t)))) (ix2 r k) = C (row (m ((c : Thread nD τ).loc main_arg0)) (at_ t r)) k := by
  refine (canon4 (iblk m c 0 t) (B (iblk m c 0 t)) (k0_pay6 (F := Ideal) (B (iblk m c 0 t))) (fun r => Ideal.div (Ideal.ofBits .f32 0x3F800000#32) (S (row (m ((c : Thread nD τ).loc main_arg0)) (at_ t r)))) (fun r l => (scale_eq m c hx t r l).2.1) rfl (ix2 r k)).trans ?_
  have e : (iblk m c 0 t (ix2 r k) : EReal) = row (m ((c : Thread nD τ).loc main_arg0)) (at_ t r) k := congrFun (row_eq m c t r) k
  unfold G4 C Q
  rw [e]
  rfl

/-- The codes read back for the products. -/
theorem codes_back (c : Dev nD) (hx : Finite (m ((c : Thread nD τ).loc main_arg0))) (t : Fin cfg0.N) (r : Fin 512) (k : Fin 1024) :
    back m c t (ix2 r k)
      = C (row (m ((c : Thread nD τ).loc main_arg0)) (at_ t r)) k := by
  unfold back
  rw [View.readCov_eq_canon_ld (ms0_4 t).view (L4 (iblk m c 0 t) (B (iblk m c 0 t)) (k0_pay6 (F := Ideal) (B (iblk m c 0 t)))) (Rect.unit ![0, 0] ![512, 1024] inb_S512x1024_S512x1024_0_0) (fun y => View.cover_of_tiledL (L4 (iblk m c 0 t) (B (iblk m c 0 t)) (k0_pay6 (F := Ideal) (B (iblk m c 0 t)))) S512x128.size (by sl_kernel_rfl) y)]
  refine Eq.trans ?_ (codes m c hx t r k)
  refine congrArg (View.canon _) ?_
  funext a
  refine Fin.ext ?_
  match a with
  | ⟨0, _⟩ => show 0 + 1 * r.val = r.val; omega
  | ⟨1, _⟩ => show 0 + 1 * k.val = k.val; omega

/-- Half `g` of the weights, as the body loads it. -/
theorem w_half (c : Dev nD) (t : Fin cfg0.N) (k : Fin 1024) (j : Fin 512) :
    View.ld (iblk m c 1 t) (Rect.unit ![0, 0, 0] ![1, 1024, 512] inb_S2x1024x512_S1x1024x512_0_0_0) (ix3 0 k j) = m ((c : Thread nD τ).loc main_arg1) (ix3 k 0 j)
    ∧ View.ld (iblk m c 1 t) (Rect.unit ![1, 0, 0] ![1, 1024, 512] inb_S2x1024x512_S1x1024x512_1_0_0) (ix3 0 k j) = m ((c : Thread nD τ).loc main_arg1) (ix3 k 1 j) := by
  constructor
  · refine Eq.trans ?_ (w_eq m c t 0 k j)
    refine congrArg (iblk m c 1 t) (funext fun a => Fin.ext ?_)
    match a with
    | ⟨0, _⟩ => rfl
    | ⟨1, _⟩ => show 0 + 1 * k.val = k.val; omega
    | ⟨2, _⟩ => show 0 + 1 * j.val = j.val; omega
  · refine Eq.trans ?_ (w_eq m c t 1 k j)
    refine congrArg (iblk m c 1 t) (funext fun a => Fin.ext ?_)
    match a with
    | ⟨0, _⟩ => rfl
    | ⟨1, _⟩ => show 0 + 1 * k.val = k.val; omega
    | ⟨2, _⟩ => show 0 + 1 * j.val = j.val; omega

set_option maxHeartbeats 400000 in
/-- The array of the kernel's codes. -/
theorem final4 (c : Dev nD) (hx : Finite (m ((c : Thread nD τ).loc main_arg0))) : (dats m 0 c).arrAt 4 cfg0.N = O4 (m ((c : Thread nD τ).loc main_arg0)) := by
  refine (dats m 0 c).arrAt_eq_of_covers 4 _ (by decide +kernel) fun t _ y => ?_
  blk_simp
  rw [after0_4]
  unfold Gen.outsAt0
  frame_out
  idx_vars y
  generalize hO : O4 (m ((c : Thread nD τ).loc main_arg0)) = O
  refine (codes m c hx t y0 y1).trans ?_
  refine Eq.trans (b := O (ix2 (at_ t y0) y1)) ?_ ?_
  · subst hO
    rfl
  · blk_ext [idx t]

set_option maxHeartbeats 400000 in
/-- The array of the kernel's scales. -/
theorem final5 (c : Dev nD) (hx : Finite (m ((c : Thread nD τ).loc main_arg0))) : (dats m 0 c).arrAt 5 cfg0.N = O5 (m ((c : Thread nD τ).loc main_arg0)) := by
  refine (dats m 0 c).arrAt_eq_of_covers 5 _ (by decide +kernel) fun t _ y => ?_
  blk_simp
  rw [after0_5]
  unfold Gen.outsAt0
  frame_out
  idx_vars y
  generalize hO : O5 (m ((c : Thread nD τ).loc main_arg0)) = O
  obtain rfl : y0 = 0 := Subsingleton.elim _ _
  refine (canon5 (k0_pay5 (F := Ideal) (M (iblk m c 0 t)) k0_pay3 1073741824#32) (fun r => S (row (m ((c : Thread nD τ).loc main_arg0)) (at_ t r))) (fun r l => (scale_eq m c hx t r l).1) (fun r => (scale_eq m c hx t r 0).2.2) _).trans ?_
  have hb : t.val < 64 := (idx t).2.2.2.2.2.2.2.2
  refine Eq.trans (b := O (ix3 ⟨t.val, hb⟩ y1 y2)) ?_ ?_
  · subst hO
    exact congrArg (fun q => S (row (m ((c : Thread nD τ).loc main_arg0)) q)) (Fin.ext (by show t.val * 512 + (y1.val * 128 + y2.val) = t.val * 512 + y1.val * 128 + y2.val; omega))
  · blk_ext [idx t]

set_option maxHeartbeats 400000 in
/-- The array of the kernel's first half. -/
theorem final6 (c : Dev nD) (hx : Finite (m ((c : Thread nD τ).loc main_arg0))) : (dats m 0 c).arrAt 6 cfg0.N = O6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  unfold Gen.outsAt0
  frame_out
  idx_vars y
  generalize hO : O6 (m ((c : Thread nD τ).loc main_arg0)) (m ((c : Thread nD τ).loc main_arg1)) (m ((c : Thread nD τ).loc main_arg2)) (m ((c : Thread nD τ).loc main_arg3)) = O
  refine (canon6 (k0_pay5 (F := Ideal) (M (iblk m c 0 t)) k0_pay3 1073741824#32) (k0_pay81 (F := Ideal) (back m c t)
      (View.ld (iblk m c 1 t) (Rect.unit ![0, 0, 0] ![1, 1024, 512] inb_S2x1024x512_S1x1024x512_0_0_0))) (iblk m c 2 t) (iblk m c 3 t)
    (fun r => S (row (m ((c : Thread nD τ).loc main_arg0)) (at_ t r)))
    (fun r j => ∑ k : Fin 1024, @HMul.hMul EReal EReal EReal _ (C (row (m ((c : Thread nD τ).loc main_arg0)) (at_ t r)) k) (m ((c : Thread nD τ).loc main_arg1) (ix3 k 0 j)))
    (fun j => m ((c : Thread nD τ).loc main_arg2) (ix2 0 j)) (fun j => m ((c : Thread nD τ).loc main_arg3) (ix1 j)) (fun r l => (scale_eq m c hx t r l).1)
    (fun r j => (acc81 _ _ r j).trans (Finset.sum_congr rfl fun k _ => congrArg₂ (fun a b : EReal => a * b) (codes_back m c hx t r k) (w_half m c t k j).1))
    (s_eq m c t 0) (b_eq m c t) (ix2 y0 y1)).trans ?_
  refine Eq.trans (b := O (ix2 (at_ t y0) y1)) ?_ ?_
  · subst hO
    rfl
  · blk_ext [idx t]

set_option maxHeartbeats 400000 in
/-- The array of the kernel's second half. -/
theorem final7 (c : Dev nD) (hx : Finite (m ((c : Thread nD τ).loc main_arg0))) : (dats m 0 c).arrAt 7 cfg0.N = O7 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  unfold Gen.outsAt0
  frame_out
  idx_vars y
  generalize hO : O7 (m ((c : Thread nD τ).loc main_arg0)) (m ((c : Thread nD τ).loc main_arg1)) (m ((c : Thread nD τ).loc main_arg2)) = O
  refine (canon7 (k0_pay5 (F := Ideal) (M (iblk m c 0 t)) k0_pay3 1073741824#32) (back m c t)
      (View.ld (iblk m c 1 t) (Rect.unit ![1, 0, 0] ![1, 1024, 512] inb_S2x1024x512_S1x1024x512_1_0_0)) (iblk m c 2 t)
    (fun r => S (row (m ((c : Thread nD τ).loc main_arg0)) (at_ t r)))
    (fun r j => ∑ k : Fin 1024, @HMul.hMul EReal EReal EReal _ (C (row (m ((c : Thread nD τ).loc main_arg0)) (at_ t r)) k) (m ((c : Thread nD τ).loc main_arg1) (ix3 k 1 j)))
    (fun j => m ((c : Thread nD τ).loc main_arg2) (ix2 1 j)) (fun r l => (scale_eq m c hx t r l).1)
    (fun r j => Finset.sum_congr rfl fun k _ => congrArg₂ (fun a b : EReal => a * b) (codes_back m c hx t r k) (w_half m c t k j).2)
    (s_eq m c t 1) (ix2 y0 y1)).trans ?_
  have hb : t.val < 64 := (idx t).2.2.2.2.2.2.2.2
  refine Eq.trans (b := O (ix2 ⟨t.val * 2048 + y0.val, by omega⟩ y1)) ?_ ?_
  · subst hO
    have e0 : (at_ t ⟨y0.val / 4, by omega⟩) = (⟨(t.val * 2048 + y0.val) / 4, by omega⟩ : Fin 32768) := Fin.ext (by show t.val * 512 + y0.val / 4 = (t.val * 2048 + y0.val) / 4; omega)
    have e1 : (⟨y0.val % 4 * 128 + y1.val, by omega⟩ : Fin 512) = ⟨(t.val * 2048 + y0.val) % 4 * 128 + y1.val, by omega⟩ := Fin.ext (by show y0.val % 4 * 128 + y1.val = (t.val * 2048 + y0.val) % 4 * 128 + y1.val; omega)
    refine Eq.trans ?_ (congrArg₂ (Z (m ((c : Thread nD τ).loc main_arg0)) (m ((c : Thread nD τ).loc main_arg1)) (m ((c : Thread nD τ).loc main_arg2)) 1) e0 e1)
    rfl
  · blk_ext [idx t]

end Cert.KernelIdeal.Val

namespace Cert.KernelIdeal.Value

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_3) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_v3_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      post7 m r h c,
      kept_main_arg0 m r h c,
      kept_main_arg1 m r h c,
      kept_main_arg2 m r h c,
      kept_main_arg3 m r h c⟩)
    (run_main m ρ)

end Cert.KernelIdeal.Value
end
end
-- ==== Proof.QuantiseReference.lean ====
module

public import Idealize.ShloMosaic.Lib.Pipeline.ValueKit
public import Idealize.ShloMosaic.Lib.Pointwise
public import proofs.«01_k».proof.Proof.Scale
public import proofs.«01_k».proof.Pre_h_is_finite
public import proofs.«01_k».proof.Proof.Gen.QuantiseReferenceIdeal.Value

@[expose] public section

set_option maxRecDepth 16384

noncomputable section

namespace Cert.QuantiseReferenceIdeal.Val

open Idealize.ShloMosaic Idealize.ShloMosaic.TcCoe Idealize.SL.Sem
open Idealize.ShloMosaic.Pipeline (Dat)
open Cert.QuantiseReferenceIdeal Cert.QuantiseReferenceIdeal.Gen

/-- The largest absolute value of a row, over 448. -/
def Amax (f : Fin 512 → EReal) : EReal :=
  (Finset.univ.fold max (Ideal.ofBits .f32 0xFF800000#32) fun k => max (f k) (-f k)) * Ideal.ofBits .f32 0x3B124925#32

/-- The scale of a row. -/
def S (f : Fin 512 → EReal) : EReal := Cert.Scale.SC (Amax f)

/-- The code of entry `k` of a row. -/
def C (f : Fin 512 → EReal) (k : Fin 512) : EReal :=
  min (Ideal.ofBits .f32 0x43E00000#32) (max (Ideal.ofBits .f32 0xC3E00000#32) (f k * Ideal.div (Ideal.ofBits .f32 0x3F800000#32) (S f)))

/-- The positive part of node `n`'s sums with its neighbour `e`. -/
def row (h : FVec Ideal S8x20x4096x512 .f32) (b : Fin 8) (e : Fin 20) (n : Fin 4096) (k : Fin 512) : EReal :=
  max (h (ix4 b e n k)) (Ideal.ofBits .f32 0x00000000#32)

/-- The codes of the edges. -/
def O4 (h : FVec Ideal S8x20x4096x512 .f32) : FVec Ideal S8x20x4096x512 .fp8e4m3 := fun i => C (row h (i 0) (i 1) (i 2)) (i 3)

/-- The scales of the edges. -/
def O5 (h : FVec Ideal S8x20x4096x512 .f32) : FVec Ideal S8x20x4096 .f32 := fun i => S (row h (i 0) (i 1) (i 2))

/-- A row's largest absolute value, in the reference. -/
theorem ref_m (x : FVec Ideal S8x20x4096x512 .f32) (b : Fin 8) (e : Fin 20) (n : Fin 4096) :
   (shapeCast S8x20x4096x1
            (multiReduction FKind.maximumf [3] S8x20x4096 (absf x) (4286578688#32)
              reduces_S8x20x4096x512_S8x20x4096 (.inl rfl) rfl)
            shapeCasts_S8x20x4096_S8x20x4096x1) (ix4 b e n 0) =
    Finset.univ.fold max (Ideal.ofBits .f32 0xFF800000#32) fun k : Fin 512 => (FloatOps.absf (x (ix4 b e n k)) : Ideal .f32) := by
  pointwise

/-- A product with a constant at an index. -/
theorem ref_mul (y : FVec Ideal S8x20x4096x1 .f32) (i) :
    mulf y (broadcast S8x20x4096x1 (FloatOps.ofBits FTy.f32 991054117#32)) i = @HMul.hMul EReal EReal EReal _ (y i) (Ideal.ofBits .f32 0x3B124925#32) := rfl

/-- The reference's candidates for the scale. -/
theorem ref_p (i : Fin 253) :
   (exp2 (F := Ideal) (sitofp FTy.f32 (subi (iota Kind.tc S1x253 32 [1] iota_S1x253_d1_w32) (broadcast S1x253 125#32)))) (ix2 0 i)
     = Ideal.exp2 (((IntOp.subi (BitVec.ofNat 32 i.val) 125#32).toInt : ℝ) : EReal) := by
  pointwise
  rfl

/-- The reference's least candidate above a number. -/
theorem ref_min (v7 : FVec Ideal S8x20x4096x1 .f32) (v14 : FVec Ideal S1x253 .f32) (b : Fin 8) (e : Fin 20) (n : Fin 4096) :
      (shapeCast S8x20x4096x1
        (multiReduction FKind.minimumf [3] S8x20x4096
          (select
            (cmpf CmpFPredicate.olt
              (broadcastTo S8x20x4096x253 v7 broadcasts_S8x20x4096x1_S8x20x4096x253)
              (broadcastTo S8x20x4096x253 (shapeCast S1x1x1x253 v14 shapeCasts_S1x253_S1x1x1x253) broadcasts_S1x1x1x253_S8x20x4096x253))
            (broadcastTo S8x20x4096x253 (shapeCast S1x1x1x253 v14 shapeCasts_S1x253_S1x1x1x253) broadcasts_S1x1x1x253_S8x20x4096x253)
            (broadcast S8x20x4096x253 (FloatOps.ofBits FTy.f32 2139095040#32)))
          (2139095040#32) reduces_S8x20x4096x253_S8x20x4096 (.inl rfl) rfl)
        shapeCasts_S8x20x4096_S8x20x4096x1)
      (ix4 b e n 0) = Finset.univ.fold min (Ideal.ofBits .f32 0x7F800000#32) fun i : Fin 253 =>
      Scalar.select (Ideal.cmp .olt (v7 (ix4 b e n 0)) (v14 (ix2 0 i)))
        (v14 (ix2 0 i)) (Ideal.ofBits .f32 0x7F800000#32) := by
  pointwise

/-- The reference's scale, of a number. -/
theorem ref_sel (v7 : FVec Ideal S8x20x4096x1 .f32) (v22 : FVec Ideal S8x20x4096x1 .f32) (i)
   (h : v22 i = Finset.univ.fold min (Ideal.ofBits .f32 0x7F800000#32) fun j : Fin 253 =>
      Scalar.select (Ideal.cmp .olt (v7 i) (Ideal.exp2 (((IntOp.subi (BitVec.ofNat 32 j.val) 125#32).toInt : ℝ) : EReal)))
        (Ideal.exp2 (((IntOp.subi (BitVec.ofNat 32 j.val) 125#32).toInt : ℝ) : EReal)) (Ideal.ofBits .f32 0x7F800000#32)) :
    select (cmpf .olt v7 (broadcast S8x20x4096x1 (FloatOps.ofBits FTy.f32 8388608#32))) (broadcast S8x20x4096x1 (FloatOps.ofBits FTy.f32 1065353216#32)) v22 i = Cert.Scale.SC (v7 i) := by
  unfold Cert.Scale.SC
  rw [← h]
  rfl

/-- The reference's scale, of a largest absolute value. -/
theorem ref_asm (y : FVec Ideal S8x20x4096x1 .f32) (b : Fin 8) (e : Fin 20) (n : Fin 4096) (m : EReal) (hm : y (ix4 b e n 0) = m) :
    let v7 : FVec Ideal S8x20x4096x1 .f32 := mulf y (broadcast S8x20x4096x1 (FloatOps.ofBits FTy.f32 991054117#32))
    let v14 : FVec Ideal S1x253 .f32 := exp2 (F := Ideal) (sitofp FTy.f32 (subi (iota Kind.tc S1x253 32 [1] iota_S1x253_d1_w32) (broadcast S1x253 125#32)))
    select (cmpf .olt v7 (broadcast S8x20x4096x1 (FloatOps.ofBits FTy.f32 8388608#32))) (broadcast S8x20x4096x1 (FloatOps.ofBits FTy.f32 1065353216#32))
      (shapeCast S8x20x4096x1
        (multiReduction FKind.minimumf [3] S8x20x4096
          (select
            (cmpf CmpFPredicate.olt
              (broadcastTo S8x20x4096x253 v7 broadcasts_S8x20x4096x1_S8x20x4096x253)
              (broadcastTo S8x20x4096x253 (shapeCast S1x1x1x253 v14 shapeCasts_S1x253_S1x1x1x253) broadcasts_S1x1x1x253_S8x20x4096x253))
            (broadcastTo S8x20x4096x253 (shapeCast S1x1x1x253 v14 shapeCasts_S1x253_S1x1x1x253) broadcasts_S1x1x1x253_S8x20x4096x253)
            (broadcast S8x20x4096x253 (FloatOps.ofBits FTy.f32 2139095040#32)))
          (2139095040#32) reduces_S8x20x4096x253_S8x20x4096 (.inl rfl) rfl)
        shapeCasts_S8x20x4096_S8x20x4096x1)
    (ix4 b e n 0) = Cert.Scale.SC (m * Ideal.ofBits .f32 0x3B124925#32) := by
  intro v7 v14
  have hp : ∀ i, v14 (ix2 0 i) = _ := ref_p
  clear_value v14
  have hv : v7 (ix4 b e n 0) = m * Ideal.ofBits .f32 0x3B124925#32 := (ref_mul y _).trans (by rw [hm])
  clear_value v7
  have e1 := ref_min v7 v14 b e n
  simp only [hp] at e1
  exact (ref_sel v7 _ _ e1).trans (congrArg Cert.Scale.SC hv)

/-- The reference's scale of a row. -/
theorem ref_scale (x : Vec Ideal S8x20x4096x512 .f32) (b : Fin 8) (e : Fin 20) (n : Fin 4096) :
    k0_pay2 (F := Ideal) x (ix4 b e n 0) = S (row x b e n) := by
  have h3 : ∀ k, k0_pay1 (F := Ideal) x (ix4 b e n k) = row x b e n k := fun k => rfl
  unfold k0_pay2
  have hm := ref_m (k0_pay1 x) b e n
  simp only [h3] at hm
  exact ref_asm _ b e n _ hm

/-- The reference's code at an index, of the scales. -/
theorem code_at (x : FVec Ideal S8x20x4096x512 .f32) (s : FVec Ideal S8x20x4096x1 .f32) (b : Fin 8) (e : Fin 20) (n : Fin 4096) (k : Fin 512) :
    minimumf (broadcast S8x20x4096x512 (FloatOps.ofBits FTy.f32 0x43E00000#32)) (maximumf (broadcast S8x20x4096x512 (FloatOps.ofBits FTy.f32 0xC3E00000#32))
      (mulf x (broadcastTo S8x20x4096x512 (divf (broadcast S8x20x4096x1 (FloatOps.ofBits FTy.f32 0x3F800000#32)) s) broadcasts_S8x20x4096x1_S8x20x4096x512))) (ix4 b e n k)
    = min (Ideal.ofBits .f32 0x43E00000#32) (max (Ideal.ofBits .f32 0xC3E00000#32) (@HMul.hMul EReal EReal EReal _ (x (ix4 b e n k)) (Ideal.div (Ideal.ofBits .f32 0x3F800000#32) (s (ix4 b e n 0))))) := by
  pointwise

/-- The reference's code of a row's entry. -/
theorem ref_code (x : Vec Ideal S8x20x4096x512 .f32) (b : Fin 8) (e : Fin 20) (n : Fin 4096) (k : Fin 512) :
    k0_pay3 (F := Ideal) x (ix4 b e n k) = C (row x b e n) k := by
  refine (code_at (k0_pay1 x) (k0_pay2 x) b e n k).trans ?_
  rw [ref_scale]
  rfl

/-- The reference's scales without the last axis. -/
theorem ref_out (s : FVec Ideal S8x20x4096x1 .f32) (b : Fin 8) (e : Fin 20) (n : Fin 4096) :
    shapeCast S8x20x4096 s shapeCasts_S8x20x4096x1_S8x20x4096 (ix3 b e n) = s (ix4 b e n 0) := by
  pointwise

/-- The reference's scale, as it is stored. -/
theorem ref_pay4 (x : Vec Ideal S8x20x4096x512 .f32) (b : Fin 8) (e : Fin 20) (n : Fin 4096) :
    k0_pay4 (F := Ideal) x (ix3 b e n) = S (row x b e n) := by
  refine Eq.trans ?_ (ref_scale x b e n)
  refine Eq.trans ?_ (ref_out (k0_pay2 x) b e n)
  unfold k0_pay4
  rfl

/-- A finite number's size over 448 is below the bound the scale asks for. -/
theorem fin_lt : Ideal.ofBits .f32 0x7F7FFFFF#32 * Ideal.ofBits .f32 0x3B124925#32 < Cert.Scale.P 248 := by
  rw [Cert.Scale.P_of 248 (by norm_num) (by norm_num)]
  have h : ((16777215 * 2 ^ 104 * (9586981 * (2 ^ 32)⁻¹) : ℝ) : EReal) < ((2 ^ 121 : ℝ) : EReal) := EReal.coe_lt_coe_iff.mpr (by norm_num)
  simpa [Ideal.ofBits, Ideal.ieee] using h

/-- The constant of the quantiser is not below zero. -/
theorem c_nonneg : 0 ≤ Ideal.ofBits .f32 0x3B124925#32 := by
  have h : ((0 : ℝ) : EReal) ≤ ((9586981 * (2 ^ 32)⁻¹ : ℝ) : EReal) := EReal.coe_le_coe_iff.mpr (by norm_num)
  simpa [Ideal.ofBits, Ideal.ieee] using h

/-- The largest of no numbers, as the program writes it. -/
theorem bot_word : Ideal.ofBits .f32 0xFF800000#32 = (⊥ : EReal) := by
  simp [Ideal.ofBits, Ideal.ieee]

/-- Zero, as the program writes it. -/
theorem zero_word : Ideal.ofBits .f32 0x00000000#32 = (0 : EReal) := by
  simp [Ideal.ofBits, Ideal.ieee]

/-- The largest positive part of a row. -/
theorem Amax_pos (f : Fin 512 → EReal) : Amax (fun k => max (f k) (Ideal.ofBits .f32 0x00000000#32)) =
    max (Finset.univ.fold max (Ideal.ofBits .f32 0xFF800000#32) f) 0 * Ideal.ofBits .f32 0x3B124925#32 := by
  unfold Amax
  refine congrArg (fun z : EReal => z * Ideal.ofBits .f32 0x3B124925#32) ?_
  rw [zero_word, bot_word]
  refine eq_of_forall_ge_iff fun c => ?_
  simp only [Finset.fold_max_le, Finset.mem_univ, forall_true_left, max_le_iff, bot_le, true_and]
  constructor
  · intro h
    exact ⟨fun k => (h k).1.1, (h 0).1.2⟩
  · rintro ⟨h, h0⟩ k
    refine ⟨⟨h k, h0⟩, le_trans ?_ h0⟩
    rw [EReal.neg_le, neg_zero]
    exact le_max_right _ _

/-- The largest positive part over 448 lies where the scale is found. -/
theorem Amax_bounds (f : Fin 512 → EReal) (hf : ∀ k, max (f k) (-f k) ≤ Ideal.ofBits .f32 0x7F7FFFFF#32) :
    0 ≤ Amax (fun k => max (f k) (Ideal.ofBits .f32 0x00000000#32)) ∧ Amax (fun k => max (f k) (Ideal.ofBits .f32 0x00000000#32)) < Cert.Scale.P 248 := by
  rw [Amax_pos]
  refine ⟨mul_nonneg (le_max_right _ _) c_nonneg, lt_of_le_of_lt (mul_le_mul_of_nonneg_right ?_ c_nonneg) fin_lt⟩
  have h0 : (0 : EReal) ≤ Ideal.ofBits .f32 0x7F7FFFFF#32 := by
    refine le_trans ?_ (hf 0)
    rcases le_total 0 (f 0) with h | h
    · exact h.trans (le_max_left _ _)
    · refine le_trans ?_ (le_max_right _ _)
      rw [EReal.le_neg, neg_zero]
      exact h
  refine max_le (Finset.fold_max_le _ |>.mpr ⟨?_, fun k _ => (le_max_left _ _).trans (hf k)⟩) h0
  rw [bot_word]
  exact bot_le

/-- The precondition, read: every gathered sum is finite. -/
theorem finite (a0 a1 a2) (a3 : FVec Ideal Cert.Pre_h_is_finite.S8x20x4096x512 .f32) [Cert.Pre_h_is_finite.Facts]
   (h : Cert.Pre_h_is_finite.fn (F := Ideal) a0 a1 a2 a3 = fun _ => 1#1) (i) : max (a3 i : EReal) (-(a3 i : EReal)) ≤ Ideal.ofBits .f32 0x7F7FFFFF#32 := by
  have h1 := congrFun h i
  pointwise [Cert.Pre_h_is_finite.fn] at h1
  by_contra hn
  have h2 : decide ((FloatOps.absf (a3 i : Ideal .f32) : EReal) ≤ Ideal.ofBits .f32 0x7F7FFFFF#32) = false := decide_eq_false hn
  rw [h2] at h1
  exact absurd h1 (by decide)

/-- Where each window's block lies. -/
theorem idx : ∀ t : Fin cfg0.N, win0_0.index t = ![0, 0, 0, 0] ∧ win0_1.index t = ![0, 0, 0, 0] ∧ win0_2.index t = ![0, 0, 0] :=
  (by decide +kernel : ∀ t : Fin grid0.N, _)

variable (m : (ℓ : Loc nD τ sig) → Buf (Elt Ideal) ℓ)

/-- The reference's block is the argument. -/
theorem x_eq (c : Dev nD) (t : Fin cfg0.N) : iblk m c 0 t = m ((c : Thread nD τ).loc main_arg3) := by
  funext y
  idx_vars y
  blk_point [iblk, V, idx t]

/-- The array of the reference's codes. -/
theorem final1 (c : Dev nD) : (dats m 0 c).arrAt 1 cfg0.N = O4 (m ((c : Thread nD τ).loc main_arg3)) := by
  refine (dats m 0 c).arrAt_eq_of_covers 1 _ (by decide +kernel) fun t _ y => ?_
  blk_simp
  rw [after0_1]
  frame_out
  idx_vars y
  generalize hO : O4 (m ((c : Thread nD τ).loc main_arg3)) = O
  refine Eq.trans (b := O (ix4 y0 y1 y2 y3)) ?_ ?_
  swap
  · blk_ext [idx t]
  subst hO
  rw [x_eq m c t]
  exact ref_code _ y0 y1 y2 y3

/-- The array of the reference's scales. -/
theorem final2 (c : Dev nD) : (dats m 0 c).arrAt 2 cfg0.N = O5 (m ((c : Thread nD τ).loc main_arg3)) := by
  refine (dats m 0 c).arrAt_eq_of_covers 2 _ (by decide +kernel) fun t _ y => ?_
  blk_simp
  rw [after0_2]
  frame_out
  idx_vars y
  generalize hO : O5 (m ((c : Thread nD τ).loc main_arg3)) = O
  refine Eq.trans (b := O (ix3 y0 y1 y2)) ?_ ?_
  swap
  · blk_ext [idx t]
  subst hO
  rw [x_eq m c t]
  exact ref_pay4 _ y0 y1 y2

end Cert.QuantiseReferenceIdeal.Val
end
end
-- ==== Proof.QuantiseKernel.lean ====
module

public import Idealize.ShloMosaic.Lib.Pipeline.ValueKit
public import Idealize.ShloMosaic.Lib.Pointwise
public import proofs.«01_k».proof.Proof.Gen.QuantiseIdeal.Frame
public import proofs.«01_k».proof.Proof.PointsKernel
public import proofs.«01_k».proof.Proof.QuantiseReference

@[expose] public section

set_option maxRecDepth 16384

noncomputable section

namespace Cert.QuantiseIdeal.Val

open Idealize.ShloMosaic Idealize.ShloMosaic.TcCoe Idealize.SL.Sem
open Cert.QuantiseIdeal Cert.QuantiseIdeal.Gen
open Cert.QuantiseReferenceIdeal.Val (Amax S C Amax_pos Amax_bounds)

/-- A tile of eight nodes and 128 entries lies in the block. -/
theorem inT (e : Fin 20) (j : Fin 16) (c : Fin 4) : ∀ a, (![0, e.val, 8 * j.val, 128 * c.val] : Fin 4 → ℕ) a + S1x1x8x128.size a ≤ S1x20x128x512.size a := by
  have := e.isLt; have := j.isLt; have := c.isLt
  intro a
  fin_cases a
  · show 0 + 1 ≤ 1; omega
  · show e.val + 1 ≤ 20; omega
  · show 8 * j.val + 8 ≤ 128; omega
  · show 128 * c.val + 128 ≤ 512; omega

/-- The tiles that the kernel loads: for a neighbour, eight nodes and 128 entries. -/
abbrev Tiles : Type := Fin 20 → Fin 16 → Fin 4 → Vec Ideal S1x1x8x128 .f32

/-- The tiles are those of the block `X`. -/
abbrev Of (T : Tiles) (X : Vec Ideal S1x20x128x512 .f32) : Prop := ∀ (e : Fin 20) (j : Fin 16) (c : Fin 4) (s : Fin 8) (l : Fin 128),
  T e j c (ix4 0 0 s l) = X (ix4 0 e ⟨8 * j.val + s.val, by omega⟩ ⟨128 * c.val + l.val, by omega⟩)

/-- A tile without its leading axes. -/
def tile (T : Tiles) (e : Fin 20) (j : Fin 16) (c : Fin 4) : FVec Ideal S8x128 .f32 :=
  shapeCast S8x128 (T e j c) shapeCasts_S1x1x8x128_S8x128

/-- A tile without its leading axes, at an index. -/
theorem tile_cast (t : FVec Ideal S1x1x8x128 .f32) (s : Fin 8) (l : Fin 128) :
    shapeCast S8x128 t shapeCasts_S1x1x8x128_S8x128 (ix2 s l) = t (ix4 0 0 s l) := by
  pointwise

/-- A tile at an index. -/
theorem tile_at (T : Tiles) (X : Vec Ideal S1x20x128x512 .f32) (hT : Of T X) (e : Fin 20) (j : Fin 16) (c : Fin 4) (s : Fin 8) (l : Fin 128) :
    tile T e j c (ix2 s l) = X (ix4 0 e ⟨8 * j.val + s.val, by omega⟩ ⟨128 * c.val + l.val, by omega⟩) :=
  (tile_cast _ s l).trans (hT e j c s l)

/-- The largest entry of each of eight nodes, along all lanes. -/
def rows (T : Tiles) (e : Fin 20) (j : Fin 16) : FVec Ideal S8x128 .f32 :=
  broadcastTo S8x128 (shapeCast S8x1 (shapeCast S8x1 (multiReduction .maximumf [1] S8
    (maximumf (maximumf (maximumf (tile T e j 0) (tile T e j 1)) (tile T e j 2)) (tile T e j 3))
    0xFF800000#32 reduces_S8x128_S8 (.inl rfl) rfl) shapeCasts_S8_S8x1) shapeCasts_S8x1_S8x1) broadcasts_S8x1_S8x128

/-- The reduction along a tile's lanes. -/
theorem rows_red (t : FVec Ideal S8x128 .f32) (s : Fin 8) (l : Fin 128) :
    broadcastTo S8x128 (shapeCast S8x1 (shapeCast S8x1 (multiReduction .maximumf [1] S8 t
    0xFF800000#32 reduces_S8x128_S8 (.inl rfl) rfl) shapeCasts_S8_S8x1) shapeCasts_S8x1_S8x1) broadcasts_S8x1_S8x128 (ix2 s l)
    = Finset.univ.fold max (Ideal.ofBits .f32 0xFF800000#32) fun k : Fin 128 => (t (ix2 s k) : EReal) := by
  pointwise

/-- Row `n` of the block's sums with neighbour `e`. -/
def hrow (X : Vec Ideal S1x20x128x512 .f32) (e : Fin 20) (n : Fin 128) (k : Fin 512) : EReal := X (ix4 0 e n k)

/-- The largest entry of a node's row. -/
theorem rows_at (T : Tiles) (X : Vec Ideal S1x20x128x512 .f32) (hT : Of T X) (e : Fin 20) (j : Fin 16) (s : Fin 8) (l : Fin 128) :
    rows T e j (ix2 s l) = Finset.univ.fold max (Ideal.ofBits .f32 0xFF800000#32) (hrow X e ⟨8 * j.val + s.val, by omega⟩) := by
  unfold rows
  rw [rows_red]
  rw [Cert.QuantiseReferenceIdeal.Val.bot_word]
  refine eq_of_forall_ge_iff fun c => ?_
  have hm : ∀ k : Fin 128, (maximumf (maximumf (maximumf (tile T e j 0) (tile T e j 1)) (tile T e j 2)) (tile T e j 3) : FVec Ideal S8x128 .f32) (ix2 s k)
     = max (max (max (tile T e j 0 (ix2 s k) : EReal) (tile T e j 1 (ix2 s k))) (tile T e j 2 (ix2 s k))) (tile T e j 3 (ix2 s k)) := fun k => rfl
  simp only [hm, tile_at T X hT, Finset.fold_max_le, Finset.mem_univ, forall_true_left, max_le_iff, bot_le, true_and]
  constructor
  · intro h k
    obtain ⟨⟨⟨h0, h1⟩, h2⟩, h3⟩ := h ⟨k.val % 128, by omega⟩
    have hk := k.isLt
    rcases (by omega : k.val / 128 = 0 ∨ k.val / 128 = 1 ∨ k.val / 128 = 2 ∨ k.val / 128 = 3) with q | q | q | q
    · refine le_trans (le_of_eq (congrArg (fun u => X (ix4 0 e _ u)) (Fin.ext ?_))) h0
      show k.val = 128 * 0 + k.val % 128; omega
    · refine le_trans (le_of_eq (congrArg (fun u => X (ix4 0 e _ u)) (Fin.ext ?_))) h1
      show k.val = 128 * 1 + k.val % 128; omega
    · refine le_trans (le_of_eq (congrArg (fun u => X (ix4 0 e _ u)) (Fin.ext ?_))) h2
      show k.val = 128 * 2 + k.val % 128; omega
    · refine le_trans (le_of_eq (congrArg (fun u => X (ix4 0 e _ u)) (Fin.ext ?_))) h3
      show k.val = 128 * 3 + k.val % 128; omega
  · intro h k
    exact ⟨⟨⟨h _, h _⟩, h _⟩, h _⟩

/-- A value chosen by the diagonal an entry lies on. -/
def cas (D : BitVec 32) (z : EReal) (f : Fin 16 → EReal) : EReal :=
  Scalar.select (IntOp.cmpi .eq D 120#32) (f 15) (Scalar.select (IntOp.cmpi .eq D 112#32) (f 14) (Scalar.select (IntOp.cmpi .eq D 104#32) (f 13) (Scalar.select (IntOp.cmpi .eq D 96#32) (f 12) (Scalar.select (IntOp.cmpi .eq D 88#32) (f 11) (Scalar.select (IntOp.cmpi .eq D 80#32) (f 10) (Scalar.select (IntOp.cmpi .eq D 72#32) (f 9) (Scalar.select (IntOp.cmpi .eq D 64#32) (f 8) (Scalar.select (IntOp.cmpi .eq D 56#32) (f 7) (Scalar.select (IntOp.cmpi .eq D 48#32) (f 6) (Scalar.select (IntOp.cmpi .eq D 40#32) (f 5) (Scalar.select (IntOp.cmpi .eq D 32#32) (f 4) (Scalar.select (IntOp.cmpi .eq D 24#32) (f 3) (Scalar.select (IntOp.cmpi .eq D 16#32) (f 2) (Scalar.select (IntOp.cmpi .eq D 8#32) (f 1) (Scalar.select (IntOp.cmpi .eq D 0#32) (f 0) (z))))))))))))))))

/-- It is that of the entry's own diagonal. -/
theorem cas_eq (r : Fin 128) (x : Fin 8) (z : EReal) (f : Fin 16 → EReal) :
    cas (IntOp.subi (BitVec.ofNat 32 r.val) (BitVec.ofNat 32 x.val)) z f = if r.val % 8 = x.val then f ⟨r.val / 8, by omega⟩ else z := by
  unfold cas

  have c0 := Cert.KernelIdeal.Val.on_diag r x 0
  change IntOp.cmpi _ _ 0#32 = if r.val = 0 + x.val then 1#1 else 0#1 at c0
  rw [c0]
  have c1 := Cert.KernelIdeal.Val.on_diag r x 1
  change IntOp.cmpi _ _ 8#32 = if r.val = 8 + x.val then 1#1 else 0#1 at c1
  rw [c1]
  have c2 := Cert.KernelIdeal.Val.on_diag r x 2
  change IntOp.cmpi _ _ 16#32 = if r.val = 16 + x.val then 1#1 else 0#1 at c2
  rw [c2]
  have c3 := Cert.KernelIdeal.Val.on_diag r x 3
  change IntOp.cmpi _ _ 24#32 = if r.val = 24 + x.val then 1#1 else 0#1 at c3
  rw [c3]
  have c4 := Cert.KernelIdeal.Val.on_diag r x 4
  change IntOp.cmpi _ _ 32#32 = if r.val = 32 + x.val then 1#1 else 0#1 at c4
  rw [c4]
  have c5 := Cert.KernelIdeal.Val.on_diag r x 5
  change IntOp.cmpi _ _ 40#32 = if r.val = 40 + x.val then 1#1 else 0#1 at c5
  rw [c5]
  have c6 := Cert.KernelIdeal.Val.on_diag r x 6
  change IntOp.cmpi _ _ 48#32 = if r.val = 48 + x.val then 1#1 else 0#1 at c6
  rw [c6]
  have c7 := Cert.KernelIdeal.Val.on_diag r x 7
  change IntOp.cmpi _ _ 56#32 = if r.val = 56 + x.val then 1#1 else 0#1 at c7
  rw [c7]
  have c8 := Cert.KernelIdeal.Val.on_diag r x 8
  change IntOp.cmpi _ _ 64#32 = if r.val = 64 + x.val then 1#1 else 0#1 at c8
  rw [c8]
  have c9 := Cert.KernelIdeal.Val.on_diag r x 9
  change IntOp.cmpi _ _ 72#32 = if r.val = 72 + x.val then 1#1 else 0#1 at c9
  rw [c9]
  have c10 := Cert.KernelIdeal.Val.on_diag r x 10
  change IntOp.cmpi _ _ 80#32 = if r.val = 80 + x.val then 1#1 else 0#1 at c10
  rw [c10]
  have c11 := Cert.KernelIdeal.Val.on_diag r x 11
  change IntOp.cmpi _ _ 88#32 = if r.val = 88 + x.val then 1#1 else 0#1 at c11
  rw [c11]
  have c12 := Cert.KernelIdeal.Val.on_diag r x 12
  change IntOp.cmpi _ _ 96#32 = if r.val = 96 + x.val then 1#1 else 0#1 at c12
  rw [c12]
  have c13 := Cert.KernelIdeal.Val.on_diag r x 13
  change IntOp.cmpi _ _ 104#32 = if r.val = 104 + x.val then 1#1 else 0#1 at c13
  rw [c13]
  have c14 := Cert.KernelIdeal.Val.on_diag r x 14
  change IntOp.cmpi _ _ 112#32 = if r.val = 112 + x.val then 1#1 else 0#1 at c14
  rw [c14]
  have c15 := Cert.KernelIdeal.Val.on_diag r x 15
  change IntOp.cmpi _ _ 120#32 = if r.val = 120 + x.val then 1#1 else 0#1 at c15
  rw [c15]
  have hr := r.isLt
  have hx := x.isLt
  have sel : ∀ (p : Prop) [Decidable p] (a b : EReal), Scalar.select (if p then 1#1 else 0#1) a b = if p then a else b := by
    intro p _ a b
    by_cases h : p
    · rw [if_pos h, if_pos h]; rfl
    · rw [if_neg h, if_neg h]; rfl
  simp only [sel]
  by_cases d15 : r.val = 120 + x.val
  · rw [if_pos d15, if_pos (by omega)]
    exact congrArg f (Fin.ext (by show 15 = r.val / 8; omega))
  rw [if_neg d15]
  by_cases d14 : r.val = 112 + x.val
  · rw [if_pos d14, if_pos (by omega)]
    exact congrArg f (Fin.ext (by show 14 = r.val / 8; omega))
  rw [if_neg d14]
  by_cases d13 : r.val = 104 + x.val
  · rw [if_pos d13, if_pos (by omega)]
    exact congrArg f (Fin.ext (by show 13 = r.val / 8; omega))
  rw [if_neg d13]
  by_cases d12 : r.val = 96 + x.val
  · rw [if_pos d12, if_pos (by omega)]
    exact congrArg f (Fin.ext (by show 12 = r.val / 8; omega))
  rw [if_neg d12]
  by_cases d11 : r.val = 88 + x.val
  · rw [if_pos d11, if_pos (by omega)]
    exact congrArg f (Fin.ext (by show 11 = r.val / 8; omega))
  rw [if_neg d11]
  by_cases d10 : r.val = 80 + x.val
  · rw [if_pos d10, if_pos (by omega)]
    exact congrArg f (Fin.ext (by show 10 = r.val / 8; omega))
  rw [if_neg d10]
  by_cases d9 : r.val = 72 + x.val
  · rw [if_pos d9, if_pos (by omega)]
    exact congrArg f (Fin.ext (by show 9 = r.val / 8; omega))
  rw [if_neg d9]
  by_cases d8 : r.val = 64 + x.val
  · rw [if_pos d8, if_pos (by omega)]
    exact congrArg f (Fin.ext (by show 8 = r.val / 8; omega))
  rw [if_neg d8]
  by_cases d7 : r.val = 56 + x.val
  · rw [if_pos d7, if_pos (by omega)]
    exact congrArg f (Fin.ext (by show 7 = r.val / 8; omega))
  rw [if_neg d7]
  by_cases d6 : r.val = 48 + x.val
  · rw [if_pos d6, if_pos (by omega)]
    exact congrArg f (Fin.ext (by show 6 = r.val / 8; omega))
  rw [if_neg d6]
  by_cases d5 : r.val = 40 + x.val
  · rw [if_pos d5, if_pos (by omega)]
    exact congrArg f (Fin.ext (by show 5 = r.val / 8; omega))
  rw [if_neg d5]
  by_cases d4 : r.val = 32 + x.val
  · rw [if_pos d4, if_pos (by omega)]
    exact congrArg f (Fin.ext (by show 4 = r.val / 8; omega))
  rw [if_neg d4]
  by_cases d3 : r.val = 24 + x.val
  · rw [if_pos d3, if_pos (by omega)]
    exact congrArg f (Fin.ext (by show 3 = r.val / 8; omega))
  rw [if_neg d3]
  by_cases d2 : r.val = 16 + x.val
  · rw [if_pos d2, if_pos (by omega)]
    exact congrArg f (Fin.ext (by show 2 = r.val / 8; omega))
  rw [if_neg d2]
  by_cases d1 : r.val = 8 + x.val
  · rw [if_pos d1, if_pos (by omega)]
    exact congrArg f (Fin.ext (by show 1 = r.val / 8; omega))
  rw [if_neg d1]
  by_cases d0 : r.val = 0 + x.val
  · rw [if_pos d0, if_pos (by omega)]
    exact congrArg f (Fin.ext (by show 0 = r.val / 8; omega))
  rw [if_neg d0]
  rw [if_neg (by omega)]

/-- The largest of an entry and zeros, against zero. -/
theorem max_diag (r : Fin 128) (A bot : EReal) (hb : bot ≤ 0) :
    max (Finset.univ.fold max bot fun x : Fin 8 => if r.val % 8 = x.val then A else 0) 0 = max A 0 := by
  refine eq_of_forall_ge_iff fun c => ?_
  simp only [max_le_iff, Finset.fold_max_le, Finset.mem_univ, forall_true_left]
  constructor
  · rintro ⟨⟨h1, h2⟩, h0⟩
    have := h2 ⟨r.val % 8, by omega⟩
    rw [if_pos rfl] at this
    exact ⟨this, h0⟩
  · rintro ⟨h1, h0⟩
    refine ⟨⟨hb.trans h0, fun x => ?_⟩, h0⟩
    split_ifs
    · exact h1
    · exact h0

/-- The differences of the lane and the row. -/
def diagV : IVec S8x128 32 := subi (iota .tc S8x128 32 [1] iota_S8x128_d1_w32) (iota .tc S8x128 32 [0] iota_S8x128_d0_w32)

/-- Sixteen columns of eight entries, laid along the lanes. -/
def lanes (R : Fin 16 → FVec Ideal S8x128 .f32) : FVec Ideal S8x128 .f32 :=
  select (cmpi .eq diagV (broadcast S8x128 120#32)) (R 15) (select (cmpi .eq diagV (broadcast S8x128 112#32)) (R 14) (select (cmpi .eq diagV (broadcast S8x128 104#32)) (R 13) (select (cmpi .eq diagV (broadcast S8x128 96#32)) (R 12) (select (cmpi .eq diagV (broadcast S8x128 88#32)) (R 11) (select (cmpi .eq diagV (broadcast S8x128 80#32)) (R 10) (select (cmpi .eq diagV (broadcast S8x128 72#32)) (R 9) (select (cmpi .eq diagV (broadcast S8x128 64#32)) (R 8) (select (cmpi .eq diagV (broadcast S8x128 56#32)) (R 7) (select (cmpi .eq diagV (broadcast S8x128 48#32)) (R 6) (select (cmpi .eq diagV (broadcast S8x128 40#32)) (R 5) (select (cmpi .eq diagV (broadcast S8x128 32#32)) (R 4) (select (cmpi .eq diagV (broadcast S8x128 24#32)) (R 3) (select (cmpi .eq diagV (broadcast S8x128 16#32)) (R 2) (select (cmpi .eq diagV (broadcast S8x128 8#32)) (R 1) (select (cmpi .eq diagV (broadcast S8x128 0#32)) (R 0) (broadcast S8x128 (Scalar.ofBits .f32 0x00000000#32)))))))))))))))))

/-- The lanes at an index. -/
theorem lanes_at (R : Fin 16 → FVec Ideal S8x128 .f32) (x : Fin 8) (r : Fin 128) :
    lanes R (ix2 x r) = cas (IntOp.subi (BitVec.ofNat 32 r.val) (BitVec.ofNat 32 x.val)) (Ideal.ofBits .f32 0x00000000#32) (fun j => R j (ix2 x r)) := by
  unfold lanes cas diagV
  pointwise

/-- The largest absolute values over 448, along the lanes. -/
def amax (R : Fin 16 → FVec Ideal S8x128 .f32) : FVec Ideal S1x128 .f32 :=
  mulf (maximumf (shapeCast S1x128 (multiReduction .maximumf [0] S128 (lanes R) 0xFF800000#32 reduces_S8x128_S128 (.inl rfl) rfl) shapeCasts_S128_S1x128)
    (broadcast S1x128 (Scalar.ofBits .f32 0x00000000#32))) (broadcast S1x128 (Scalar.ofBits .f32 0x3B124925#32))

/-- The reduction along a tile's rows. -/
theorem amax_red (t : FVec Ideal S8x128 .f32) (l : Fin 128) :
    (mulf (maximumf (shapeCast S1x128 (multiReduction .maximumf [0] S128 t 0xFF800000#32 reduces_S8x128_S128 (.inl rfl) rfl) shapeCasts_S128_S1x128)
    (broadcast S1x128 (Scalar.ofBits .f32 0x00000000#32))) (broadcast S1x128 (Scalar.ofBits .f32 0x3B124925#32)) : FVec Ideal S1x128 .f32) (ix2 0 l)
    = max (Finset.univ.fold max (Ideal.ofBits .f32 0xFF800000#32) fun x : Fin 8 => (t (ix2 x l) : EReal)) (Ideal.ofBits .f32 0x00000000#32) * Ideal.ofBits .f32 0x3B124925#32 := by
  pointwise

/-- The positive part of node `n`'s row. -/
def prow (X : Vec Ideal S1x20x128x512 .f32) (e : Fin 20) (n : Fin 128) (k : Fin 512) : EReal := max (hrow X e n k) (Ideal.ofBits .f32 0x00000000#32)

/-- The largest absolute value over 448 of a node's row. -/
theorem amax_at (T : Tiles) (X : Vec Ideal S1x20x128x512 .f32) (hT : Of T X) (e : Fin 20) (l : Fin 128) : amax (rows T e) (ix2 0 l) = Amax (prow X e l) := by
  unfold amax
  rw [amax_red]
  unfold prow
  rw [Amax_pos]
  refine congrArg (fun u : EReal => u * Ideal.ofBits .f32 0x3B124925#32) ?_
  simp only [lanes_at, cas_eq, rows_at T X hT]
  rw [Cert.QuantiseReferenceIdeal.Val.zero_word]
  refine Eq.trans (congrArg (fun g : Fin 8 → EReal => max (Finset.univ.fold max (Ideal.ofBits .f32 0xFF800000#32) g) 0) (funext fun x => ?_))
    (max_diag l (Finset.univ.fold max (Ideal.ofBits .f32 0xFF800000#32) (hrow X e l)) _ ?_)
  · split_ifs with h
    · refine congrArg (fun u => Finset.univ.fold max (Ideal.ofBits .f32 0xFF800000#32) (hrow X e u)) (Fin.ext ?_)
      show 8 * (l.val / 8) + x.val = l.val
      omega
    · rfl
  · rw [Cert.QuantiseReferenceIdeal.Val.bot_word]
    exact bot_le

/-- One comparison of the search. -/
def stepV (v : FVec Ideal S1x128 .f32) (s : BitVec 32) (b : IVec S1x128 32) : IVec S1x128 32 :=
  select (cmpf .oge v (bitcastToFloat .f32 (addi b (broadcast S1x128 s)))) (addi b (broadcast S1x128 s)) b

/-- At an index it is the comparison on words. -/
theorem stepV_at (v s b i) : stepV v s b i = Cert.Scale.stepB (v i) s (b i) := rfl

/-- The search on vectors. -/
def searchV (v : FVec Ideal S1x128 .f32) : IVec S1x128 32 :=
  stepV v 8388608#32 (stepV v 16777216#32 (stepV v 33554432#32 (stepV v 67108864#32 (stepV v 134217728#32 (stepV v 268435456#32 (stepV v 536870912#32 (stepV v 1073741824#32 (broadcast S1x128 0#32))))))))

/-- The word of the scale, on vectors. -/
def word (v : FVec Ideal S1x128 .f32) : IVec S1x128 32 :=
  select (cmpi .slt (searchV v) (broadcast S1x128 8388608#32)) (broadcast S1x128 1065353216#32) (addi (andi (searchV v) (broadcast S1x128 2139095040#32)) (broadcast S1x128 8388608#32))

/-- At an index it is the word of the scale. -/
theorem word_at (v : FVec Ideal S1x128 .f32) (i) : word v i = Cert.Scale.scaleB (Cert.Scale.searchB (v i)) := by
  have h : searchV v i = Cert.Scale.searchB (v i) := by
    obtain ⟨h1, h2, h3, h4, h5, h6, h7, h8, h0⟩ := Cert.KernelIdeal.Val.W_words
    unfold searchV Cert.Scale.searchB
    rw [h1, h2, h3, h4, h5, h6, h7, h8, h0]
    rw [stepV_at, stepV_at, stepV_at, stepV_at, stepV_at, stepV_at, stepV_at, stepV_at]
    rfl
  rw [← h]
  rfl

/-- The scales of a block's nodes with neighbour `e`, as they are stored. -/
def scales (T : Tiles) (e : Fin 20) : FVec Ideal S1x1x128 .f32 :=
  shapeCast S1x1x128 (bitcastToFloat .f32 (word (amax (rows T e)))) shapeCasts_S1x128_S1x1x128

/-- The inverses of the scales, on eight rows, as they are stored. -/
def invs (T : Tiles) (e : Fin 20) : FVec Ideal S1x8x128 .f32 :=
  shapeCast S1x8x128 (broadcastTo S8x128 (shapeCast S1x128 (bitcastToFloat .f32 (subi (broadcast S1x128 2130706432#32) (word (amax (rows T e))))) shapeCasts_S1x128_S1x128)
    broadcasts_S1x128_S8x128) shapeCasts_S8x128_S1x8x128

/-- What holds of a block: every sum is finite. -/
abbrev Fin_ (X : Vec Ideal S1x20x128x512 .f32) : Prop := ∀ e n k, max (hrow X e n k) (-(hrow X e n k)) ≤ Ideal.ofBits .f32 0x7F7FFFFF#32

/-- The word of a node's scale. -/
theorem word_scale (T : Tiles) (X : Vec Ideal S1x20x128x512 .f32) (hT : Of T X) (hX : Fin_ X) (e : Fin 20) (l : Fin 128) :
    Ideal.ofBits .f32 (word (amax (rows T e)) (ix2 0 l)) = S (prow X e l)
    ∧ Ideal.ofBits .f32 (IntOp.subi 2130706432#32 (word (amax (rows T e)) (ix2 0 l))) = Ideal.div (Ideal.ofBits .f32 0x3F800000#32) (S (prow X e l)) := by
  rw [word_at, amax_at T X hT]
  have hb := Amax_bounds (hrow X e l) (hX e l)
  have := Cert.Scale.scale (Amax (prow X e l)) hb.1 hb.2
  exact ⟨this.1, this.2.1⟩

/-- A vector of scales, as it is stored. -/
theorem scales_cast (w : IVec S1x128 32) (l : Fin 128) :
    shapeCast S1x1x128 (bitcastToFloat (F := Ideal) .f32 w) shapeCasts_S1x128_S1x1x128 (ix3 0 0 l) = Ideal.ofBits .f32 (w (ix2 0 l)) := by
  pointwise

/-- The stored scale of a node. -/
theorem scales_at (T : Tiles) (X : Vec Ideal S1x20x128x512 .f32) (hT : Of T X) (hX : Fin_ X) (e : Fin 20) (l : Fin 128) : scales T e (ix3 0 0 l) = S (prow X e l) :=
  (scales_cast _ l).trans (word_scale T X hT hX e l).1

/-- The inverses, read back for a tile of eight nodes. -/
def gath (n0 : BitVec 32) (v : FVec Ideal S1x8x128 .f32) : FVec Ideal S8x128 .f32 :=
  dynamicGather 1 (shapeCast S8x128 v shapeCasts_S1x8x128_S8x128)
    (shapeCast S8x128 (shapeCast S8x128x1
      (select (cmpi .slt (addi (iota .tc S8x128 32 [0] iota_S8x128_d0_w32) (broadcast S8x128 n0)) (broadcast S8x128 0#32))
        (addi (addi (iota .tc S8x128 32 [0] iota_S8x128_d0_w32) (broadcast S8x128 n0)) (broadcast S8x128 128#32))
        (addi (iota .tc S8x128 32 [0] iota_S8x128_d0_w32) (broadcast S8x128 n0))) shapeCasts_S8x128_S8x128x1) shapeCasts_S8x128x1_S8x128)

/-- The lane that is read for a row of a tile. -/
theorem lane_nat : ∀ (j : Fin 16) (s : Fin 8), (Scalar.select (IntOp.cmpi .slt (IntOp.addi (BitVec.ofNat 32 s.val) (BitVec.ofNat 32 (8 * j.val))) 0#32)
    (IntOp.addi (IntOp.addi (BitVec.ofNat 32 s.val) (BitVec.ofNat 32 (8 * j.val))) 128#32) (IntOp.addi (BitVec.ofNat 32 s.val) (BitVec.ofNat 32 (8 * j.val)))).toNat % 128 = 8 * j.val + s.val := by
  decide +kernel

/-- The inverses read for a tile, of the vector of inverses. -/
theorem gath_cast (w : IVec S1x128 32) (j : Fin 16) (s : Fin 8) (l : Fin 128) :
    gath (BitVec.ofNat 32 (8 * j.val)) (shapeCast S1x8x128 (broadcastTo S8x128 (shapeCast S1x128 (bitcastToFloat (F := Ideal) .f32 (subi (broadcast S1x128 2130706432#32) w)) shapeCasts_S1x128_S1x128)
    broadcasts_S1x128_S8x128) shapeCasts_S8x128_S1x8x128) (ix2 s l) = Ideal.ofBits .f32 (IntOp.subi 2130706432#32 (w (ix2 0 ⟨8 * j.val + s.val, by omega⟩))) := by
  unfold gath
  pointwise
  refine congrArg (fun u => Ideal.ofBits .f32 (IntOp.subi 2130706432#32 (w (ix2 0 u)))) (Fin.ext ?_)
  exact lane_nat j s

/-- The inverse read for a node. -/
theorem gath_at (T : Tiles) (X : Vec Ideal S1x20x128x512 .f32) (hT : Of T X) (hX : Fin_ X) (e : Fin 20) (j : Fin 16) (s : Fin 8) (l : Fin 128) :
    gath (BitVec.ofNat 32 (8 * j.val)) (invs T e) (ix2 s l) = Ideal.div (Ideal.ofBits .f32 0x3F800000#32) (S (prow X e ⟨8 * j.val + s.val, by omega⟩)) :=
  (gath_cast _ j s l).trans (word_scale T X hT hX e _).2

/-- A tile's products with the inverses, clipped. -/
def clipV (t g : FVec Ideal S8x128 .f32) : FVec Ideal S8x128 .f32 :=
  minimumf (broadcast S8x128 (Scalar.ofBits .f32 0x43E00000#32)) (maximumf (broadcast S8x128 (Scalar.ofBits .f32 0xC3E00000#32)) (mulf t g))

/-- Four tiles, one under the other, their positive part, as codes. -/
def packV (q0 q1 q2 q3 : FVec Ideal S8x128 .f32) : FVec Ideal S1x1x32x128 .fp8e4m3 :=
  shapeCast S1x1x32x128 (truncf .fp8e4m3
    (select (cmpf .ogt (concatenate S32x128 0 [⟨S8x128, q0⟩, ⟨S8x128, q1⟩, ⟨S8x128, q2⟩, ⟨S8x128, q3⟩] concatenates_S8x128_S8x128_S8x128_S8x128_S32x128_d0) (broadcast S32x128 (Scalar.ofBits .f32 0x00000000#32)))
      (concatenate S32x128 0 [⟨S8x128, q0⟩, ⟨S8x128, q1⟩, ⟨S8x128, q2⟩, ⟨S8x128, q3⟩] concatenates_S8x128_S8x128_S8x128_S8x128_S32x128_d0) (broadcast S32x128 (Scalar.ofBits .f32 0x00000000#32)))
    bitsLt_fp8e4m3_f32) shapeCasts_S32x128_S1x1x32x128

/-- The four tiles by their number. -/
def pick (q0 q1 q2 q3 : FVec Ideal S8x128 .f32) (i : Fin 4) : FVec Ideal S8x128 .f32 := ![q0, q1, q2, q3] i

/-- The codes of four tiles at an index. -/
theorem packV_at (q0 q1 q2 q3 : FVec Ideal S8x128 .f32) (i : Fin 4) (s : Fin 8) (l : Fin 128) :
    packV q0 q1 q2 q3 (ix4 0 0 ⟨8 * i.val + s.val, by omega⟩ l) = max (pick q0 q1 q2 q3 i (ix2 s l) : EReal) 0 := by
  have hs : ∀ q : EReal, (if 0 < q then q else 0) = max q 0 := by
    intro q
    by_cases h : 0 < q
    · rw [if_pos h, max_eq_left h.le]
    · rw [if_neg h, max_eq_right (not_lt.mp h)]
  unfold packV
  fin_cases i
  · pointwise
    exact hs _
  · pointwise
    exact hs _
  · pointwise
    rw [dif_neg (by omega), dif_neg (by omega), dif_pos (by omega)]
    refine (hs _).trans (congrArg (fun u => max (q2 (ix2 u l) : EReal) 0) (Fin.ext ?_))
    show 16 + s.val - 8 - 8 = s.val
    omega
  · pointwise
    rw [dif_neg (by omega), dif_neg (by omega), dif_neg (by omega)]
    refine (hs _).trans (congrArg (fun u => max (q3 (ix2 u l) : EReal) 0) (Fin.ext ?_))
    show 24 + s.val - 8 - 8 - 8 = s.val
    omega

/-- The tiles of one code tile. -/
abbrev j4 (j : Fin 4) (i : Fin 4) : Fin 16 := ⟨4 * j.val + i.val, by omega⟩

/-- A tile of codes, of the inverses read back. -/
def codes (T : Tiles) (v : FVec Ideal S1x8x128 .f32) (e : Fin 20) (j c : Fin 4) : FVec Ideal S1x1x32x128 .fp8e4m3 :=
  packV (clipV (tile T e (j4 j 0) c) (gath (BitVec.ofNat 32 (8 * (j4 j 0).val)) v)) (clipV (tile T e (j4 j 1) c) (gath (BitVec.ofNat 32 (8 * (j4 j 1).val)) v))
    (clipV (tile T e (j4 j 2) c) (gath (BitVec.ofNat 32 (8 * (j4 j 2).val)) v)) (clipV (tile T e (j4 j 3) c) (gath (BitVec.ofNat 32 (8 * (j4 j 3).val)) v))

/-- The positive part of a clipped product is the clipped product of the positive part. -/
theorem clip_pos (h d : EReal) (hd : 0 ≤ d) :
    max (min (Ideal.ofBits .f32 0x43E00000#32) (max (Ideal.ofBits .f32 0xC3E00000#32) (h * d))) 0
    = min (Ideal.ofBits .f32 0x43E00000#32) (max (Ideal.ofBits .f32 0xC3E00000#32) (max h (Ideal.ofBits .f32 0x00000000#32) * d)) := by
  have h1 : (0 : EReal) ≤ Ideal.ofBits .f32 0x43E00000#32 := by
    have h : ((0 : ℝ) : EReal) ≤ ((14680064 * (2 ^ 15)⁻¹ : ℝ) : EReal) := EReal.coe_le_coe_iff.mpr (by norm_num)
    simpa [Ideal.ofBits, Ideal.ieee] using h
  have h2 : Ideal.ofBits .f32 0xC3E00000#32 ≤ (0 : EReal) := by
    have h : ((-(14680064 * (2 ^ 15)⁻¹) : ℝ) : EReal) ≤ ((0 : ℝ) : EReal) := EReal.coe_le_coe_iff.mpr (by norm_num)
    simpa [Ideal.ofBits, Ideal.ieee] using h
  rw [Cert.QuantiseReferenceIdeal.Val.zero_word]
  rcases le_total 0 h with hh | hh
  · rw [max_eq_left hh]
    refine max_eq_left (le_min h1 (le_max_of_le_right (mul_nonneg hh hd)))
  · have hp : h * d ≤ 0 := mul_nonpos_of_nonpos_of_nonneg hh hd
    rw [max_eq_right hh, zero_mul, max_eq_right h2, min_eq_right h1]
    exact max_eq_right ((min_le_right _ _).trans (max_le h2 hp))

/-- A scale is at most one number and its inverse is not negative. -/
theorem inv_nonneg (f : Fin 512 → EReal) (hf : ∀ k, max (f k) (-f k) ≤ Ideal.ofBits .f32 0x7F7FFFFF#32) :
    0 ≤ Ideal.div (Ideal.ofBits .f32 0x3F800000#32) (S fun k => max (f k) (Ideal.ofBits .f32 0x00000000#32)) := by
  have hb := Amax_bounds f hf
  have h3 := Cert.Scale.scale _ hb.1 hb.2
  have h1 : Ideal.ofBits .f32 0x3F800000#32 = (1 : EReal) := by
    refine (Cert.Scale.ofBits_W 127 (by norm_num)).trans ?_
    simp [Cert.Scale.P]
  show 0 ≤ Ideal.div _ (Cert.Scale.SC _)
  rw [h1]
  have h0 := h3.2.2
  unfold Ideal.div
  split_ifs <;> first | exact le_top | exact absurd zero_lt_one ‹_› | exact EReal.div_nonneg zero_le_one h0 | exact mul_nonneg zero_le_one (EReal.inv_nonneg_of_nonneg h0) | skip

/-- A tile of codes at an index. -/
theorem codes_at (T : Tiles) (X : Vec Ideal S1x20x128x512 .f32) (hT : Of T X) (hX : Fin_ X) (e : Fin 20) (j c i : Fin 4) (s : Fin 8) (l : Fin 128) :
    codes T (invs T e) e j c (ix4 0 0 ⟨8 * i.val + s.val, by omega⟩ l)
    = C (prow X e ⟨32 * j.val + (8 * i.val + s.val), by omega⟩) ⟨128 * c.val + l.val, by omega⟩ := by
  have hq : ∀ i : Fin 4, clipV (tile T e (j4 j i) c) (gath (BitVec.ofNat 32 (8 * (j4 j i).val)) (invs T e)) (ix2 s l)
      = min (Ideal.ofBits .f32 0x43E00000#32) (max (Ideal.ofBits .f32 0xC3E00000#32) (@HMul.hMul EReal EReal EReal _ (tile T e (j4 j i) c (ix2 s l)) (gath (BitVec.ofNat 32 (8 * (j4 j i).val)) (invs T e) (ix2 s l)))) := fun i => rfl
  have hn : ∀ i : Fin 4, (⟨8 * (j4 j i).val + s.val, by have := (j4 j i).isLt; omega⟩ : Fin 128) = ⟨32 * j.val + (8 * i.val + s.val), by omega⟩ :=
    fun i => Fin.ext (by show 8 * (4 * j.val + i.val) + s.val = 32 * j.val + (8 * i.val + s.val); omega)
  have hr : ∀ i : Fin 4, max (clipV (tile T e (j4 j i) c) (gath (BitVec.ofNat 32 (8 * (j4 j i).val)) (invs T e)) (ix2 s l) : EReal) 0
      = C (prow X e ⟨32 * j.val + (8 * i.val + s.val), by omega⟩) ⟨128 * c.val + l.val, by omega⟩ := by
    intro i
    rw [hq i, tile_at T X hT, gath_at T X hT hX, hn i]
    exact clip_pos _ _ (inv_nonneg _ (hX e _))
  refine (packV_at _ _ _ _ i s l).trans ?_
  refine Eq.trans ?_ (hr i)
  fin_cases i <;> rfl

end Cert.QuantiseIdeal.Val
end
end
-- ==== Proof.QuantiseValue.lean ====
module

public import Idealize.ShloMosaic.Lib.Pipeline.ValueKit
public import Idealize.ShloMosaic.Lib.Pointwise
public import proofs.«01_k».proof.Proof.QuantiseKernel

@[expose] public section

set_option maxRecDepth 65536

noncomputable section

namespace Cert.QuantiseIdeal.Val

open Idealize.ShloMosaic Idealize.ShloMosaic.TcCoe Idealize.ShloMosaic.Tactic Idealize.SL.Sem
open Idealize.ShloMosaic.Pipeline (Dat)
open Cert.QuantiseIdeal Cert.QuantiseIdeal.Gen
open Cert.QuantiseReferenceIdeal.Val (Amax S C Amax_pos Amax_bounds O4 O5)

/-- The tiles the kernel loads from its window of gathered sums. -/
abbrev ldT (arg5 : Memref sig .tc .vmem S1x20x128x512 .f32) (harg5 : arg5.IsWhole) (X : Vec Ideal S1x20x128x512 .f32) : Tiles := fun e j c =>
  View.readAt (Elt Ideal) arg5.view (Rect.unit (s := S1x20x128x512) ![0, e.val, 8 * j.val, 128 * c.val] S1x1x8x128.size (inT e j c)).toLoadRect (harg5.unread X)

/-- They are tiles of the block. -/
theorem ldT_of (arg5 : Memref sig .tc .vmem S1x20x128x512 .f32) (harg5 : arg5.IsWhole) (X : Vec Ideal S1x20x128x512 .f32) : Of (ldT arg5 harg5 X) X := by
  intro e j c s l
  show View.readAt (Elt Ideal) arg5.view (Rect.unit (s := S1x20x128x512) ![0, e.val, 8 * j.val, 128 * c.val] S1x1x8x128.size (inT e j c)).toLoadRect (harg5.unread X) (ix4 0 0 s l) = _
  rw [View.readAt_eq_ld, harg5.read_unread]
  refine congrArg X ?_
  funext a
  refine Fin.ext ?_
  match a with
  | ⟨0, _⟩ => rfl
  | ⟨1, _⟩ => show e.val + 1 * 0 = e.val; omega
  | ⟨2, _⟩ => show 8 * j.val + 1 * s.val = 8 * j.val + s.val; omega
  | ⟨3, _⟩ => show 128 * c.val + 1 * l.val = 128 * c.val + l.val; omega

/-- A neighbour's row of scales lies in the block. -/
theorem inS (e : Fin 20) : ∀ a, (![0, e.val, 0] : Fin 3 → ℕ) a + S1x1x128.size a ≤ S1x20x128.size a := by
  have := e.isLt
  intro a
  fin_cases a
  · show 0 + 1 ≤ 1; omega
  · show e.val + 1 ≤ 20; omega
  · show 0 + 128 ≤ 128; omega

/-- The stores of the scales. -/
def L5 (T : Tiles) : List (View.Piece (Elt Ideal) S1x20x128 .f32) :=
  ([19, 18, 17, 16, 15, 14, 13, 12, 11, 10, 9, 8, 7, 6, 5, 4, 3, 2, 1, 0] : List (Fin 20)).map fun e => ⟨Rect.unit (s := S1x20x128) ![0, e.val, 0] S1x1x128.size (inS e), scales T e⟩

/-- A neighbour's inverses lie in their buffer. -/
theorem inI (e : Fin 20) : ∀ a, (![e.val, 0, 0] : Fin 3 → ℕ) a + S1x8x128.size a ≤ S20x8x128.size a := by
  have := e.isLt
  intro a
  fin_cases a
  · show e.val + 1 ≤ 20; omega
  · show 0 + 8 ≤ 8; omega
  · show 0 + 128 ≤ 128; omega

/-- The stores of the inverses, those of the first `k` neighbours. -/
def LI (T : Tiles) : ℕ → List (View.Piece (Elt Ideal) S20x8x128 .f32)
  | 0 => []
  | k + 1 => ⟨Rect.unit (s := S20x8x128) ![(Fin.ofNat 20 k).val, 0, 0] S1x8x128.size (inI (Fin.ofNat 20 k)), invs T (Fin.ofNat 20 k)⟩ :: LI T k

/-- How many neighbours' inverses are there when a neighbour's codes are made. -/
def kI (e : Fin 20) : ℕ := min (e.val / 2 * 2 + 4) 20

/-- A neighbour's inverses, read back. -/
def backI (arg11 : Memref sig .tc .vmem S20x8x128 .f32) (T : Tiles) (e : Fin 20) : FVec Ideal S1x8x128 .f32 :=
  View.readCov (Val := Elt Ideal) arg11.view (LI T (kI e)) (Rect.unit (s := S20x8x128) ![e.val, 0, 0] S1x8x128.size (inI e)).toLoadRect

/-- A tile of codes lies in the block. -/
theorem inC (e : Fin 20) (j c : Fin 4) : ∀ a, (![0, e.val, 32 * j.val, 128 * c.val] : Fin 4 → ℕ) a + S1x1x32x128.size a ≤ S1x20x128x512.size a := by
  have := e.isLt; have := j.isLt; have := c.isLt
  intro a
  fin_cases a
  · show 0 + 1 ≤ 1; omega
  · show e.val + 1 ≤ 20; omega
  · show 32 * j.val + 32 ≤ 128; omega
  · show 128 * c.val + 128 ≤ 512; omega

/-- The stores of one neighbour's codes. -/
def LE (T : Tiles) (v : Fin 20 → FVec Ideal S1x8x128 .f32) (e : Fin 20) : List (View.Piece (Elt Ideal) S1x20x128x512 .fp8e4m3) :=
  ([3, 2, 1, 0] : List (Fin 4)).flatMap fun j => ([3, 2, 1, 0] : List (Fin 4)).map fun c =>
    ⟨Rect.unit (s := S1x20x128x512) ![0, e.val, 32 * j.val, 128 * c.val] S1x1x32x128.size (inC e j c), codes T (v e) e j c⟩

/-- The stores of the codes. -/
def L4 (T : Tiles) (v : Fin 20 → FVec Ideal S1x8x128 .f32) : List (View.Piece (Elt Ideal) S1x20x128x512 .fp8e4m3) :=
  ([19, 18, 17, 16, 15, 14, 13, 12, 11, 10, 9, 8, 7, 6, 5, 4, 3, 2, 1, 0] : List (Fin 20)).flatMap fun e => LE T v e

/-- The kernel's stores of the scales. -/
theorem pieces5 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S1x20x128x512 .f32) (harg5 : arg5.IsWhole) (arg6 : Memref sig .tc .vmem S1x20x128x512 .fp8e4m3) (harg6 : arg6.IsWhole) (arg7 : Memref sig .tc .vmem S1x20x128 .f32) (harg7 : arg7.IsWhole) (arg8 : Memref sig .tc .vmem S16400x128 .f32) (harg8 : arg8.IsWhole) (arg9 : Memref sig .tc .vmem S1024x128 .f32) (harg9 : arg9.IsWhole) (arg10 : Memref sig .tc .vmem S448x128 .f32) (harg10 : arg10.IsWhole) (arg11 : Memref sig .tc .vmem S20x8x128 .f32) (harg11 : arg11.IsWhole) (arg12 : Memref sig .tc .vmem S1056x128 .f32) (harg12 : arg12.IsWhole) (arg13 : Memref sig .tc .vmem S1056x128 .f32) (harg13 : arg13.IsWhole) (arg14 : Memref sig .tc .vmem S1056x128 .f32) (harg14 : arg14.IsWhole) (arg15 : Memref sig .tc .vmem S1056x128 .f32) (harg15 : arg15.IsWhole) (x0 : Vec Ideal S1x20x128 .i32) (x1 : Vec Ideal S128x512 .bf16) (x2 : Vec Ideal S1x16384x128 .f32) (x3 : Vec Ideal S1x20x128x512 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3).2.1 = L5 (ldT arg5 harg5 x3) := by
  sl_kernel_rfl

/-- The kernel's stores of the codes. -/
theorem pieces4 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S1x20x128x512 .f32) (harg5 : arg5.IsWhole) (arg6 : Memref sig .tc .vmem S1x20x128x512 .fp8e4m3) (harg6 : arg6.IsWhole) (arg7 : Memref sig .tc .vmem S1x20x128 .f32) (harg7 : arg7.IsWhole) (arg8 : Memref sig .tc .vmem S16400x128 .f32) (harg8 : arg8.IsWhole) (arg9 : Memref sig .tc .vmem S1024x128 .f32) (harg9 : arg9.IsWhole) (arg10 : Memref sig .tc .vmem S448x128 .f32) (harg10 : arg10.IsWhole) (arg11 : Memref sig .tc .vmem S20x8x128 .f32) (harg11 : arg11.IsWhole) (arg12 : Memref sig .tc .vmem S1056x128 .f32) (harg12 : arg12.IsWhole) (arg13 : Memref sig .tc .vmem S1056x128 .f32) (harg13 : arg13.IsWhole) (arg14 : Memref sig .tc .vmem S1056x128 .f32) (harg14 : arg14.IsWhole) (arg15 : Memref sig .tc .vmem S1056x128 .f32) (harg15 : arg15.IsWhole) (x0 : Vec Ideal S1x20x128 .i32) (x1 : Vec Ideal S128x512 .bf16) (x2 : Vec Ideal S1x16384x128 .f32) (x3 : Vec Ideal S1x20x128x512 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3).1 = L4 (ldT arg5 harg5 x3) (backI arg11 (ldT arg5 harg5 x3)) := by
  sl_kernel_rfl

/-- What neighbour `e`'s scales are stored from. -/
def G5 (X : Vec Ideal S1x20x128x512 .f32) : FVec Ideal S1x20x128 .f32 := fun i => S (prow X (i 1) (i 2))

/-- The codes of a block. -/
def G4 (X : Vec Ideal S1x20x128x512 .f32) : FVec Ideal S1x20x128x512 .fp8e4m3 := fun i => C (prow X (i 1) (i 2)) (i 3)

/-- The stores leave the scales. -/
theorem canon5 (T : Tiles) (X : Vec Ideal S1x20x128x512 .f32) (hT : Of T X) (hX : Fin_ X) (y) : View.canon (L5 T) y = G5 X y := by
  refine View.canon_apply_of_pieces (G5 X) _ ?_ y (View.cover_of_tiledL (L5 T) S1x1x128.size (by sl_kernel_rfl) y)
  intro p hp
  unfold L5 at hp
  obtain ⟨e, -, rfl⟩ := List.mem_map.mp hp
  intro x
  idx_vars x
  obtain rfl : x0 = 0 := Subsingleton.elim _ _
  obtain rfl : x1 = 0 := Subsingleton.elim _ _
  refine (scales_at T X hT hX e x2).trans ?_
  refine congrArg₂ (fun a b => S (prow X a b)) (Fin.ext ?_) (Fin.ext ?_)
  · show e.val = e.val + 1 * 0; omega
  · show x2.val = 0 + 1 * x2.val; omega

/-- A store of inverses is one neighbour's. -/
theorem LI_of (T : Tiles) (k : ℕ) (p) (hp : p ∈ LI T k) : ∃ e : Fin 20, p = ⟨Rect.unit (s := S20x8x128) ![e.val, 0, 0] S1x8x128.size (inI e), invs T e⟩ := by
  induction k with
  | zero => exact absurd hp List.not_mem_nil
  | succ k ih =>
    rcases List.mem_cons.mp hp with h | h
    · exact ⟨_, h⟩
    · exact ih h

/-- Every neighbour before `k` is there. -/
theorem LI_mem (T : Tiles) (k : ℕ) (e : Fin 20) (h : e.val < k) :
    (⟨Rect.unit (s := S20x8x128) ![e.val, 0, 0] S1x8x128.size (inI e), invs T e⟩ : View.Piece (Elt Ideal) S20x8x128 .f32) ∈ LI T k := by
  induction k with
  | zero => omega
  | succ k ih =>
    by_cases hk : e.val = k
    · obtain rfl : e = Fin.ofNat 20 k := Fin.ext (by show e.val = k % 20; omega)
      exact List.mem_cons_self
    · exact List.mem_cons_of_mem _ (ih (by omega))

/-- The inverses read back are those stored. -/
theorem backI_eq (arg11 : Memref sig .tc .vmem S20x8x128 .f32) (T : Tiles) (e : Fin 20) : backI arg11 T e = invs T e := by
  have hcong : ∀ (e e' : Fin 20) (y y' : S1x8x128.Idx), e = e' → y = y' → invs T e y = invs T e' y' := by
    rintro e _ y _ rfl rfl
    rfl
  have hG : ∀ (e : Fin 20) (x : S1x8x128.Idx), invs T e x =
      (fun i : S20x8x128.Idx => invs T (i 0) (ix3 0 (i 1) (i 2))) ((Rect.unit (s := S20x8x128) ![e.val, 0, 0] S1x8x128.size (inI e)).emb x) := by
    intro e x
    idx_vars x
    obtain rfl : x0 = 0 := Subsingleton.elim _ _
    refine hcong _ _ _ _ (Fin.ext ?_) ?_
    · show e.val = e.val + 1 * 0; omega
    · funext a
      refine Fin.ext ?_
      match a with
      | ⟨0, _⟩ => rfl
      | ⟨1, _⟩ => show x1.val = 0 + 1 * x1.val; omega
      | ⟨2, _⟩ => show x2.val = 0 + 1 * x2.val; omega
  unfold backI
  rw [View.readCov_eq_canon']
  funext x
  refine (View.canon_apply_of_pieces (fun i : S20x8x128.Idx => invs T (i 0) (ix3 0 (i 1) (i 2))) _ ?_ _ ?_).trans (hG e x).symm
  · intro p hp
    obtain ⟨e', rfl⟩ := LI_of T _ p hp
    exact hG e'
  · exact ⟨_, LI_mem T (kI e) e (by unfold kI; omega), LoadRect.idx_mem _ x⟩

/-- The stores leave the codes. -/
theorem canon4 (T : Tiles) (X : Vec Ideal S1x20x128x512 .f32) (hT : Of T X) (hX : Fin_ X) (v : Fin 20 → FVec Ideal S1x8x128 .f32) (hv : ∀ e, v e = invs T e) (y) :
    View.canon (L4 T v) y = G4 X y := by
  refine View.canon_apply_of_pieces (G4 X) _ ?_ y (View.cover_of_tiledL (L4 T v) S1x1x32x128.size (by sl_kernel_rfl) y)
  intro p hp
  unfold L4 at hp
  obtain ⟨e, -, hp⟩ := List.mem_flatMap.mp hp
  unfold LE at hp
  obtain ⟨j, -, hp⟩ := List.mem_flatMap.mp hp
  obtain ⟨c, -, rfl⟩ := List.mem_map.mp hp
  intro x
  idx_vars x
  obtain rfl : x0 = 0 := Subsingleton.elim _ _
  obtain rfl : x1 = 0 := Subsingleton.elim _ _
  show codes T (v e) e j c (ix4 0 0 x2 x3) = _
  rw [hv e]
  have h2 : x2 = ⟨8 * (⟨x2.val / 8, by omega⟩ : Fin 4).val + (⟨x2.val % 8, by omega⟩ : Fin 8).val, by show 8 * (x2.val / 8) + x2.val % 8 < 32; omega⟩ :=
    Fin.ext (by show x2.val = 8 * (x2.val / 8) + x2.val % 8; omega)
  refine Eq.trans (congrArg (fun u => codes T (invs T e) e j c (ix4 0 0 u x3)) h2) ?_
  refine (codes_at T X hT hX e j c ⟨x2.val / 8, by omega⟩ ⟨x2.val % 8, by omega⟩ x3).trans ?_
  have hc : ∀ (a a' : Fin 20) (n n' : Fin 128) (k k' : Fin 512), a = a' → n = n' → k = k' → C (prow X a n) k = C (prow X a' n') k' := by
    rintro a _ n _ k _ rfl rfl rfl
    rfl
  refine hc _ _ _ _ _ _ (Fin.ext ?_) (Fin.ext ?_) (Fin.ext ?_)
  · show e.val = e.val + 1 * 0; omega
  · show 32 * j.val + (8 * (x2.val / 8) + x2.val % 8) = 32 * j.val + 1 * x2.val; omega
  · show 128 * c.val + x3.val = 128 * c.val + 1 * x3.val; omega

/-- What a point leaves of the scales. -/
theorem out5 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S1x20x128x512 .f32) (harg5 : arg5.IsWhole) (arg6 : Memref sig .tc .vmem S1x20x128x512 .fp8e4m3) (harg6 : arg6.IsWhole) (arg7 : Memref sig .tc .vmem S1x20x128 .f32) (harg7 : arg7.IsWhole) (arg8 : Memref sig .tc .vmem S16400x128 .f32) (harg8 : arg8.IsWhole) (arg9 : Memref sig .tc .vmem S1024x128 .f32) (harg9 : arg9.IsWhole) (arg10 : Memref sig .tc .vmem S448x128 .f32) (harg10 : arg10.IsWhole) (arg11 : Memref sig .tc .vmem S20x8x128 .f32) (harg11 : arg11.IsWhole) (arg12 : Memref sig .tc .vmem S1056x128 .f32) (harg12 : arg12.IsWhole) (arg13 : Memref sig .tc .vmem S1056x128 .f32) (harg13 : arg13.IsWhole) (arg14 : Memref sig .tc .vmem S1056x128 .f32) (harg14 : arg14.IsWhole) (arg15 : Memref sig .tc .vmem S1056x128 .f32) (harg15 : arg15.IsWhole) (x0 : Vec Ideal S1x20x128 .i32) (x1 : Vec Ideal S128x512 .bf16) (x2 : Vec Ideal S1x16384x128 .f32) (x3 : Vec Ideal S1x20x128x512 .f32) (hX : Fin_ x3) :
    out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 = G5 x3 := by
  funext y
  unfold out0_A_5
  rw [View.read_writes_junk_apply_eq_canon, pieces5]
  exact canon5 _ _ (ldT_of arg5 harg5 x3) hX y

/-- What a point leaves of the codes. -/
theorem out4 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S1x20x128x512 .f32) (harg5 : arg5.IsWhole) (arg6 : Memref sig .tc .vmem S1x20x128x512 .fp8e4m3) (harg6 : arg6.IsWhole) (arg7 : Memref sig .tc .vmem S1x20x128 .f32) (harg7 : arg7.IsWhole) (arg8 : Memref sig .tc .vmem S16400x128 .f32) (harg8 : arg8.IsWhole) (arg9 : Memref sig .tc .vmem S1024x128 .f32) (harg9 : arg9.IsWhole) (arg10 : Memref sig .tc .vmem S448x128 .f32) (harg10 : arg10.IsWhole) (arg11 : Memref sig .tc .vmem S20x8x128 .f32) (harg11 : arg11.IsWhole) (arg12 : Memref sig .tc .vmem S1056x128 .f32) (harg12 : arg12.IsWhole) (arg13 : Memref sig .tc .vmem S1056x128 .f32) (harg13 : arg13.IsWhole) (arg14 : Memref sig .tc .vmem S1056x128 .f32) (harg14 : arg14.IsWhole) (arg15 : Memref sig .tc .vmem S1056x128 .f32) (harg15 : arg15.IsWhole) (x0 : Vec Ideal S1x20x128 .i32) (x1 : Vec Ideal S128x512 .bf16) (x2 : Vec Ideal S1x16384x128 .f32) (x3 : Vec Ideal S1x20x128x512 .f32) (hX : Fin_ x3) :
    out0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 = G4 x3 := by
  funext y
  unfold out0_A_4
  rw [View.read_writes_junk_apply_eq_canon, pieces4]
  exact canon4 _ _ (ldT_of arg5 harg5 x3) hX _ (backI_eq arg11 _) y

/-- Where each window's block lies at grid point `t`. -/
theorem idx : ∀ t : Fin cfg0.N, win0_3.index t = ![t.val / 32, 0, t.val % 32, 0] ∧ win0_4.index t = ![t.val / 32, 0, t.val % 32, 0]
    ∧ win0_5.index t = ![t.val / 32, 0, t.val % 32] ∧ t.val < 256 :=
  (by decide +kernel : ∀ t : Fin grid0.N, _)

variable (m : (ℓ : Loc nD τ sig) → Buf (Elt Ideal) ℓ)

/-- Every gathered sum is finite. -/
abbrev Finite (h : FVec Ideal S8x20x4096x512 .f32) : Prop := ∀ i, max (h i : EReal) (-(h i : EReal)) ≤ Ideal.ofBits .f32 0x7F7FFFFF#32

/-- The batch of block `t`. -/
abbrev b_ (t : Fin cfg0.N) : Fin 8 := ⟨t.val / 32, by have := (idx t).2.2.2; omega⟩

/-- Node `n` of block `t`. -/
abbrev n_ (t : Fin cfg0.N) (n : Fin 128) : Fin 4096 := ⟨t.val % 32 * 128 + n.val, by omega⟩

/-- The block's sums are the argument's. -/
theorem x_eq (c : Dev nD) (t : Fin cfg0.N) (e : Fin 20) (n : Fin 128) (k : Fin 512) :
    iblk m c 3 t (ix4 0 e n k) = m ((c : Thread nD τ).loc main_arg3) (ix4 (b_ t) e (n_ t n) k) := by
  blk_point [iblk, V, idx t]

/-- So its rows are the argument's. -/
theorem prow_eq (c : Dev nD) (t : Fin cfg0.N) (e : Fin 20) (n : Fin 128) :
    prow (iblk m c 3 t) e n = Cert.QuantiseReferenceIdeal.Val.row (m ((c : Thread nD τ).loc main_arg3)) (b_ t) e (n_ t n) := by
  funext k
  unfold prow hrow Cert.QuantiseReferenceIdeal.Val.row
  rw [x_eq m c t e n k]

/-- And finite. -/
theorem fin_blk (c : Dev nD) (hx : Finite (m ((c : Thread nD τ).loc main_arg3))) (t : Fin cfg0.N) : Fin_ (iblk m c 3 t) := by
  intro e n k
  have h := x_eq m c t e n k
  unfold hrow
  rw [h]
  exact hx _

/-- The array of the kernel's codes. -/
theorem final4 (c : Dev nD) (hx : Finite (m ((c : Thread nD τ).loc main_arg3))) : (dats m 0 c).arrAt 4 cfg0.N = O4 (m ((c : Thread nD τ).loc main_arg3)) := by
  refine (dats m 0 c).arrAt_eq_of_covers 4 _ (by decide +kernel) fun t _ y => ?_
  blk_simp
  rw [after0_4]
  unfold outsAt0
  dsimp only
  rw [out4 (hX := fin_blk m c hx t)]
  idx_vars y
  obtain rfl : y0 = 0 := Subsingleton.elim _ _
  generalize hO : O4 (m ((c : Thread nD τ).loc main_arg3)) = O
  refine Eq.trans (b := O (ix4 (b_ t) y1 (n_ t y2) y3)) ?_ ?_
  swap
  · blk_ext [idx t]
  subst hO
  exact congrArg (fun f => C f y3) (prow_eq m c t y1 y2)

/-- The array of the kernel's scales. -/
theorem final5 (c : Dev nD) (hx : Finite (m ((c : Thread nD τ).loc main_arg3))) : (dats m 0 c).arrAt 5 cfg0.N = O5 (m ((c : Thread nD τ).loc main_arg3)) := by
  refine (dats m 0 c).arrAt_eq_of_covers 5 _ (by decide +kernel) fun t _ y => ?_
  blk_simp
  rw [after0_5]
  unfold outsAt0
  dsimp only
  rw [out5 (hX := fin_blk m c hx t)]
  idx_vars y
  obtain rfl : y0 = 0 := Subsingleton.elim _ _
  generalize hO : O5 (m ((c : Thread nD τ).loc main_arg3)) = O
  refine Eq.trans (b := O (ix3 (b_ t) y1 (n_ t y2))) ?_ ?_
  swap
  · blk_ext [idx t]
  subst hO
  exact congrArg S (prow_eq m c t y1 y2)

end Cert.QuantiseIdeal.Val
end
end
-- ==== Proof.EdgesReference.lean ====
module

public import Idealize.ShloMosaic.Lib.Pipeline.ValueKit
public import Idealize.ShloMosaic.Lib.Pointwise
public import proofs.«01_k».proof.Proof.Gen.EdgesReferenceIdeal.Frame
public import proofs.«01_k».proof.Proof.Gen.EdgesReferenceIdeal.Value
public import proofs.«01_k».proof.Proof.QuantiseReference
public import proofs.«01_k».proof.Proof.SecondValue
public import proofs.«01_k».proof.Pre_sums_and_scale

@[expose] public section

set_option maxRecDepth 16384

noncomputable section

namespace Cert.EdgesReferenceIdeal.Val

open Idealize.ShloMosaic Idealize.ShloMosaic.TcCoe Idealize.SL.Sem
open Cert.EdgesReferenceIdeal Cert.EdgesReferenceIdeal.Gen
open Cert.QuantiseReferenceIdeal.Val (S C row O4 O5 ref_code ref_pay4 ref_scale)
open Cert.SecondIdeal.Val (M fold20)

/-- The score of neighbour `k`: the product of its codes with the weight's column, times its scale. -/
def SC (w : FVec Ideal S512x448 .fp8e4m3) (h : FVec Ideal S8x20x4096x512 .f32) (b : Fin 8) (o : Fin 448) (n : Fin 4096) (k : Fin 20) : EReal :=
  (∑ x : Fin 512, @HMul.hMul EReal EReal EReal _ (w (ix2 x o)) (C (row h b k n) x)) * S (row h b k n)

/-- The largest score, scaled and shifted. -/
def O3 (w : FVec Ideal S512x448 .fp8e4m3) (s a : FVec Ideal S448 .f32) (h : FVec Ideal S8x20x4096x512 .f32) : FVec Ideal S8x448x4096 .bf16 := fun i =>
  @HAdd.hAdd EReal EReal EReal _ (M (SC w h (i 0) (i 1) (i 2)) * (s (ix1 (i 1)) : EReal)) (a (ix1 (i 1)))

/-- The reference's codes. -/
theorem codes_eq (h : Vec Ideal S8x20x4096x512 .f32) : k0_pay4 (F := Ideal) h = O4 h := by
  funext y
  idx_vars y
  exact ref_code h y0 y1 y2 y3

/-- The reference's scales. -/
theorem scales_eq (h : Vec Ideal S8x20x4096x512 .f32) : k0_pay5 (F := Ideal) h = O5 h := by
  funext y
  idx_vars y
  exact ref_pay4 h y0 y1 y2

/-- The reference's second product, of any codes and scales. -/
theorem second_at (v : FVec Ideal S8x20x4096x1 .f32) (cd : FVec Ideal S8x20x4096x512 .fp8e4m3) (w : FVec Ideal S512x448 .fp8e4m3) (s a : FVec Ideal S448 .f32)
    (b : Fin 8) (o : Fin 448) (n : Fin 4096) (hs : (0 : EReal) ≤ s (ix1 o)) :
    k0_pay1 (F := Ideal) v cd w s a (ix3 b o n)
      = @HAdd.hAdd EReal EReal EReal _ (M (fun k => (∑ x : Fin 512, @HMul.hMul EReal EReal EReal _ (w (ix2 x o)) (cd (ix4 b k n x))) * (v (ix4 b k n 0) : EReal)) * (s (ix1 o) : EReal)) (a (ix1 o)) := by
  pointwise [k0_pay1]
  refine Eq.trans ?_ (fold20 (fun k => (∑ x : Fin 512, @HMul.hMul EReal EReal EReal _ (w (ix2 x o)) (cd (ix4 b k n x))) * (v (ix4 b k n 0) : EReal)) (s (ix1 o)) (a (ix1 o)) hs)
  refine congrArg (fun f => Finset.fold max _ f _) (funext fun k => ?_)
  refine congrArg (· + (a (ix1 o) : EReal)) ?_
  rw [← mul_assoc]
  refine congrArg (fun z : EReal => z * (v (ix4 b k n 0) : EReal) * (s (ix1 o) : EReal)) ?_
  exact Finset.sum_congr rfl fun x _ => mul_comm (G := EReal) _ _

/-- The reference's result, where no scale is below zero. -/
theorem result_eq (w : FVec Ideal S512x448 .fp8e4m3) (s a : FVec Ideal S448 .f32) (h : Vec Ideal S8x20x4096x512 .f32) (hs : ∀ i, (0 : EReal) ≤ s i) :
    k0_pay1 (F := Ideal) (k0_pay3 h) (k0_pay4 h) w s a = O3 w s a h := by
  funext y
  idx_vars y
  refine (second_at _ _ w s a y0 y1 y2 (hs _)).trans ?_
  refine congrArg (fun f => @HAdd.hAdd EReal EReal EReal _ (Cert.SecondIdeal.Val.M f * (s (ix1 y1) : EReal)) (a (ix1 y1))) (funext fun k => ?_)
  have h3 : k0_pay3 (F := Ideal) h (ix4 y0 k y2 0) = S (row h y0 k y2) := ref_scale h y0 k y2
  rw [h3]
  rw [codes_eq h]
  rfl

/-- The precondition, read: every gathered sum is finite. -/
theorem finite (a0 a1 a2 a3 a4 a5 : _) (a6 : FVec Ideal Cert.Pre_sums_and_scale.S8x20x4096x512 .f32) [Cert.Pre_sums_and_scale.Facts]
   (h : (Cert.Pre_sums_and_scale.fn (F := Ideal) a0 a1 a2 a3 a4 a5 a6).1 = fun _ => 1#1) (i) : max (a6 i : EReal) (-(a6 i : EReal)) ≤ Ideal.ofBits .f32 0x7F7FFFFF#32 := by
  have h1 := congrFun h i
  pointwise [Cert.Pre_sums_and_scale.fn] at h1
  by_contra hn
  have h2 : decide ((FloatOps.absf (a6 i : Ideal .f32) : EReal) ≤ Ideal.ofBits .f32 0x7F7FFFFF#32) = false := decide_eq_false hn
  rw [h2] at h1
  exact absurd h1 (by decide)

/-- The precondition, read: no scale of the second weight is below zero. -/
theorem nonneg (a0 a1 a2 a3 : _) (a4 : FVec Ideal Cert.Pre_sums_and_scale.S448 .f32) (a5 a6) [Cert.Pre_sums_and_scale.Facts]
   (h : (Cert.Pre_sums_and_scale.fn (F := Ideal) a0 a1 a2 a3 a4 a5 a6).2 = fun _ => 1#1) (i) : (0 : EReal) ≤ a4 i := by
  have h1 := congrFun h i
  pointwise [Cert.Pre_sums_and_scale.fn] at h1
  by_contra hn
  rw [decide_eq_false hn] at h1
  exact absurd h1 (by decide)

end Cert.EdgesReferenceIdeal.Val
end
end
-- ==== Proof.EdgesKernel.lean ====
module

public import Idealize.ShloMosaic.Lib.Pipeline.ValueKit
public import Idealize.ShloMosaic.Lib.Pointwise
public import proofs.«01_k».proof.Proof.QuantiseValue
public import proofs.«01_k».proof.Proof.EdgesReference
public import proofs.«01_k».proof.Proof.Gen.EdgesIdeal.Skeleton

@[expose] public section

set_option maxRecDepth 65536

noncomputable section

namespace Cert.EdgesIdeal.Val

open Idealize.ShloMosaic Idealize.ShloMosaic.TcCoe Idealize.ShloMosaic.Tactic Idealize.SL.Sem
open Cert.EdgesIdeal Cert.EdgesIdeal.Gen
open Cert.QuantiseReferenceIdeal.Val (S C)
open Cert.QuantiseIdeal.Val (Tiles Of inT inS inI inC L4 L5 LE LI LI_of LI_mem kI G4 G5 canon4 canon5 codes scales invs codes_at scales_at prow Fin_)

/-- The tiles the kernel loads from its window of gathered sums. -/
abbrev ldT (arg9 : Memref sig .tc .vmem S1x20x128x512 .f32) (harg9 : arg9.IsWhole) (X : Vec Ideal S1x20x128x512 .f32) : Tiles := fun e j c =>
  View.readAt (Elt Ideal) arg9.view (Rect.unit (s := S1x20x128x512) ![0, e.val, 8 * j.val, 128 * c.val] S1x1x8x128.size (inT e j c)).toLoadRect (harg9.unread X)

/-- They are tiles of the block. -/
theorem ldT_of (arg9 : Memref sig .tc .vmem S1x20x128x512 .f32) (harg9 : arg9.IsWhole) (X : Vec Ideal S1x20x128x512 .f32) : Of (ldT arg9 harg9 X) X := by
  intro e j c s l
  show View.readAt (Elt Ideal) arg9.view (Rect.unit (s := S1x20x128x512) ![0, e.val, 8 * j.val, 128 * c.val] S1x1x8x128.size (inT e j c)).toLoadRect (harg9.unread X) (ix4 0 0 s l) = _
  rw [View.readAt_eq_ld, harg9.read_unread]
  refine congrArg X ?_
  funext a
  refine Fin.ext ?_
  match a with
  | ⟨0, _⟩ => rfl
  | ⟨1, _⟩ => show e.val + 1 * 0 = e.val; omega
  | ⟨2, _⟩ => show 8 * j.val + 1 * s.val = 8 * j.val + s.val; omega
  | ⟨3, _⟩ => show 128 * c.val + 1 * l.val = 128 * c.val + l.val; omega

/-- A neighbour's inverses, read back. -/
def backI (arg16 : Memref sig .tc .vmem S20x8x128 .f32) (T : Tiles) (e : Fin 20) : FVec Ideal S1x8x128 .f32 :=
  View.readCov (Val := Elt Ideal) arg16.view (LI T (kI e)) (Rect.unit (s := S20x8x128) ![e.val, 0, 0] S1x8x128.size (inI e)).toLoadRect

/-- The inverses read back are those stored. -/
theorem backI_eq (arg16 : Memref sig .tc .vmem S20x8x128 .f32) (T : Tiles) (e : Fin 20) : backI arg16 T e = invs T e := by
  have hcong : ∀ (e e' : Fin 20) (y y' : S1x8x128.Idx), e = e' → y = y' → invs T e y = invs T e' y' := by
    rintro e _ y _ rfl rfl
    rfl
  have hG : ∀ (e : Fin 20) (x : S1x8x128.Idx), invs T e x =
      (fun i : S20x8x128.Idx => invs T (i 0) (ix3 0 (i 1) (i 2))) ((Rect.unit (s := S20x8x128) ![e.val, 0, 0] S1x8x128.size (inI e)).emb x) := by
    intro e x
    idx_vars x
    obtain rfl : x0 = 0 := Subsingleton.elim _ _
    refine hcong _ _ _ _ (Fin.ext ?_) ?_
    · show e.val = e.val + 1 * 0; omega
    · funext a
      refine Fin.ext ?_
      match a with
      | ⟨0, _⟩ => rfl
      | ⟨1, _⟩ => show x1.val = 0 + 1 * x1.val; omega
      | ⟨2, _⟩ => show x2.val = 0 + 1 * x2.val; omega
  unfold backI
  rw [View.readCov_eq_canon']
  funext x
  refine (View.canon_apply_of_pieces (fun i : S20x8x128.Idx => invs T (i 0) (ix3 0 (i 1) (i 2))) _ ?_ _ ?_).trans (hG e x).symm
  · intro p hp
    obtain ⟨e', rfl⟩ := LI_of T _ p hp
    exact hG e'
  · exact ⟨_, LI_mem T (kI e) e (by unfold kI; omega), LoadRect.idx_mem _ x⟩

/-- The stores of the codes of the first `k` neighbours. -/
def LC (T : Tiles) (v : Fin 20 → FVec Ideal S1x8x128 .f32) : ℕ → List (View.Piece (Elt Ideal) S1x20x128x512 .fp8e4m3)
  | 0 => []
  | k + 1 => LE T v (Fin.ofNat 20 k) ++ LC T v k

/-- The stores of the scales of the first `k` neighbours. -/
def LS (T : Tiles) : ℕ → List (View.Piece (Elt Ideal) S1x20x128 .f32)
  | 0 => []
  | k + 1 => ⟨Rect.unit (s := S1x20x128) ![0, (Fin.ofNat 20 k).val, 0] S1x1x128.size (inS (Fin.ofNat 20 k)), scales T (Fin.ofNat 20 k)⟩ :: LS T k

/-- A pair of neighbours' codes lies in the block. -/
theorem inP (p : Fin 10) : ∀ a, (![0, 2 * p.val, 0, 0] : Fin 4 → ℕ) a + S1x2x128x512.size a ≤ S1x20x128x512.size a := by
  have := p.isLt
  intro a
  fin_cases a
  · show 0 + 1 ≤ 1; omega
  · show 2 * p.val + 2 ≤ 20; omega
  · show 0 + 128 ≤ 128; omega
  · show 0 + 512 ≤ 512; omega

/-- The first neighbour of a pair. -/
abbrev e0 (p : Fin 10) : Fin 20 := ⟨2 * p.val, by omega⟩

/-- The second neighbour of a pair. -/
abbrev e1 (p : Fin 10) : Fin 20 := ⟨2 * p.val + 1, by omega⟩

/-- A pair's codes, read back. -/
def cdB (arg11 : Memref sig .tc .vmem S1x20x128x512 .fp8e4m3) (T : Tiles) (v : Fin 20 → FVec Ideal S1x8x128 .f32) (p : Fin 10) : Vec Ideal S1x2x128x512 .fp8e4m3 :=
  View.readCov (Val := Elt Ideal) arg11.view (LC T v (min (2 * p.val + 4) 20)) (Rect.unit (s := S1x20x128x512) ![0, 2 * p.val, 0, 0] S1x2x128x512.size (inP p)).toLoadRect

/-- A neighbour's scales, read back when its pair is `p`. -/
def scB (arg12 : Memref sig .tc .vmem S1x20x128 .f32) (T : Tiles) (p : Fin 10) (e : Fin 20) : Vec Ideal S1x1x128 .f32 :=
  View.readCov (Val := Elt Ideal) arg12.view (LS T (min (2 * p.val + 6) 20)) (Rect.unit (s := S1x20x128) ![0, e.val, 0] S1x1x128.size (inS e)).toLoadRect

/-- A store of scales is one neighbour's. -/
theorem LS_of (T : Tiles) (k : ℕ) (p) (hp : p ∈ LS T k) : ∃ e : Fin 20, p = ⟨Rect.unit (s := S1x20x128) ![0, e.val, 0] S1x1x128.size (inS e), scales T e⟩ := by
  induction k with
  | zero => exact absurd hp List.not_mem_nil
  | succ k ih =>
    rcases List.mem_cons.mp hp with h | h
    · exact ⟨_, h⟩
    · exact ih h

/-- Every neighbour before `k` is there. -/
theorem LS_mem (T : Tiles) (k : ℕ) (e : Fin 20) (h : e.val < k) :
    (⟨Rect.unit (s := S1x20x128) ![0, e.val, 0] S1x1x128.size (inS e), scales T e⟩ : View.Piece (Elt Ideal) S1x20x128 .f32) ∈ LS T k := by
  induction k with
  | zero => omega
  | succ k ih =>
    by_cases hk : e.val = k
    · obtain rfl : e = Fin.ofNat 20 k := Fin.ext (by show e.val = k % 20; omega)
      exact List.mem_cons_self
    · exact List.mem_cons_of_mem _ (ih (by omega))

/-- The scales read back are the rows' scales. -/
theorem scB_at (arg12 : Memref sig .tc .vmem S1x20x128 .f32) (T : Tiles) (X : Vec Ideal S1x20x128x512 .f32) (hT : Of T X) (hX : Fin_ X) (p : Fin 10) (e : Fin 20) (he : e.val < 2 * p.val + 6) (n : Fin 128) :
    scB arg12 T p e (ix3 0 0 n) = S (prow X e n) := by
  unfold scB
  rw [View.readCov_eq_canon']
  refine (View.canon_apply_of_pieces (G5 X) _ ?_ _ ?_).trans ?_
  · intro q hq
    obtain ⟨e', rfl⟩ := LS_of T _ q hq
    intro x
    idx_vars x
    obtain rfl : x0 = 0 := Subsingleton.elim _ _
    obtain rfl : x1 = 0 := Subsingleton.elim _ _
    refine (scales_at T X hT hX e' x2).trans ?_
    refine congrArg₂ (fun a b => S (prow X a b)) (Fin.ext ?_) (Fin.ext ?_)
    · show e'.val = e'.val + 1 * 0; omega
    · show x2.val = 0 + 1 * x2.val; omega
  · exact ⟨_, LS_mem T _ e (by have := e.isLt; omega), LoadRect.idx_mem _ _⟩
  · refine congrArg₂ (fun a b => S (prow X a b)) (Fin.ext ?_) (Fin.ext ?_)
    · show e.val + 1 * 0 = e.val; omega
    · show 0 + 1 * n.val = n.val; omega

/-- A store of codes is one neighbour's. -/
theorem LC_of (T : Tiles) (v : Fin 20 → FVec Ideal S1x8x128 .f32) (k : ℕ) (p) (hp : p ∈ LC T v k) : ∃ e : Fin 20, p ∈ LE T v e := by
  induction k with
  | zero => exact absurd hp List.not_mem_nil
  | succ k ih =>
    rcases List.mem_append.mp hp with h | h
    · exact ⟨_, h⟩
    · exact ih h

/-- Every neighbour before `k` is there. -/
theorem LC_mem (T : Tiles) (v : Fin 20 → FVec Ideal S1x8x128 .f32) (k : ℕ) (e : Fin 20) (h : e.val < k) (p) (hp : p ∈ LE T v e) : p ∈ LC T v k := by
  induction k with
  | zero => omega
  | succ k ih =>
    by_cases hk : e.val = k
    · obtain rfl : e = Fin.ofNat 20 k := Fin.ext (by show e.val = k % 20; omega)
      exact List.mem_append_left _ hp
    · exact List.mem_append_right _ (ih (by omega))

/-- Each tile of codes is one of its neighbour's stores. -/
theorem LE_mem (T : Tiles) (v : Fin 20 → FVec Ideal S1x8x128 .f32) (e : Fin 20) (j c : Fin 4) :
    (⟨Rect.unit (s := S1x20x128x512) ![0, e.val, 32 * j.val, 128 * c.val] S1x1x32x128.size (inC e j c), codes T (v e) e j c⟩ : View.Piece (Elt Ideal) S1x20x128x512 .fp8e4m3) ∈ LE T v e := by
  unfold Cert.QuantiseIdeal.Val.LE
  refine List.mem_flatMap.mpr ⟨j, (by decide : ∀ j : Fin 4, j ∈ ([3, 2, 1, 0] : List (Fin 4))) j, List.mem_map.mpr ⟨c, (by decide : ∀ j : Fin 4, j ∈ ([3, 2, 1, 0] : List (Fin 4))) c, rfl⟩⟩

/-- A neighbour's stores hold its codes. -/
theorem LE_ok (T : Tiles) (X : Vec Ideal S1x20x128x512 .f32) (hT : Of T X) (hX : Fin_ X) (v : Fin 20 → FVec Ideal S1x8x128 .f32) (hv : ∀ e, v e = invs T e)
    (e : Fin 20) (p : View.Piece (Elt Ideal) S1x20x128x512 .fp8e4m3) (hp : p ∈ LE T v e) (x : p.1.shape.Idx) : p.2 x = G4 X (p.1.emb x) := by
  unfold Cert.QuantiseIdeal.Val.LE at hp
  obtain ⟨j, -, hp⟩ := List.mem_flatMap.mp hp
  obtain ⟨c, -, rfl⟩ := List.mem_map.mp hp
  idx_vars x
  obtain rfl : x0 = 0 := Subsingleton.elim _ _
  obtain rfl : x1 = 0 := Subsingleton.elim _ _
  show codes T (v e) e j c (ix4 0 0 x2 x3) = _
  rw [hv e]
  have h2 : x2 = ⟨8 * (⟨x2.val / 8, by omega⟩ : Fin 4).val + (⟨x2.val % 8, by omega⟩ : Fin 8).val, by show 8 * (x2.val / 8) + x2.val % 8 < 32; omega⟩ :=
    Fin.ext (by show x2.val = 8 * (x2.val / 8) + x2.val % 8; omega)
  refine Eq.trans (congrArg (fun u => codes T (invs T e) e j c (ix4 0 0 u x3)) h2) ?_
  refine (codes_at T X hT hX e j c ⟨x2.val / 8, by omega⟩ ⟨x2.val % 8, by omega⟩ x3).trans ?_
  have hc : ∀ (a a' : Fin 20) (n n' : Fin 128) (k k' : Fin 512), a = a' → n = n' → k = k' → C (prow X a n) k = C (prow X a' n') k' := by
    rintro a _ n _ k _ rfl rfl rfl
    rfl
  refine hc _ _ _ _ _ _ (Fin.ext ?_) (Fin.ext ?_) (Fin.ext ?_)
  · show e.val = e.val + 1 * 0; omega
  · show 32 * j.val + (8 * (x2.val / 8) + x2.val % 8) = 32 * j.val + 1 * x2.val; omega
  · show 128 * c.val + x3.val = 128 * c.val + 1 * x3.val; omega

/-- The codes read back are the rows' codes. -/
theorem cdB_at (arg11 : Memref sig .tc .vmem S1x20x128x512 .fp8e4m3) (T : Tiles) (X : Vec Ideal S1x20x128x512 .f32) (hT : Of T X) (hX : Fin_ X) (v : Fin 20 → FVec Ideal S1x8x128 .f32) (hv : ∀ e, v e = invs T e)
    (p : Fin 10) (i : Fin 2) (n : Fin 128) (k : Fin 512) :
    cdB arg11 T v p (ix4 0 i n k) = C (prow X ⟨2 * p.val + i.val, by omega⟩ n) k := by
  have hp := p.isLt
  have hi := i.isLt
  unfold cdB
  rw [View.readCov_eq_canon']
  refine (View.canon_apply_of_pieces (G4 X) _ ?_ _ ?_).trans ?_
  · intro q hq x
    obtain ⟨e', hq⟩ := LC_of T v _ q hq
    exact LE_ok T X hT hX v hv e' q hq x
  · refine ⟨_, LC_mem T v _ ⟨2 * p.val + i.val, by omega⟩ (by show 2 * p.val + i.val < _; omega) _ (LE_mem T v _ ⟨n.val / 32, by omega⟩ ⟨k.val / 128, by omega⟩), ?_⟩
    refine (Rect.mem_set_unit (inb := inC ⟨2 * p.val + i.val, by omega⟩ ⟨n.val / 32, by omega⟩ ⟨k.val / 128, by omega⟩)).mpr fun a => ?_
    match a with
    | ⟨0, _⟩ => exact ⟨Nat.le_refl 0, by show 0 + 1 * 0 < 0 + 1; omega⟩
    | ⟨1, _⟩ => exact ⟨by show 2 * p.val + i.val ≤ 2 * p.val + 1 * i.val; omega, by show 2 * p.val + 1 * i.val < 2 * p.val + i.val + 1; omega⟩
    | ⟨2, _⟩ => exact ⟨by show 32 * (n.val / 32) ≤ 0 + 1 * n.val; omega, by show 0 + 1 * n.val < 32 * (n.val / 32) + 32; omega⟩
    | ⟨3, _⟩ => exact ⟨by show 128 * (k.val / 128) ≤ 0 + 1 * k.val; omega, by show 0 + 1 * k.val < 128 * (k.val / 128) + 128; omega⟩
  · have hc : ∀ (a a' : Fin 20) (n n' : Fin 128) (k k' : Fin 512), a = a' → n = n' → k = k' → C (prow X a n) k = C (prow X a' n') k' := by
      rintro a _ n _ k _ rfl rfl rfl
      rfl
    refine hc _ _ _ _ _ _ (Fin.ext ?_) (Fin.ext ?_) (Fin.ext ?_)
    · show 2 * p.val + 1 * i.val = 2 * p.val + i.val; omega
    · show 0 + 1 * n.val = n.val; omega
    · show 0 + 1 * k.val = k.val; omega

/-- The whole weight operand is read. -/
def ldW (arg5 : Memref sig .tc .vmem S448x512 .fp8e4m3) (harg5 : arg5.IsWhole) (W : Vec Ideal S448x512 .fp8e4m3) : Vec Ideal S448x512 .fp8e4m3 :=
  View.readAt (Elt Ideal) arg5.view (Rect.unit (s := S448x512) ![0, 0] S448x512.size (by decide)).toLoadRect (harg5.unread W)

/-- The operand of sign flips is read. -/
def ldF (arg6 : Memref sig .tc .vmem S448x1 .i32) (harg6 : arg6.IsWhole) (W : Vec Ideal S448x1 .i32) : Vec Ideal S448x1 .i32 :=
  View.readAt (Elt Ideal) arg6.view (Rect.unit (s := S448x1) ![0, 0] S448x1.size (by decide)).toLoadRect (harg6.unread W)

/-- An operand with a row per output channel is read. -/
def ldR (arg7 : Memref sig .tc .vmem S448x128 .f32) (harg7 : arg7.IsWhole) (W : Vec Ideal S448x128 .f32) : Vec Ideal S448x128 .f32 :=
  View.readAt (Elt Ideal) arg7.view (Rect.unit (s := S448x128) ![0, 0] S448x128.size (by decide)).toLoadRect (harg7.unread W)

/-- What is read of the weight is the weight. -/
theorem ldW_eq (arg5 : Memref sig .tc .vmem S448x512 .fp8e4m3) (harg5 : arg5.IsWhole) (W : Vec Ideal S448x512 .fp8e4m3) : ldW arg5 harg5 W = W := by
  funext y
  idx_vars y
  unfold ldW
  rw [View.readAt_eq_ld, harg5.read_unread]
  refine congrArg W ?_
  funext a
  refine Fin.ext ?_
  match a with
  | ⟨0, _⟩ => show 0 + 1 * y0.val = y0.val; omega
  | ⟨1, _⟩ => show 0 + 1 * y1.val = y1.val; omega

/-- What is read of the sign flips is the sign flips. -/
theorem ldF_eq (arg6 : Memref sig .tc .vmem S448x1 .i32) (harg6 : arg6.IsWhole) (W : Vec Ideal S448x1 .i32) : ldF arg6 harg6 W = W := by
  funext y
  idx_vars y
  unfold ldF
  rw [View.readAt_eq_ld, harg6.read_unread]
  refine congrArg W ?_
  funext a
  refine Fin.ext ?_
  match a with
  | ⟨0, _⟩ => show 0 + 1 * y0.val = y0.val; omega
  | ⟨1, _⟩ => show 0 + 1 * y1.val = y1.val; omega

/-- What is read of an operand with a row per output channel is the operand. -/
theorem ldR_eq (arg7 : Memref sig .tc .vmem S448x128 .f32) (harg7 : arg7.IsWhole) (W : Vec Ideal S448x128 .f32) : ldR arg7 harg7 W = W := by
  funext y
  idx_vars y
  unfold ldR
  rw [View.readAt_eq_ld, harg7.read_unread]
  refine congrArg W ?_
  funext a
  refine Fin.ext ?_
  match a with
  | ⟨0, _⟩ => show 0 + 1 * y0.val = y0.val; omega
  | ⟨1, _⟩ => show 0 + 1 * y1.val = y1.val; omega

/-- The whole buffer of largest scores. -/
abbrev rY : Rect S448x128 := Rect.unit (s := S448x128) ![0, 0] S448x128.size (by decide)

/-- The stores of the largest scores so far, after pair `p`. -/
def LY (arg15 : Memref sig .tc .vmem S448x128 .f32) (f : Fin 10 → FVec Ideal S448x128 .f32) : ℕ → List (View.Piece (Elt Ideal) S448x128 .f32)
  | 0 => [⟨rY, shapeCast S448x128 (f 0) shapeCasts_S448x128_S448x128⟩]
  | p + 1 => ⟨rY, shapeCast S448x128 (maximumf (View.readCov (Val := Elt Ideal) arg15.view (LY arg15 f p) rY.toLoadRect) (f (Fin.ofNat 10 (p + 1))) : FVec Ideal S448x128 .f32) shapeCasts_S448x128_S448x128⟩ :: LY arg15 f p

/-- The result stored: the largest score, scaled and shifted. -/
def fin3 (arg15 : Memref sig .tc .vmem S448x128 .f32) (f : Fin 10 → FVec Ideal S448x128 .f32) (s b : Vec Ideal S448x128 .f32) : FVec Ideal S1x448x128 .bf16 :=
  shapeCast S1x448x128 (truncf .bf16 (addf (mulf (maximumf (View.readCov (Val := Elt Ideal) arg15.view (LY arg15 f 8) rY.toLoadRect) (f 9) : FVec Ideal S448x128 .f32)
    (shapeCast S448x128 s shapeCasts_S448x128_S448x128)) (shapeCast S448x128 b shapeCasts_S448x128_S448x128)) bitsLt_bf16_f32) shapeCasts_S448x128_S1x448x128

/-- A cast to the same shape changes nothing. -/
theorem cast_same (x : FVec Ideal S448x128 .f32) : shapeCast S448x128 x shapeCasts_S448x128_S448x128 = x := by
  funext y
  idx_vars y
  pointwise

/-- The largest scores read back after the first pair. -/
theorem LY_zero (arg15 : Memref sig .tc .vmem S448x128 .f32) (f : Fin 10 → FVec Ideal S448x128 .f32) :
    View.readCov (Val := Elt Ideal) arg15.view (LY arg15 f 0) rY.toLoadRect = f 0 := by
  unfold LY
  rw [cast_same]
  exact View.readCov_cons_toLoadRect _ _ _ _

/-- The largest scores read back after each further pair. -/
theorem LY_succ (arg15 : Memref sig .tc .vmem S448x128 .f32) (f : Fin 10 → FVec Ideal S448x128 .f32) (p : ℕ) :
    View.readCov (Val := Elt Ideal) arg15.view (LY arg15 f (p + 1)) rY.toLoadRect
      = (maximumf (View.readCov (Val := Elt Ideal) arg15.view (LY arg15 f p) rY.toLoadRect) (f (Fin.ofNat 10 (p + 1))) : FVec Ideal S448x128 .f32) := by
  rw [LY, cast_same]
  exact View.readCov_cons_toLoadRect _ _ _ _

/-- A maximum at an index. -/
theorem max_at (a b : FVec Ideal S448x128 .f32) (y : S448x128.Idx) : (maximumf a b : FVec Ideal S448x128 .f32) y = max (a y : EReal) (b y) := rfl

/-- The last step at an index. -/
theorem last_at (m s b : FVec Ideal S448x128 .f32) (o : Fin 448) (n : Fin 128) :
    (shapeCast S1x448x128 (truncf .bf16 (addf (mulf m
    (shapeCast S448x128 s shapeCasts_S448x128_S448x128)) (shapeCast S448x128 b shapeCasts_S448x128_S448x128)) bitsLt_bf16_f32) shapeCasts_S448x128_S1x448x128 : FVec Ideal S1x448x128 .bf16) (ix3 0 o n)
      = @HAdd.hAdd EReal EReal EReal _ ((m (ix2 o n) : EReal) * (s (ix2 o n) : EReal)) (b (ix2 o n)) := by
  pointwise

/-- The result stored, at an index. -/
theorem fin3_at (arg15 : Memref sig .tc .vmem S448x128 .f32) (f : Fin 10 → FVec Ideal S448x128 .f32) (s b : Vec Ideal S448x128 .f32) (o : Fin 448) (n : Fin 128)
    (g : Fin 20 → EReal) (hf : ∀ p : Fin 10, (f p (ix2 o n) : EReal) = max (g (e0 p)) (g (e1 p))) :
    fin3 arg15 f s b (ix3 0 o n) = @HAdd.hAdd EReal EReal EReal _ (Cert.SecondIdeal.Val.M g * (s (ix2 o n) : EReal)) (b (ix2 o n)) := by
  unfold fin3
  rw [last_at]
  refine congrArg (fun z : EReal => @HAdd.hAdd EReal EReal EReal _ (z * (s (ix2 o n) : EReal)) (b (ix2 o n))) ?_
  rw [LY_succ, LY_succ, LY_succ, LY_succ, LY_succ, LY_succ, LY_succ, LY_succ, LY_zero]
  simp only [max_at, hf]
  rfl

/-- The weight with no sign flipped is the weight. -/
theorem wt_at (W : Vec Ideal S448x512 .fp8e4m3) (Fl : Vec Ideal S448x1 .i32) (o : Fin 448) (x : Fin 512) (hF : Fl (ix2 o 0) = 0#32) :
    k0_pay2 (F := Ideal) W Fl (ix2 o x) = W (ix2 o x) := by
  pointwise [k0_pay2]
  have hz : IntOp.cmpi CmpIPredicate.ne 0#32 0#32 = 0#1 := rfl
  have hsel : ∀ a b : EReal, Scalar.select 0#1 a b = b := fun a b => rfl
  simp only [hF, hz, hsel]

/-- A pair's larger score. -/
theorem pair_at (w : FVec Ideal S448x512 .fp8e4m3) (cd : Vec Ideal S1x2x128x512 .fp8e4m3) (s0 s1 : Vec Ideal S1x1x128 .f32) (o : Fin 448) (n : Fin 128) :
    k0_pay1153 (F := Ideal) w cd s0 s1 (ix2 o n)
      = max ((∑ x : Fin 512, @HMul.hMul EReal EReal EReal _ (w (ix2 o x)) (cd (ix4 0 0 n x))) * (s0 (ix3 0 0 n) : EReal))
          ((∑ x : Fin 512, @HMul.hMul EReal EReal EReal _ (w (ix2 o x)) (cd (ix4 0 1 n x))) * (s1 (ix3 0 0 n) : EReal)) := by
  pointwise [k0_pay1153]
  have hE : ∀ (a a' : Fin 2) (n' : Fin 128), a' = a → n' = n →
      (∑ x : Fin 512, @HMul.hMul EReal EReal EReal _ (w (ix2 o x)) (cd (ix4 0 a' n' x))) = ∑ x : Fin 512, @HMul.hMul EReal EReal EReal _ (w (ix2 o x)) (cd (ix4 0 a n x)) := by
    rintro a _ _ rfl rfl
    rfl
  refine congrArg₂ max (congrArg (· * (s0 (ix3 0 0 n) : EReal)) ?_) (congrArg (· * (s1 (ix3 0 0 n) : EReal)) ?_)
  · exact hE 0 _ _ (Fin.ext (by simp; try omega)) (Fin.ext (by simp; try omega))
  · exact hE 1 _ _ (Fin.ext (by simp; try omega)) (Fin.ext (by simp; try omega))

/-- A pair's larger score, as the kernel computes it. -/
def fP (arg11 : Memref sig .tc .vmem S1x20x128x512 .fp8e4m3) (arg12 : Memref sig .tc .vmem S1x20x128 .f32) (w : FVec Ideal S448x512 .fp8e4m3) (T : Tiles) (v : Fin 20 → FVec Ideal S1x8x128 .f32) (p : Fin 10) : FVec Ideal S448x128 .f32 :=
  k0_pay1153 (F := Ideal) w (cdB arg11 T v p) (scB arg12 T p (e0 p)) (scB arg12 T p (e1 p))

/-- The score of neighbour `e` of the block's node `n`. -/
def sc (W : Vec Ideal S448x512 .fp8e4m3) (X : Vec Ideal S1x20x128x512 .f32) (o : Fin 448) (n : Fin 128) (e : Fin 20) : EReal :=
  (∑ x : Fin 512, @HMul.hMul EReal EReal EReal _ (W (ix2 o x)) (C (prow X e n) x)) * S (prow X e n)

/-- A pair's larger score, of the gathered sums. -/
theorem fP_at (arg11 : Memref sig .tc .vmem S1x20x128x512 .fp8e4m3) (arg12 : Memref sig .tc .vmem S1x20x128 .f32) (W : Vec Ideal S448x512 .fp8e4m3) (Fl : Vec Ideal S448x1 .i32) (T : Tiles) (X : Vec Ideal S1x20x128x512 .f32)
    (hT : Of T X) (hX : Fin_ X) (v : Fin 20 → FVec Ideal S1x8x128 .f32) (hv : ∀ e, v e = invs T e) (o : Fin 448) (n : Fin 128) (hF : Fl (ix2 o 0) = 0#32) (p : Fin 10) :
    (fP arg11 arg12 (k0_pay2 (F := Ideal) W Fl) T v p (ix2 o n) : EReal) = max (sc W X o n (e0 p)) (sc W X o n (e1 p)) := by
  unfold fP
  rw [pair_at]
  rw [scB_at arg12 T X hT hX p (e0 p) (by show 2 * p.val < _; omega), scB_at arg12 T X hT hX p (e1 p) (by show 2 * p.val + 1 < _; omega)]
  unfold sc
  refine congrArg₂ max (congrArg (· * S (prow X (e0 p) n)) ?_) (congrArg (· * S (prow X (e1 p) n)) ?_)
  · refine Finset.sum_congr rfl fun x _ => ?_
    rw [wt_at W Fl o x hF, cdB_at arg11 T X hT hX v hv p 0 n x]
    rfl
  · refine Finset.sum_congr rfl fun x _ => ?_
    rw [wt_at W Fl o x hF, cdB_at arg11 T X hT hX v hv p 1 n x]
    rfl

end Cert.EdgesIdeal.Val
end
end
-- ==== Proof.EdgesValue.lean ====
module

public import Idealize.ShloMosaic.Lib.Pipeline.ValueKit
public import Idealize.ShloMosaic.Lib.Pointwise
public import proofs.«01_k».proof.Proof.Gen.EdgesIdeal.Frame
public import proofs.«01_k».proof.Proof.EdgesKernel

@[expose] public section

set_option maxRecDepth 65536

noncomputable section

namespace Cert.EdgesIdeal.Val

open Idealize.ShloMosaic Idealize.ShloMosaic.TcCoe Idealize.ShloMosaic.Tactic Idealize.SL.Sem
open Idealize.ShloMosaic.Pipeline (Dat)
open Cert.EdgesIdeal Cert.EdgesIdeal.Gen
open Cert.QuantiseReferenceIdeal.Val (S C O4 O5)
open Cert.EdgesReferenceIdeal.Val (SC O3)
open Cert.QuantiseIdeal.Val (Tiles Of L4 L5 G4 G5 canon4 canon5 prow hrow Fin_)

/-- The kernel's stores of the scales. -/
theorem pieces10 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S448x512 .fp8e4m3) (harg5 : arg5.IsWhole) (arg6 : Memref sig .tc .vmem S448x1 .i32) (harg6 : arg6.IsWhole) (arg7 : Memref sig .tc .vmem S448x128 .f32) (harg7 : arg7.IsWhole) (arg8 : Memref sig .tc .vmem S448x128 .f32) (harg8 : arg8.IsWhole) (arg9 : Memref sig .tc .vmem S1x20x128x512 .f32) (harg9 : arg9.IsWhole) (arg10 : Memref sig .tc .vmem S1x448x128 .bf16) (harg10 : arg10.IsWhole) (arg11 : Memref sig .tc .vmem S1x20x128x512 .fp8e4m3) (harg11 : arg11.IsWhole) (arg12 : Memref sig .tc .vmem S1x20x128 .f32) (harg12 : arg12.IsWhole) (arg13 : Memref sig .tc .vmem S16400x128 .f32) (harg13 : arg13.IsWhole) (arg14 : Memref sig .tc .vmem S1024x128 .f32) (harg14 : arg14.IsWhole) (arg15 : Memref sig .tc .vmem S448x128 .f32) (harg15 : arg15.IsWhole) (arg16 : Memref sig .tc .vmem S20x8x128 .f32) (harg16 : arg16.IsWhole) (arg17 : Memref sig .tc .vmem S1056x128 .f32) (harg17 : arg17.IsWhole) (arg18 : Memref sig .tc .vmem S1056x128 .f32) (harg18 : arg18.IsWhole) (arg19 : Memref sig .tc .vmem S1056x128 .f32) (harg19 : arg19.IsWhole) (arg20 : Memref sig .tc .vmem S1056x128 .f32) (harg20 : arg20.IsWhole) (x0 : Vec Ideal S1x20x128 .i32) (x1 : Vec Ideal S128x512 .bf16) (x2 : Vec Ideal S1x16384x128 .f32) (x3 : Vec Ideal S448x512 .fp8e4m3) (x4 : Vec Ideal S448x1 .i32) (x5 : Vec Ideal S448x128 .f32) (x6 : Vec Ideal S448x128 .f32) (x7 : Vec Ideal S1x20x128x512 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7).2.2.1 = L5 (ldT arg9 harg9 x7) := by
  sl_kernel_rfl

/-- The kernel's stores of the codes. -/
theorem pieces9 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S448x512 .fp8e4m3) (harg5 : arg5.IsWhole) (arg6 : Memref sig .tc .vmem S448x1 .i32) (harg6 : arg6.IsWhole) (arg7 : Memref sig .tc .vmem S448x128 .f32) (harg7 : arg7.IsWhole) (arg8 : Memref sig .tc .vmem S448x128 .f32) (harg8 : arg8.IsWhole) (arg9 : Memref sig .tc .vmem S1x20x128x512 .f32) (harg9 : arg9.IsWhole) (arg10 : Memref sig .tc .vmem S1x448x128 .bf16) (harg10 : arg10.IsWhole) (arg11 : Memref sig .tc .vmem S1x20x128x512 .fp8e4m3) (harg11 : arg11.IsWhole) (arg12 : Memref sig .tc .vmem S1x20x128 .f32) (harg12 : arg12.IsWhole) (arg13 : Memref sig .tc .vmem S16400x128 .f32) (harg13 : arg13.IsWhole) (arg14 : Memref sig .tc .vmem S1024x128 .f32) (harg14 : arg14.IsWhole) (arg15 : Memref sig .tc .vmem S448x128 .f32) (harg15 : arg15.IsWhole) (arg16 : Memref sig .tc .vmem S20x8x128 .f32) (harg16 : arg16.IsWhole) (arg17 : Memref sig .tc .vmem S1056x128 .f32) (harg17 : arg17.IsWhole) (arg18 : Memref sig .tc .vmem S1056x128 .f32) (harg18 : arg18.IsWhole) (arg19 : Memref sig .tc .vmem S1056x128 .f32) (harg19 : arg19.IsWhole) (arg20 : Memref sig .tc .vmem S1056x128 .f32) (harg20 : arg20.IsWhole) (x0 : Vec Ideal S1x20x128 .i32) (x1 : Vec Ideal S128x512 .bf16) (x2 : Vec Ideal S1x16384x128 .f32) (x3 : Vec Ideal S448x512 .fp8e4m3) (x4 : Vec Ideal S448x1 .i32) (x5 : Vec Ideal S448x128 .f32) (x6 : Vec Ideal S448x128 .f32) (x7 : Vec Ideal S1x20x128x512 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7).2.1 = L4 (ldT arg9 harg9 x7) (backI arg16 (ldT arg9 harg9 x7)) := by
  sl_kernel_rfl

/-- The block of results. -/
theorem inY : ∀ a, (![0, 0, 0] : Fin 3 → ℕ) a + S1x448x128.size a ≤ S1x448x128.size a := by decide

/-- The kernel's store of the result. -/
theorem pieces8 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S448x512 .fp8e4m3) (harg5 : arg5.IsWhole) (arg6 : Memref sig .tc .vmem S448x1 .i32) (harg6 : arg6.IsWhole) (arg7 : Memref sig .tc .vmem S448x128 .f32) (harg7 : arg7.IsWhole) (arg8 : Memref sig .tc .vmem S448x128 .f32) (harg8 : arg8.IsWhole) (arg9 : Memref sig .tc .vmem S1x20x128x512 .f32) (harg9 : arg9.IsWhole) (arg10 : Memref sig .tc .vmem S1x448x128 .bf16) (harg10 : arg10.IsWhole) (arg11 : Memref sig .tc .vmem S1x20x128x512 .fp8e4m3) (harg11 : arg11.IsWhole) (arg12 : Memref sig .tc .vmem S1x20x128 .f32) (harg12 : arg12.IsWhole) (arg13 : Memref sig .tc .vmem S16400x128 .f32) (harg13 : arg13.IsWhole) (arg14 : Memref sig .tc .vmem S1024x128 .f32) (harg14 : arg14.IsWhole) (arg15 : Memref sig .tc .vmem S448x128 .f32) (harg15 : arg15.IsWhole) (arg16 : Memref sig .tc .vmem S20x8x128 .f32) (harg16 : arg16.IsWhole) (arg17 : Memref sig .tc .vmem S1056x128 .f32) (harg17 : arg17.IsWhole) (arg18 : Memref sig .tc .vmem S1056x128 .f32) (harg18 : arg18.IsWhole) (arg19 : Memref sig .tc .vmem S1056x128 .f32) (harg19 : arg19.IsWhole) (arg20 : Memref sig .tc .vmem S1056x128 .f32) (harg20 : arg20.IsWhole) (x0 : Vec Ideal S1x20x128 .i32) (x1 : Vec Ideal S128x512 .bf16) (x2 : Vec Ideal S1x16384x128 .f32) (x3 : Vec Ideal S448x512 .fp8e4m3) (x4 : Vec Ideal S448x1 .i32) (x5 : Vec Ideal S448x128 .f32) (x6 : Vec Ideal S448x128 .f32) (x7 : Vec Ideal S1x20x128x512 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7).1 = [⟨Rect.unit (s := S1x448x128) ![0, 0, 0] S1x448x128.size inY,
      fin3 arg15 (fP arg11 arg12 (k0_pay2 (F := Ideal) (ldW arg5 harg5 x3) (ldF arg6 harg6 x4)) (ldT arg9 harg9 x7) (backI arg16 (ldT arg9 harg9 x7))) (ldR arg7 harg7 x5) (ldR arg8 harg8 x6)⟩] := by
  sl_kernel_rfl

/-- What a point leaves of the scales. -/
theorem out10 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S448x512 .fp8e4m3) (harg5 : arg5.IsWhole) (arg6 : Memref sig .tc .vmem S448x1 .i32) (harg6 : arg6.IsWhole) (arg7 : Memref sig .tc .vmem S448x128 .f32) (harg7 : arg7.IsWhole) (arg8 : Memref sig .tc .vmem S448x128 .f32) (harg8 : arg8.IsWhole) (arg9 : Memref sig .tc .vmem S1x20x128x512 .f32) (harg9 : arg9.IsWhole) (arg10 : Memref sig .tc .vmem S1x448x128 .bf16) (harg10 : arg10.IsWhole) (arg11 : Memref sig .tc .vmem S1x20x128x512 .fp8e4m3) (harg11 : arg11.IsWhole) (arg12 : Memref sig .tc .vmem S1x20x128 .f32) (harg12 : arg12.IsWhole) (arg13 : Memref sig .tc .vmem S16400x128 .f32) (harg13 : arg13.IsWhole) (arg14 : Memref sig .tc .vmem S1024x128 .f32) (harg14 : arg14.IsWhole) (arg15 : Memref sig .tc .vmem S448x128 .f32) (harg15 : arg15.IsWhole) (arg16 : Memref sig .tc .vmem S20x8x128 .f32) (harg16 : arg16.IsWhole) (arg17 : Memref sig .tc .vmem S1056x128 .f32) (harg17 : arg17.IsWhole) (arg18 : Memref sig .tc .vmem S1056x128 .f32) (harg18 : arg18.IsWhole) (arg19 : Memref sig .tc .vmem S1056x128 .f32) (harg19 : arg19.IsWhole) (arg20 : Memref sig .tc .vmem S1056x128 .f32) (harg20 : arg20.IsWhole) (x0 : Vec Ideal S1x20x128 .i32) (x1 : Vec Ideal S128x512 .bf16) (x2 : Vec Ideal S1x16384x128 .f32) (x3 : Vec Ideal S448x512 .fp8e4m3) (x4 : Vec Ideal S448x1 .i32) (x5 : Vec Ideal S448x128 .f32) (x6 : Vec Ideal S448x128 .f32) (x7 : Vec Ideal S1x20x128x512 .f32) (hX : Fin_ x7) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 = G5 x7 := by
  funext y
  unfold out0_A_10
  rw [View.read_writes_junk_apply_eq_canon, pieces10]
  exact canon5 _ _ (ldT_of arg9 harg9 x7) hX y

/-- What a point leaves of the codes. -/
theorem out9 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S448x512 .fp8e4m3) (harg5 : arg5.IsWhole) (arg6 : Memref sig .tc .vmem S448x1 .i32) (harg6 : arg6.IsWhole) (arg7 : Memref sig .tc .vmem S448x128 .f32) (harg7 : arg7.IsWhole) (arg8 : Memref sig .tc .vmem S448x128 .f32) (harg8 : arg8.IsWhole) (arg9 : Memref sig .tc .vmem S1x20x128x512 .f32) (harg9 : arg9.IsWhole) (arg10 : Memref sig .tc .vmem S1x448x128 .bf16) (harg10 : arg10.IsWhole) (arg11 : Memref sig .tc .vmem S1x20x128x512 .fp8e4m3) (harg11 : arg11.IsWhole) (arg12 : Memref sig .tc .vmem S1x20x128 .f32) (harg12 : arg12.IsWhole) (arg13 : Memref sig .tc .vmem S16400x128 .f32) (harg13 : arg13.IsWhole) (arg14 : Memref sig .tc .vmem S1024x128 .f32) (harg14 : arg14.IsWhole) (arg15 : Memref sig .tc .vmem S448x128 .f32) (harg15 : arg15.IsWhole) (arg16 : Memref sig .tc .vmem S20x8x128 .f32) (harg16 : arg16.IsWhole) (arg17 : Memref sig .tc .vmem S1056x128 .f32) (harg17 : arg17.IsWhole) (arg18 : Memref sig .tc .vmem S1056x128 .f32) (harg18 : arg18.IsWhole) (arg19 : Memref sig .tc .vmem S1056x128 .f32) (harg19 : arg19.IsWhole) (arg20 : Memref sig .tc .vmem S1056x128 .f32) (harg20 : arg20.IsWhole) (x0 : Vec Ideal S1x20x128 .i32) (x1 : Vec Ideal S128x512 .bf16) (x2 : Vec Ideal S1x16384x128 .f32) (x3 : Vec Ideal S448x512 .fp8e4m3) (x4 : Vec Ideal S448x1 .i32) (x5 : Vec Ideal S448x128 .f32) (x6 : Vec Ideal S448x128 .f32) (x7 : Vec Ideal S1x20x128x512 .f32) (hX : Fin_ x7) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 = G4 x7 := by
  funext y
  unfold out0_A_9
  rw [View.read_writes_junk_apply_eq_canon, pieces9]
  exact canon4 _ _ (ldT_of arg9 harg9 x7) hX _ (backI_eq arg16 _) y

/-- A single store of the whole block leaves what it stored. -/
theorem canon_whole (w : FVec Ideal S1x448x128 .bf16) (y : S1x448x128.Idx) :
    View.canon ([⟨Rect.unit (s := S1x448x128) ![0, 0, 0] S1x448x128.size inY, w⟩] : List (View.Piece (Elt Ideal) S1x448x128 .bf16)) y = w y := by
  have hG : ∀ x : S1x448x128.Idx, (Rect.unit (s := S1x448x128) ![0, 0, 0] S1x448x128.size inY).emb x = x := by
    intro x
    funext a
    refine Fin.ext ?_
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
  have h := View.canon_cons_emb (Val := Elt Ideal) (e := .bf16) (Rect.unit (s := S1x448x128) ![0, 0, 0] S1x448x128.size inY) w [] y
  rw [hG y] at h
  exact h

/-- What a point leaves of the result. -/
theorem out8 (c : Dev nD) (i : grid0.Coords) (arg2 : Memref sig .tc .smem S1x20x128 .i32) (harg2 : arg2.IsWhole) (arg3 : Memref sig .tc .vmem S128x512 .bf16) (harg3 : arg3.IsWhole) (arg4 : Memref sig .tc .vmem S1x16384x128 .f32) (harg4 : arg4.IsWhole) (arg5 : Memref sig .tc .vmem S448x512 .fp8e4m3) (harg5 : arg5.IsWhole) (arg6 : Memref sig .tc .vmem S448x1 .i32) (harg6 : arg6.IsWhole) (arg7 : Memref sig .tc .vmem S448x128 .f32) (harg7 : arg7.IsWhole) (arg8 : Memref sig .tc .vmem S448x128 .f32) (harg8 : arg8.IsWhole) (arg9 : Memref sig .tc .vmem S1x20x128x512 .f32) (harg9 : arg9.IsWhole) (arg10 : Memref sig .tc .vmem S1x448x128 .bf16) (harg10 : arg10.IsWhole) (arg11 : Memref sig .tc .vmem S1x20x128x512 .fp8e4m3) (harg11 : arg11.IsWhole) (arg12 : Memref sig .tc .vmem S1x20x128 .f32) (harg12 : arg12.IsWhole) (arg13 : Memref sig .tc .vmem S16400x128 .f32) (harg13 : arg13.IsWhole) (arg14 : Memref sig .tc .vmem S1024x128 .f32) (harg14 : arg14.IsWhole) (arg15 : Memref sig .tc .vmem S448x128 .f32) (harg15 : arg15.IsWhole) (arg16 : Memref sig .tc .vmem S20x8x128 .f32) (harg16 : arg16.IsWhole) (arg17 : Memref sig .tc .vmem S1056x128 .f32) (harg17 : arg17.IsWhole) (arg18 : Memref sig .tc .vmem S1056x128 .f32) (harg18 : arg18.IsWhole) (arg19 : Memref sig .tc .vmem S1056x128 .f32) (harg19 : arg19.IsWhole) (arg20 : Memref sig .tc .vmem S1056x128 .f32) (harg20 : arg20.IsWhole) (x0 : Vec Ideal S1x20x128 .i32) (x1 : Vec Ideal S128x512 .bf16) (x2 : Vec Ideal S1x16384x128 .f32) (x3 : Vec Ideal S448x512 .fp8e4m3) (x4 : Vec Ideal S448x1 .i32) (x5 : Vec Ideal S448x128 .f32) (x6 : Vec Ideal S448x128 .f32) (x7 : Vec Ideal S1x20x128x512 .f32) (hX : Fin_ x7) (o : Fin 448) (n : Fin 128) (hF : x4 (ix2 o 0) = 0#32) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 (ix3 0 o n)
      = @HAdd.hAdd EReal EReal EReal _ (Cert.SecondIdeal.Val.M (sc x3 x7 o n) * (x5 (ix2 o n) : EReal)) (x6 (ix2 o n)) := by
  unfold out0_A_8
  rw [View.read_writes_junk_apply_eq_canon, pieces8]
  refine (canon_whole _ _).trans ?_
  rw [ldW_eq, ldF_eq, ldR_eq, ldR_eq]
  exact fin3_at arg15 _ _ _ o n _ (fP_at arg11 arg12 _ _ _ _ (ldT_of arg9 harg9 x7) hX _ (backI_eq arg16 _) o n hF)

/-- Where each window's block lies at grid point `t`. -/
theorem idx : ∀ t : Fin cfg0.N, win0_3.index t = ![0, 0] ∧ win0_4.index t = ![0, 0] ∧ win0_5.index t = ![0, 0] ∧ win0_6.index t = ![0, 0]
    ∧ win0_7.index t = ![t.val / 32, 0, t.val % 32, 0] ∧ win0_8.index t = ![t.val / 32, 0, t.val % 32]
    ∧ win0_9.index t = ![t.val / 32, 0, t.val % 32, 0] ∧ win0_10.index t = ![t.val / 32, 0, t.val % 32] ∧ t.val < 256 :=
  (by decide +kernel : ∀ t : Fin grid0.N, _)

variable (m : (ℓ : Loc nD τ sig) → Buf (Elt Ideal) ℓ)

/-- Every gathered sum is finite. -/
abbrev Finite (h : FVec Ideal S8x20x4096x512 .f32) : Prop := ∀ i, max (h i : EReal) (-(h i : EReal)) ≤ Ideal.ofBits .f32 0x7F7FFFFF#32

/-- The batch of block `t`. -/
abbrev b_ (t : Fin cfg0.N) : Fin 8 := ⟨t.val / 32, by have := (idx t).2.2.2.2.2.2.2.2; omega⟩

/-- Node `n` of block `t`. -/
abbrev n_ (t : Fin cfg0.N) (n : Fin 128) : Fin 4096 := ⟨t.val % 32 * 128 + n.val, by omega⟩

/-- The block's sums are the argument's. -/
theorem x_eq (c : Dev nD) (t : Fin cfg0.N) (e : Fin 20) (n : Fin 128) (k : Fin 512) :
    iblk m c 7 t (ix4 0 e n k) = m ((c : Thread nD τ).loc main_arg6) (ix4 (b_ t) e (n_ t n) k) := by
  blk_point [iblk, V, idx t]

/-- So its rows are the argument's. -/
theorem prow_eq (c : Dev nD) (t : Fin cfg0.N) (e : Fin 20) (n : Fin 128) :
    prow (iblk m c 7 t) e n = Cert.QuantiseReferenceIdeal.Val.row (m ((c : Thread nD τ).loc main_arg6)) (b_ t) e (n_ t n) := by
  funext k
  unfold prow hrow Cert.QuantiseReferenceIdeal.Val.row
  rw [x_eq m c t e n k]

/-- And finite. -/
theorem fin_blk (c : Dev nD) (hx : Finite (m ((c : Thread nD τ).loc main_arg6))) (t : Fin cfg0.N) : Fin_ (iblk m c 7 t) := by
  intro e n k
  have h := x_eq m c t e n k
  unfold hrow
  rw [h]
  exact hx _

/-- The scales of the second weight, one per output channel. -/
abbrev sArg (c : Dev nD) : FVec Ideal S448 .f32 := m ((c : Thread nD τ).loc main_arg4)

/-- No scale is below zero, so no sign is flipped. -/
theorem flip_zero (c : Dev nD) (t : Fin cfg0.N) (y1 : Fin 448) (hs : ∀ i, (0 : EReal) ≤ sArg m c i) :
    iblk m c 4 t (ix2 y1 0) = 0#32 := by
  obtain ⟨h3, h4, h5, h6, h7, h8, h9, h10, hb⟩ := idx t
  blk_simp [iblk, h4]
  entry_read
  pointwise
  have h := not_lt.mpr (hs (ix1 (((View.whole main_v7).slice (win0_4.rect t)).emb (ix2 y1 0) 0)))
  rw [decide_eq_false h]
  rfl

/-- The kernel's operand of absolute scales holds the scales. -/
theorem ss_eq (c : Dev nD) (t : Fin cfg0.N) (y1 : Fin 448) (y2 : Fin 128) (hs : ∀ i, (0 : EReal) ≤ sArg m c i) :
    iblk m c 5 t (ix2 y1 y2) = sArg m c (ix1 y1) := by
  obtain ⟨h3, h4, h5, h6, h7, h8, h9, h10, hb⟩ := idx t
  have e : iblk m c 5 t (ix2 y1 y2) = (FloatOps.absf (sArg m c (ix1 y1)) : Ideal .f32) := by
    blk_simp [iblk, h5]
    entry_read
    pointwise
    congr 1
    blk_ext [h5]
  rw [e]
  show max (sArg m c (ix1 y1) : EReal) (-sArg m c (ix1 y1)) = _
  refine max_eq_left ((EReal.neg_le_neg_iff.mpr (hs _)).trans ?_)
  rw [neg_zero]
  exact hs _

/-- The block's weight is the argument's, transposed. -/
theorem w_eq (c : Dev nD) (t : Fin cfg0.N) (o : Fin 448) (x : Fin 512) : iblk m c 3 t (ix2 o x) = m ((c : Thread nD τ).loc main_arg3) (ix2 x o) := by
  blk_point [iblk, V, idx t]

/-- The block's shift is the argument's. -/
theorem b_eq (c : Dev nD) (t : Fin cfg0.N) (o : Fin 448) (n : Fin 128) : iblk m c 6 t (ix2 o n) = m ((c : Thread nD τ).loc main_arg5) (ix1 o) := by
  blk_point [iblk, V, idx t]

/-- The array of the kernel's results. -/
theorem final8 (c : Dev nD) (hx : Finite (m ((c : Thread nD τ).loc main_arg6))) (hs : ∀ i, (0 : EReal) ≤ sArg m c i) : (dats m 0 c).arrAt 8 cfg0.N
    = O3 (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  unfold outsAt0
  dsimp only
  idx_vars y
  obtain rfl : y0 = 0 := Subsingleton.elim _ _
  rw [out8 (hX := fin_blk m c hx t) (hF := flip_zero m c t y1 hs)]
  generalize hO : O3 (m ((c : Thread nD τ).loc main_arg3)) (m ((c : Thread nD τ).loc main_arg4)) (m ((c : Thread nD τ).loc main_arg5)) (m ((c : Thread nD τ).loc main_arg6)) = O
  refine Eq.trans (b := O (ix3 (b_ t) y1 (n_ t y2))) ?_ ?_
  swap
  · blk_ext [idx t]
  subst hO
  have hsc : sc (iblk m c 3 t) (iblk m c 7 t) y1 y2 = SC (m ((c : Thread nD τ).loc main_arg3)) (m ((c : Thread nD τ).loc main_arg6)) (b_ t) y1 (n_ t y2) := by
    funext e
    unfold sc SC
    rw [prow_eq m c t e y2]
    refine congrArg (fun z : EReal => z * S (Cert.QuantiseReferenceIdeal.Val.row (m ((c : Thread nD τ).loc main_arg6)) (b_ t) e (n_ t y2))) (Finset.sum_congr rfl fun x _ => ?_)
    rw [w_eq m c t y1 x]
  rw [hsc, ss_eq m c t y1 y2 hs, b_eq m c t y1 y2]
  rfl

/-- The array of the kernel's codes. -/
theorem final9 (c : Dev nD) (hx : Finite (m ((c : Thread nD τ).loc main_arg6))) : (dats m 0 c).arrAt 9 cfg0.N = O4 (m ((c : Thread nD τ).loc main_arg6)) := by
  refine (dats m 0 c).arrAt_eq_of_covers 9 _ (by decide +kernel) fun t _ y => ?_
  blk_simp
  rw [after0_9]
  unfold outsAt0
  dsimp only
  rw [out9 (hX := fin_blk m c hx t)]
  idx_vars y
  obtain rfl : y0 = 0 := Subsingleton.elim _ _
  generalize hO : O4 (m ((c : Thread nD τ).loc main_arg6)) = O
  refine Eq.trans (b := O (ix4 (b_ t) y1 (n_ t y2) y3)) ?_ ?_
  swap
  · blk_ext [idx t]
  subst hO
  exact congrArg (fun f => C f y3) (prow_eq m c t y1 y2)

/-- The array of the kernel's scales. -/
theorem final10 (c : Dev nD) (hx : Finite (m ((c : Thread nD τ).loc main_arg6))) : (dats m 0 c).arrAt 10 cfg0.N = O5 (m ((c : Thread nD τ).loc main_arg6)) := by
  refine (dats m 0 c).arrAt_eq_of_covers 10 _ (by decide +kernel) fun t _ y => ?_
  blk_simp
  rw [after0_10]
  unfold outsAt0
  dsimp only
  rw [out10 (hX := fin_blk m c hx t)]
  idx_vars y
  obtain rfl : y0 = 0 := Subsingleton.elim _ _
  generalize hO : O5 (m ((c : Thread nD τ).loc main_arg6)) = O
  refine Eq.trans (b := O (ix3 (b_ t) y1 (n_ t y2))) ?_ ?_
  swap
  · blk_ext [idx t]
  subst hO
  exact congrArg S (prow_eq m c t y1 y2)

end Cert.EdgesIdeal.Val
end
end
-- ==== Proof.lean ====
module

public import proofs.«01_k».proof.Defs
public import Idealize.ShloMosaic.Lib.Claim
public import proofs.«01_k».proof.Proof.Gen.Kernel.Frame
public import proofs.«01_k».proof.Proof.Gen.Kernel.Skeleton
public import proofs.«01_k».proof.Proof.Gen.KernelIdeal.Frame
public import proofs.«01_k».proof.Proof.Gen.KernelIdeal.Skeleton
public import proofs.«01_k».proof.Proof.Gen.ReferenceIdeal.Frame
public import proofs.«01_k».proof.Proof.Gen.ReferenceIdeal.Value
public import proofs.«01_k».proof.Proof.Gen.Pre_x_is_finite
public import proofs.«01_k».proof.Proof.Gen.Second.Frame
public import proofs.«01_k».proof.Proof.Gen.SecondIdeal.Frame
public import proofs.«01_k».proof.Proof.Gen.SecondIdeal.Value
public import proofs.«01_k».proof.Proof.Gen.SecondReferenceIdeal.Frame
public import proofs.«01_k».proof.Proof.Gen.SecondReferenceIdeal.Value
public import proofs.«01_k».proof.Proof.Gen.Pre_s_second_is_not_negative
public import proofs.«01_k».proof.Proof.Gen.Quantise.Frame
public import proofs.«01_k».proof.Proof.Gen.QuantiseIdeal.Frame
public import proofs.«01_k».proof.Proof.Gen.QuantiseIdeal.Value
public import proofs.«01_k».proof.Proof.Gen.QuantiseReferenceIdeal.Frame
public import proofs.«01_k».proof.Proof.Gen.QuantiseReferenceIdeal.Value
public import proofs.«01_k».proof.Proof.Gen.Pre_h_is_finite
public import proofs.«01_k».proof.Proof.Gen.Edges.Frame
public import proofs.«01_k».proof.Proof.Gen.EdgesIdeal.Frame
public import proofs.«01_k».proof.Proof.Gen.EdgesIdeal.Value
public import proofs.«01_k».proof.Proof.Gen.EdgesReferenceIdeal.Frame
public import proofs.«01_k».proof.Proof.Gen.EdgesReferenceIdeal.Value
public import proofs.«01_k».proof.Proof.Gen.Pre_sums_and_scale
public import proofs.«01_k».proof.Proof.SecondValue
public import proofs.«01_k».proof.Proof.PointsFrame
public import proofs.«01_k».proof.Proof.PointsIdealFrame
public import proofs.«01_k».proof.Proof.PointsReference
public import proofs.«01_k».proof.Proof.PointsValue
public import proofs.«01_k».proof.Proof.QuantiseReference
public import proofs.«01_k».proof.Proof.QuantiseValue
public import proofs.«01_k».proof.Proof.EdgesReference
public import proofs.«01_k».proof.Proof.EdgesValue

@[expose] public section

set_option maxRecDepth 16384

noncomputable section

namespace Cert.Proof

open Idealize.ShloMosaic Idealize.ShloMosaic.TcCoe Idealize.SL.Sem

/-- The kernel's quantisation of the points and first products and the reference leave the same results, where `x` is finite. -/
theorem points_algebraic : Cert.algebraic_KernelIdeal_ReferenceIdeal_pre_x_is_finite := by
  intro m g m' g' hpre hagree
  have hx : ∀ c : Dev Cert.KernelIdeal.nD, Cert.KernelIdeal.Val.Finite (m ((c.tc : Thread Cert.KernelIdeal.nD Cert.KernelIdeal.τ).loc Cert.KernelIdeal.main_arg0)) :=
    fun c => Cert.KernelIdeal.Val.finite _ _ _ _ (hpre c)
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, fun c => (Cert.KernelIdeal.Gen.dats m 0 c).arrAt 7 Cert.KernelIdeal.cfg0.N,
    Cert.KernelIdeal.Value.run_blocks m g, ?_⟩
  refine (θ_run _ _ _).mono (fun r h c => ?_) (Cert.ReferenceIdeal.Value.run_blocks m' g')
  obtain ⟨e0, e1, e2, e3⟩ := hagree c
  obtain ⟨h4, h5, h6, h7, hk⟩ := h c
  refine ⟨h4.trans ((Cert.ReferenceIdeal.Val.final4 m' c).trans (Eq.trans ?_ (Cert.KernelIdeal.Val.final4 m c (hx c)).symm)),
    h5.trans ((Cert.ReferenceIdeal.Val.final5 m' c).trans (Eq.trans ?_ (Cert.KernelIdeal.Val.final5 m c (hx c)).symm)),
    h6.trans ((Cert.ReferenceIdeal.Val.final6 m' c).trans (Eq.trans ?_ (Cert.KernelIdeal.Val.final6 m c (hx c)).symm)),
    h7.trans ((Cert.ReferenceIdeal.Val.final7 m' c).trans (Eq.trans ?_ (Cert.KernelIdeal.Val.final7 m c (hx c)).symm)), hk⟩
  · rw [e0]
  · rw [e0]
  · rw [e0, e1, e2, e3]
  · rw [e0, e1, e2]

/-- The kernel's second product and the reference leave the same results, where no scale is below zero. -/
theorem second_algebraic : Cert.algebraic_SecondIdeal_SecondReferenceIdeal_pre_s_second_is_not_negative := by
  intro m g m' g' hpre hagree
  have hs : ∀ c i, (0 : EReal) ≤ Cert.SecondIdeal.Val.sArg m c i := fun c =>
    Cert.SecondIdeal.Val.nonneg _ _ _ _ _ _ _ _ (hpre c)
  refine ⟨fun c => (Cert.SecondIdeal.Gen.dats m 0 c).arrAt 9 Cert.SecondIdeal.cfg0.N, Cert.SecondIdeal.Value.run_blocks m g, ?_⟩
  refine (θ_run _ _ _).mono (fun r h c => ⟨(h c).1.trans ?_, (h c).2⟩) (Cert.SecondReferenceIdeal.Value.run m' g')
  obtain ⟨-, -, -, e3, e4, e5, e6, e7⟩ := hagree c
  refine Eq.trans ?_ (Cert.SecondIdeal.Val.final m c (hs c)).symm
  rw [e3, e4, e5, e6, e7]

/-- The kernel's quantisation of the gathered sums and the reference leave the same results, where the sums are finite. -/
theorem quantise_algebraic : Cert.algebraic_QuantiseIdeal_QuantiseReferenceIdeal_pre_h_is_finite := by
  intro m g m' g' hpre hagree
  have hx : ∀ c : Dev Cert.QuantiseIdeal.nD, Cert.QuantiseIdeal.Val.Finite (m ((c.tc : Thread Cert.QuantiseIdeal.nD Cert.QuantiseIdeal.τ).loc Cert.QuantiseIdeal.main_arg3)) :=
    fun c => Cert.QuantiseReferenceIdeal.Val.finite _ _ _ _ (hpre c)
  refine ⟨fun c => (Cert.QuantiseIdeal.Gen.dats m 0 c).arrAt 4 Cert.QuantiseIdeal.cfg0.N, fun c => (Cert.QuantiseIdeal.Gen.dats m 0 c).arrAt 5 Cert.QuantiseIdeal.cfg0.N,
    Cert.QuantiseIdeal.Value.run_blocks m g, ?_⟩
  refine (θ_run _ _ _).mono (fun r h c => ?_) (Cert.QuantiseReferenceIdeal.Value.run_blocks m' g')
  obtain ⟨-, -, -, e3⟩ := hagree c
  obtain ⟨h1, h2, hk⟩ := h c
  refine ⟨h1.trans ((Cert.QuantiseReferenceIdeal.Val.final1 m' c).trans (Eq.trans ?_ (Cert.QuantiseIdeal.Val.final4 m c (hx c)).symm)),
    h2.trans ((Cert.QuantiseReferenceIdeal.Val.final2 m' c).trans (Eq.trans ?_ (Cert.QuantiseIdeal.Val.final5 m c (hx c)).symm)), hk⟩
  · rw [e3]
  · rw [e3]

/-- The kernel's loop over the neighbours leaves the reference's result, codes and scales, where the gathered sums are finite and no scale of the second weight is below zero. -/
theorem edges_algebraic : Cert.algebraic_EdgesIdeal_EdgesReferenceIdeal_pre_sums_and_scale := by
  intro m g m' g' hpre hagree
  have hx : ∀ c : Dev Cert.EdgesIdeal.nD, Cert.EdgesIdeal.Val.Finite (m ((c.tc : Thread Cert.EdgesIdeal.nD Cert.EdgesIdeal.τ).loc Cert.EdgesIdeal.main_arg6)) :=
    fun c => Cert.EdgesReferenceIdeal.Val.finite _ _ _ _ _ _ _ (hpre c).1
  have hs : ∀ (c : Dev Cert.EdgesIdeal.nD) (i), (0 : EReal) ≤ Cert.EdgesIdeal.Val.sArg m c i :=
    fun c => Cert.EdgesReferenceIdeal.Val.nonneg _ _ _ _ _ _ _ (hpre c).2
  refine ⟨fun c => (Cert.EdgesIdeal.Gen.dats m 0 c).arrAt 8 Cert.EdgesIdeal.cfg0.N, fun c => (Cert.EdgesIdeal.Gen.dats m 0 c).arrAt 9 Cert.EdgesIdeal.cfg0.N,
    fun c => (Cert.EdgesIdeal.Gen.dats m 0 c).arrAt 10 Cert.EdgesIdeal.cfg0.N, Cert.EdgesIdeal.Value.run_blocks m g, ?_⟩
  refine (θ_run _ _ _).mono (fun r h c => ?_) (Cert.EdgesReferenceIdeal.Value.run m' g')
  obtain ⟨-, -, -, e3, e4, e5, e6⟩ := hagree c
  obtain ⟨h1, h2, h3, hk⟩ := h c
  refine ⟨h1.trans (Eq.trans ?_ (Cert.EdgesIdeal.Val.final8 m c (hx c) (hs c)).symm), h2.trans (Eq.trans ?_ (Cert.EdgesIdeal.Val.final9 m c (hx c)).symm),
    h3.trans (Eq.trans ?_ (Cert.EdgesIdeal.Val.final10 m c (hx c)).symm), hk⟩
  · rw [e3, e4, e5, e6]
    exact Cert.EdgesReferenceIdeal.Val.result_eq _ _ _ _ (hs c)
  · rw [e3, e4, e5, e6]
    exact Cert.EdgesReferenceIdeal.Val.codes_eq _
  · rw [e3, e4, e5, e6]
    exact Cert.EdgesReferenceIdeal.Val.scales_eq _

/-- Every claim of the certificate. -/
theorem claim : Cert.Claim := by
  refine ⟨Cert.Kernel.Gen.facts, Cert.KernelIdeal.Gen.facts, Cert.ReferenceIdeal.Gen.facts, Cert.Second.Gen.facts, Cert.SecondIdeal.Gen.facts, Cert.SecondReferenceIdeal.Gen.facts, Cert.Quantise.Gen.facts, Cert.QuantiseIdeal.Gen.facts, Cert.QuantiseReferenceIdeal.Gen.facts,
    Cert.Edges.Gen.facts, Cert.EdgesIdeal.Gen.facts, Cert.EdgesReferenceIdeal.Gen.facts,
    Cert.Pre_x_is_finite.Gen.facts, Cert.Pre_s_second_is_not_negative.Gen.facts, Cert.Pre_h_is_finite.Gen.facts, Cert.Pre_sums_and_scale.Gen.facts,
    ?_, ?_, ?_, ?_, ?_, ?_, ?_, ?_, ?_, ?_, ?_, ?_, ?_, ?_, ?_, ?_, ?_, ?_, ?_, ?_, ?_, points_algebraic, ?_, second_algebraic, ?_, quantise_algebraic, ?_, edges_algebraic⟩
  · intro m g _
    exact Cert.Kernel.Gen.frame m g
  · intro m g _
    exact Cert.KernelIdeal.Gen.frame m g
  · intro m g _
    exact Cert.KernelIdeal.Gen.frame m g
  · intro m g _
    exact Cert.ReferenceIdeal.Gen.frame m g
  · intro m g _
    exact Cert.ReferenceIdeal.Gen.frame m g
  · intro m g _
    exact Cert.Second.Gen.frame m g
  · intro m g _
    exact Cert.SecondIdeal.Gen.frame m g
  · intro m g _
    exact Cert.SecondIdeal.Gen.frame m g
  · intro m g _
    exact Cert.SecondReferenceIdeal.Gen.frame m g
  · intro m g _
    exact Cert.SecondReferenceIdeal.Gen.frame m g
  · intro m g _
    exact Cert.Quantise.Gen.frame m g
  · intro m g _
    exact Cert.QuantiseIdeal.Gen.frame m g
  · intro m g _
    exact Cert.QuantiseIdeal.Gen.frame m g
  · intro m g _
    exact Cert.QuantiseReferenceIdeal.Gen.frame m g
  · intro m g _
    exact Cert.QuantiseReferenceIdeal.Gen.frame m g
  · intro m g _
    exact Cert.Edges.Gen.frame m g
  · intro m g _
    exact Cert.EdgesIdeal.Gen.frame m g
  · intro m g _
    exact Cert.EdgesIdeal.Gen.frame m g
  · intro m g _
    exact Cert.EdgesReferenceIdeal.Gen.frame m g
  · intro m g _
    exact Cert.EdgesReferenceIdeal.Gen.frame m g
  · trivial
  · trivial
  · trivial
  · trivial

end Cert.Proof
end
end
